-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "erf_slope" .f32 0x3ECC422A#32 (((9465531 / 16777216) * (Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v105) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_v84) = v1 c
          ∧ r.2.mem ((c.tc : Thread Cert.Reference2Ideal.nD Cert.Reference2Ideal.τ).loc Cert.Reference2Ideal.main_v86) = v2 c
          ∧ r.2.mem ((c.tc : Thread Cert.Reference2Ideal.nD Cert.Reference2Ideal.τ).loc Cert.Reference2Ideal.main_v87) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v33_0)) (v1 : (c : Dev Cert.Kernel3Ideal.nD) → Buf (Elt Ideal) ((c.tc : Thread Cert.Kernel3Ideal.nD Cert.Kernel3Ideal.τ).loc Cert.Kernel3Ideal.main_v33_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33_0) = v0 c
          ∧ r.2.mem ((c.tc : Thread Cert.Kernel3Ideal.nD Cert.Kernel3Ideal.τ).loc Cert.Kernel3Ideal.main_v33_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_v61) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v33) = v1 c
          ∧ r.2.mem ((c.tc : Thread Cert.Reference4Ideal.nD Cert.Reference4Ideal.τ).loc Cert.Reference4Ideal.main_v34) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "inv_sqrt2" .f32 0x3F3504F3#32 (((Real.sqrt 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v35) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v6_0)) (v1 : (c : Dev Cert.Kernel12Ideal.nD) → Buf (Elt Ideal) ((c.tc : Thread Cert.Kernel12Ideal.nD Cert.Kernel12Ideal.τ).loc Cert.Kernel12Ideal.main_v6_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6_0) = v0 c
          ∧ r.2.mem ((c.tc : Thread Cert.Kernel12Ideal.nD Cert.Kernel12Ideal.τ).loc Cert.Kernel12Ideal.main_v6_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v17) = v0 c
          ∧ r.2.mem ((c.tc : Thread Cert.Reference12Ideal.nD Cert.Reference12Ideal.τ).loc Cert.Reference12Ideal.main_v31) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v6)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v10_0)) (v1 : (c : Dev Cert.Kernel14Ideal.nD) → Buf (Elt Ideal) ((c.tc : Thread Cert.Kernel14Ideal.nD Cert.Kernel14Ideal.τ).loc Cert.Kernel14Ideal.main_v10_1)) (v2 : (c : Dev Cert.Kernel14Ideal.nD) → Buf (Elt Ideal) ((c.tc : Thread Cert.Kernel14Ideal.nD Cert.Kernel14Ideal.τ).loc Cert.Kernel14Ideal.main_v10_2)) (v3 : (c : Dev Cert.Kernel14Ideal.nD) → Buf (Elt Ideal) ((c.tc : Thread Cert.Kernel14Ideal.nD Cert.Kernel14Ideal.τ).loc Cert.Kernel14Ideal.main_v10_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v10_0) = v0 c
          ∧ r.2.mem ((c.tc : Thread Cert.Kernel14Ideal.nD Cert.Kernel14Ideal.τ).loc Cert.Kernel14Ideal.main_v10_1) = v1 c
          ∧ r.2.mem ((c.tc : Thread Cert.Kernel14Ideal.nD Cert.Kernel14Ideal.τ).loc Cert.Kernel14Ideal.main_v10_2) = v2 c
          ∧ r.2.mem ((c.tc : Thread Cert.Kernel14Ideal.nD Cert.Kernel14Ideal.τ).loc Cert.Kernel14Ideal.main_v10_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v15) = v0 c
          ∧ r.2.mem ((c.tc : Thread Cert.Reference14Ideal.nD Cert.Reference14Ideal.τ).loc Cert.Reference14Ideal.main_v29) = v1 c
          ∧ r.2.mem ((c.tc : Thread Cert.Reference14Ideal.nD Cert.Reference14Ideal.τ).loc Cert.Reference14Ideal.main_v47) = v2 c
          ∧ r.2.mem ((c.tc : Thread Cert.Reference14Ideal.nD Cert.Reference14Ideal.τ).loc Cert.Reference14Ideal.main_v61) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v6_0)) (v1 : (c : Dev Cert.Kernel15Ideal.nD) → Buf (Elt Ideal) ((c.tc : Thread Cert.Kernel15Ideal.nD Cert.Kernel15Ideal.τ).loc Cert.Kernel15Ideal.main_v6_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v6_0) = v0 c
          ∧ r.2.mem ((c.tc : Thread Cert.Kernel15Ideal.nD Cert.Kernel15Ideal.τ).loc Cert.Kernel15Ideal.main_v6_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v10) = v0 c
          ∧ r.2.mem ((c.tc : Thread Cert.Reference15Ideal.nD Cert.Reference15Ideal.τ).loc Cert.Reference15Ideal.main_v12) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v11) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v9) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v7_0)) (v1 : (c : Dev Cert.Kernel18Ideal.nD) → Buf (Elt Ideal) ((c.tc : Thread Cert.Kernel18Ideal.nD Cert.Kernel18Ideal.τ).loc Cert.Kernel18Ideal.main_v7_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v7_0) = v0 c
          ∧ r.2.mem ((c.tc : Thread Cert.Kernel18Ideal.nD Cert.Kernel18Ideal.τ).loc Cert.Kernel18Ideal.main_v7_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v46) = v0 c
          ∧ r.2.mem ((c.tc : Thread Cert.Reference18Ideal.nD Cert.Reference18Ideal.τ).loc Cert.Reference18Ideal.main_v47) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)) →
    ∃ (v0 : (c : Dev Cert.Kernel19Ideal.nD) → Buf (Elt Ideal) ((c.tc : Thread Cert.Kernel19Ideal.nD Cert.Kernel19Ideal.τ).loc Cert.Kernel19Ideal.main_v11_0)) (v1 : (c : Dev Cert.Kernel19Ideal.nD) → Buf (Elt Ideal) ((c.tc : Thread Cert.Kernel19Ideal.nD Cert.Kernel19Ideal.τ).loc Cert.Kernel19Ideal.main_v11_1)) (v2 : (c : Dev Cert.Kernel19Ideal.nD) → Buf (Elt Ideal) ((c.tc : Thread Cert.Kernel19Ideal.nD Cert.Kernel19Ideal.τ).loc Cert.Kernel19Ideal.main_v11_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v11_0) = v0 c
          ∧ r.2.mem ((c.tc : Thread Cert.Kernel19Ideal.nD Cert.Kernel19Ideal.τ).loc Cert.Kernel19Ideal.main_v11_1) = v1 c
          ∧ r.2.mem ((c.tc : Thread Cert.Kernel19Ideal.nD Cert.Kernel19Ideal.τ).loc Cert.Kernel19Ideal.main_v11_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v82) = v0 c
          ∧ r.2.mem ((c.tc : Thread Cert.Reference19Ideal.nD Cert.Reference19Ideal.τ).loc Cert.Reference19Ideal.main_v83) = v1 c
          ∧ r.2.mem ((c.tc : Thread Cert.Reference19Ideal.nD Cert.Reference19Ideal.τ).loc Cert.Reference19Ideal.main_v84) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite2 : Cert.Pre_finite2.Facts) (hPre_finite5 : Cert.Pre_finite5.Facts) (hPre_finite18 : Cert.Pre_finite18.Facts) (hPre_finite19 : Cert.Pre_finite19.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ algebraic_Kernel19Ideal_Reference19Ideal_pre_finite19 (hKernel19Ideal := hKernel19Ideal) (hReference19Ideal := hReference19Ideal) (hPre_finite19 := hPre_finite19)
-- ==== Pre_finite.lean ====
abbrev S4096x4096 : Shape := ⟨2, ![4096, 4096]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S2048 : S_.BroadcastsInDim S2048 (![] : Fin 0 → Fin S2048.rank)
  reducesTo_S2048_S_d0 : S2048.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S4096x2048 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x4096 .f32) (main_arg1 : FVec F S2048 .f32) (main_arg2 : FVec F S8x128x128 .f32) (main_arg3 : FVec F S8x128 .f32) (main_arg4 : FVec F S4096x2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S8x128x128 .f32 := Host.absf main_arg2
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg4 main_v13 main_v16
-- ==== Pre_finite18.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024 .f32) (main_arg2 : FVec F S1024x1024 .f32) (main_arg3 : FVec F S4096x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_finite19.lean ====
abbrev S4096x1024 : Shape := ⟨2, ![4096, 1024]⟩
abbrev S1024 : Shape := ⟨1, ![1024]⟩
abbrev S1024x1024 : Shape := ⟨2, ![1024, 1024]⟩
abbrev S1024x256 : Shape := ⟨2, ![1024, 256]⟩
abbrev S4096x512 : Shape := ⟨2, ![4096, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part2 {F : FTy → Type} [FloatOps F] (main_arg7 : FVec F S4096x512 .f32) (main_arg8 : FVec F S4096x512 .f32) (main_arg9 : FVec F S4096x1024 .f32) (main_v33 : IVec S_ 1) : IVec S_ 1 :=
  let main_v34 : FVec F S4096x512 .f32 := Host.absf main_arg7
  let main_cst_12 : FVec F S_ .f32 := constant S_ .f32 0x7F800000#32
  let main_v35 : FVec F S4096x512 .f32 := broadcastInDim S4096x512 ![] bcast_S_S4096x512 main_cst_12
  let main_v36 : IVec S4096x512 1 := cmpf .olt main_v34 main_v35
  let main_c_13 : IVec S_ 1 := constantI S_ 1 1#1
  let main_v37 : IVec S_ 1 := (fun x v => Host.reduce IntOp.andi x v reducesTo_S4096x512_S_d0_1 h_S_) main_v36 main_c_13
  let main_v38 : IVec S_ 1 := andi main_v33 main_v37
  let main_v39 : FVec F S4096x512 .f32 := Host.absf main_arg8
  let main_cst_14 : FVec F S_ .f32 := constant S_ .f32 0x7F800000#32
  let main_v40 : FVec F S4096x512 .f32 := broadcastInDim S4096x512 ![] bcast_S_S4096x512 main_cst_14
  let main_v41 : IVec S4096x512 1 := cmpf .olt main_v39 main_v40
  let main_c_15 : IVec S_ 1 := constantI S_ 1 1#1
  let main_v42 : IVec S_ 1 := (fun x v => Host.reduce IntOp.andi x v reducesTo_S4096x512_S_d0_1 h_S_) main_v41 main_c_15
  let main_v43 : IVec S_ 1 := andi main_v38 main_v42
  let main_v44 : FVec F S4096x1024 .f32 := Host.absf main_arg9
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  main_v48

def fn_part1 {F : FTy → Type} [FloatOps F] (main_arg4 : FVec F S1024x256 .f32) (main_arg5 : FVec F S1024x256 .f32) (main_arg6 : FVec F S4096x1024 .f32) (main_arg7 : FVec F S4096x512 .f32) (main_arg8 : FVec F S4096x512 .f32) (main_arg9 : FVec F S4096x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S1024 .f32) (main_arg2 : FVec F S1024 .f32) (main_arg3 : FVec F S1024x1024 .f32) (main_arg4 : FVec F S1024x256 .f32) (main_arg5 : FVec F S1024x256 .f32) (main_arg6 : FVec F S4096x1024 .f32) (main_arg7 : FVec F S4096x512 .f32) (main_arg8 : FVec F S4096x512 .f32) (main_arg9 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Pre_finite2.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024 .f32) (main_arg2 : FVec F S1024x4096 .f32) (main_arg3 : FVec F S4096x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_finite5.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x1024 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024 .f32) (main_arg2 : FVec F S1024x4096 .f32) (main_arg3 : FVec F S4096x4096 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S4096x4096 : Shape := ⟨2, ![4096, 4096]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S1x2048 : Shape := ⟨2, ![1, 2048]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩
abbrev S128x256 : Shape := ⟨2, ![128, 256]⟩
abbrev S128x1 : Shape := ⟨2, ![128, 1]⟩
abbrev S128 : Shape := ⟨1, ![128]⟩

abbrev nBuf : Space → Nat
  | .hbm => 47
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S2048, .f32⟩
  | .hbm, ⟨2, _⟩ => ⟨S8x128x128, .f32⟩
  | .hbm, ⟨3, _⟩ => ⟨S8x128, .f32⟩
  | .hbm, ⟨4, _⟩ => ⟨S4096x2048, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x128x128, .bf16⟩
  | .hbm, ⟨23, _⟩ => ⟨S8x128x128, .f32⟩
  | .hbm, ⟨24, _⟩ => ⟨S8x128x128, .bf16⟩
  | .hbm, ⟨25, _⟩ => ⟨S128x8, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .bf16⟩
  | .hbm, ⟨40, _⟩ => ⟨S4096x4096, .bf16⟩
  | .hbm, ⟨41, _⟩ => ⟨S4096x2048, .bf16⟩
  | .hbm, ⟨42, _⟩ => ⟨S1x2048, .f32⟩
  | .hbm, ⟨43, _⟩ => ⟨S4096x4096, .bf16⟩
  | .hbm, ⟨44, _⟩ => ⟨S8x128x128, .f32⟩
  | .hbm, ⟨45, _⟩ => ⟨S128x8, .f32⟩
  | .hbm, ⟨46, _⟩ => ⟨S1x2048, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S8x128x128, .bf16⟩
  | .local _ .vmem, ⟨8, _⟩ => ⟨S8x128x128, .bf16⟩
  | .local _ .vmem, ⟨9, _⟩ => ⟨S128x8, .f32⟩
  | .local _ .vmem, ⟨10, _⟩ => ⟨S512x4096, .bf16⟩
  | .local _ .vmem, ⟨11, _⟩ => ⟨S512x4096, .bf16⟩
  | .local _ .vmem, ⟨12, _⟩ => ⟨S8x128x128, .f32⟩
  | .local _ .vmem, ⟨13, _⟩ => ⟨S128x8, .f32⟩
  | .local _ .vmem, ⟨14, _⟩ => ⟨S1x2048, .f32⟩
  | .local _ .vmem, ⟨15, _⟩ => ⟨S512x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22_0 : Ref sig .tc := ⟨.hbm, 43, rfl⟩
abbrev main_v22_1 : Ref sig .tc := ⟨.hbm, 44, rfl⟩
abbrev main_v22_2 : Ref sig .tc := ⟨.hbm, 45, rfl⟩
abbrev main_v22_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "erf_slope" => some (((9465531 / 16777216) * (Real.sqrt 2)⁻¹ : ℝ) : EReal)
  | "inv_sqrt2" => some (((Real.sqrt 2)⁻¹ : ℝ) : EReal)
  | _ => none
-- ==== ReferenceIdeal.lean ====
abbrev S4096x4096 : Shape := ⟨2, ![4096, 4096]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S32x128x8x256 : Shape := ⟨4, ![32, 128, 8, 256]⟩
abbrev S128x128 : Shape := ⟨2, ![128, 128]⟩
abbrev S1x128x128 : Shape := ⟨3, ![1, 128, 128]⟩
abbrev S8x32x256x128 : Shape := ⟨4, ![8, 32, 256, 128]⟩
abbrev S128x8 : Shape := ⟨2, ![128, 8]⟩
abbrev S1x128x8x1 : Shape := ⟨4, ![1, 128, 8, 1]⟩

abbrev nBuf : Space → Nat
  | .hbm => 147
  | .vmem => 0
  | .smem => 0
  | _ => 0

abbrev hbmTy0_0 (i : Nat) : BufTy := match i % 128 with
  | 0 => ⟨S4096x4096, .f32⟩
  | 1 => ⟨S2048, .f32⟩
  | 2 => ⟨S8x128x128, .f32⟩
  | 3 => ⟨S8x128, .f32⟩
  | 4 => ⟨S4096x2048, .f32⟩
  | 5 => ⟨S_, .f32⟩
  | 6 => ⟨S4096x4096, .f32⟩
  | 7 => ⟨S4096x4096, .f32⟩
  | 8 => ⟨S_, .f32⟩
  | 9 => ⟨S_, .f32⟩
  | 10 => ⟨S_, .f32⟩
  | 11 => ⟨S4096x4096, .f32⟩
  | 12 => ⟨S4096x4096, .f32⟩
  | 13 => ⟨S4096x4096, .f32⟩
  | 14 => ⟨S4096x4096, .f32⟩
  | 15 => ⟨S4096x4096, .f32⟩
  | 16 => ⟨S4096x4096, .f32⟩
  | 17 => ⟨S_, .f32⟩
  | 18 => ⟨S4096x4096, .f32⟩
  | 19 => ⟨S4096x4096, .f32⟩
  | 20 => ⟨S4096x4096, .f32⟩
  | 21 => ⟨S4096x2048, .f32⟩
  | 22 => ⟨S4096x2048, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S4096x2048, .f32⟩
  | 30 => ⟨S4096x2048, .f32⟩
  | 31 => ⟨S4096x2048, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x2048, .f32⟩
  | 47 => ⟨S4096x2048, .f32⟩
  | 48 => ⟨S1x2048, .f32⟩
  | 49 => ⟨S4096x2048, .f32⟩
  | 50 => ⟨S4096x2048, .f32⟩
  | 51 => ⟨S32x128x8x256, .f32⟩
  | 52 => ⟨S_, .i1⟩
  | 53 => ⟨S128x128, .i1⟩
  | 54 => ⟨S128x128, .i32⟩
  | 55 => ⟨S_, .i32⟩
  | 56 => ⟨S128x128, .i32⟩
  | 57 => ⟨S128x128, .i32⟩
  | 58 => ⟨S128x128, .i32⟩
  | 59 => ⟨S128x128, .i1⟩
  | 60 => ⟨S_, .i1⟩
  | 61 => ⟨S128x128, .i1⟩
  | 62 => ⟨S128x128, .i1⟩
  | 63 => ⟨S1x128x128, .i1⟩
  | 64 => ⟨S_, .f32⟩
  | 65 => ⟨S8x128x128, .f32⟩
  | 66 => ⟨S8x128x128, .i1⟩
  | 67 => ⟨S8x128x128, .f32⟩
  | 68 => ⟨S_, .f32⟩
  | 69 => ⟨S8x128x128, .f32⟩
  | 70 => ⟨S8x32x256x128, .f32⟩
  | 71 => ⟨S32x128x8x256, .f32⟩
  | 72 => ⟨S128x8, .f32⟩
  | 73 => ⟨S1x128x8x1, .f32⟩
  | 74 => ⟨S32x128x8x256, .f32⟩
  | 75 => ⟨S32x128x8x256, .f32⟩
  | 76 => ⟨S4096x2048, .f32⟩
  | 77 => ⟨S4096x2048, .f32⟩
  | 78 => ⟨S4096x2048, .f32⟩
  | 79 => ⟨S4096x2048, .f32⟩
  | 80 => ⟨S32x128x8x256, .f32⟩
  | 81 => ⟨S_, .f32⟩
  | 82 => ⟨S128x8, .f32⟩
  | 83 => ⟨S1x128x8x1, .f32⟩
  | 84 => ⟨S_, .f32⟩
  | 85 => ⟨S128x8, .f32⟩
  | 86 => ⟨S8x128, .f32⟩
  | 87 => ⟨S8x32x256x128, .f32⟩
  | 88 => ⟨S8x128x128, .f32⟩
  | 89 => ⟨S8x32x256x128, .f32⟩
  | 90 => ⟨S32x128x8x256, .f32⟩
  | 91 => ⟨S_, .f32⟩
  | 92 => ⟨S8x128x128, .f32⟩
  | 93 => ⟨S8x128x128, .f32⟩
  | 94 => ⟨S4096x2048, .f32⟩
  | 95 => ⟨S4096x2048, .f32⟩
  | 96 => ⟨S_, .f32⟩
  | 97 => ⟨S2048, .f32⟩
  | 98 => ⟨S1x2048, .f32⟩
  | 99 => ⟨S4096x2048, .f32⟩
  | 100 => ⟨S4096x2048, .f32⟩
  | 101 => ⟨S_, .f32⟩
  | 102 => ⟨S2048, .f32⟩
  | 103 => ⟨S4096x2048, .f32⟩
  | 104 => ⟨S_, .f32⟩
  | 105 => ⟨S4096, .f32⟩
  | 106 => ⟨S4096x1, .f32⟩
  | 107 => ⟨S4096x2048, .f32⟩
  | 108 => ⟨S4096x2048, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x2048, .f32⟩
  | 116 => ⟨S4096x2048, .f32⟩
  | 117 => ⟨S4096x2048, .f32⟩
  | 118 => ⟨S4096x2048, .f32⟩
  | 119 => ⟨S4096x2048, .f32⟩
  | 120 => ⟨S4096x2048, .f32⟩
  | 121 => ⟨S_, .f32⟩
  | 122 => ⟨S4096, .f32⟩
  | 123 => ⟨S4096x1, .f32⟩
  | 124 => ⟨S_, .f32⟩
  | 125 => ⟨S4096x1, .f32⟩
  | 126 => ⟨S4096x1, .f32⟩
  | 127 => ⟨S_, .f32⟩
  | _ => ⟨S4096x4096, .f32⟩

abbrev hbmTy0_1 (i : Nat) : BufTy := match i % 128 with
  | 0 => ⟨S4096, .f32⟩
  | 1 => ⟨S4096x2048, .f32⟩
  | 2 => ⟨S4096x2048, .f32⟩
  | 3 => ⟨S4096x4096, .f32⟩
  | 4 => ⟨S4096x4096, .f32⟩
  | 5 => ⟨S4096x4096, .f32⟩
  | 6 => ⟨S_, .f32⟩
  | 7 => ⟨S4096x4096, .f32⟩
  | 8 => ⟨S4096x4096, .f32⟩
  | 9 => ⟨S4096x4096, .f32⟩
  | 10 => ⟨S4096x4096, .f32⟩
  | 11 => ⟨S4096x4096, .f32⟩
  | 12 => ⟨S_, .f32⟩
  | 13 => ⟨S4096x4096, .f32⟩
  | 14 => ⟨S4096x4096, .f32⟩
  | 15 => ⟨S4096x4096, .f32⟩
  | 16 => ⟨S4096x4096, .bf16⟩
  | 17 => ⟨S128x8, .f32⟩
  | 18 => ⟨S1x2048, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c : Ref sig .tc := ⟨.hbm, 52, rfl⟩
abbrev main_v38 : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_c_0 : Ref sig .tc := ⟨.hbm, 60, rfl⟩
abbrev main_call0_v5 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42_1 : Ref sig .tc := ⟨.hbm, 66, rfl⟩
abbrev main_v42_0 : Ref sig .tc := ⟨.hbm, 67, rfl⟩
abbrev main_call1_cst : Ref sig .tc := ⟨.hbm, 68, rfl⟩
abbrev main_v42_2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_call2_cst : Ref sig .tc := ⟨.hbm, 91, rfl⟩
abbrev main_call2_v0 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_16 : Ref sig .tc := ⟨.hbm, 121, rfl⟩
abbrev main_v85 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_v88 : Ref sig .tc := ⟨.hbm, 126, rfl⟩
abbrev main_cst_18 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_19 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_20 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x1x512x1024 : Shape := ⟨4, ![8, 1, 512, 1024]⟩
abbrev S8x512x1024 : Shape := ⟨3, ![8, 512, 1024]⟩
abbrev S512x1024 : Shape := ⟨2, ![512, 1024]⟩
abbrev S512x4096 : Shape := ⟨2, ![512, 4096]⟩
abbrev S1x512x1024 : Shape := ⟨3, ![1, 512, 1024]⟩
abbrev S512x512 : Shape := ⟨2, ![512, 512]⟩
abbrev S512 : Shape := ⟨1, ![512]⟩
abbrev S512x1 : Shape := ⟨2, ![512, 1]⟩

abbrev nBuf : Space → Nat
  | .hbm => 36
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S4096x1024, .f32⟩
  | .hbm, ⟨27, _⟩ => ⟨S4096x1024, .bf16⟩
  | .hbm, ⟨28, _⟩ => ⟨S8x1x512x1024, .bf16⟩
  | .hbm, ⟨29, _⟩ => ⟨S4096x1024, .bf16⟩
  | .hbm, ⟨30, _⟩ => ⟨S8x512x1024, .bf16⟩
  | .hbm, ⟨31, _⟩ => ⟨S1x1024, .f32⟩
  | .hbm, ⟨32, _⟩ => ⟨S4096x4096, .bf16⟩
  | .hbm, ⟨33, _⟩ => ⟨S4096x1024, .f32⟩
  | .hbm, ⟨34, _⟩ => ⟨S1x1024, .f32⟩
  | .hbm, ⟨35, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S8x1x512x1024, .bf16⟩
  | .local _ .vmem, ⟨5, _⟩ => ⟨S8x512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v127 : BitVec 1 := Scalar.cmpi .eq arg0 c0_i32
  let v128 : BitVec 32 := Scalar.extui v127
  let c0_i32_79 : BitVec 32 := 0#32
  let v129 : BitVec 1 := Scalar.cmpi .ne v128 c0_i32_79
  v129

def k0_cond2 (i : grid0.Coords) : BitVec 1 :=
  let arg0 : BitVec 32 := BitVec.ofNat 32 (i 0).val
  let c0_i32_80 : BitVec 32 := 0#32
  let v130 : BitVec 1 := Scalar.cmpi .sgt arg0 c0_i32_80
  let v131 : BitVec 32 := Scalar.extui v130
  let c0_i32_81 : BitVec 32 := 0#32
  let v132 : BitVec 1 := Scalar.cmpi .ne v131 c0_i32_81
  v132

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 117
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .i1⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S1024x4096, .f32⟩
  | .hbm, ⟨36, _⟩ => ⟨S4096x1024, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096x4096, .f32⟩
  | .hbm, ⟨68, _⟩ => ⟨S4096x4096, .i1⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S_, .f32⟩
  | .hbm, ⟨73, _⟩ => ⟨S4096x4096, .f32⟩
  | .hbm, ⟨74, _⟩ => ⟨S4096x4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1024x4096, .f32⟩
  | .hbm, ⟨79, _⟩ => ⟨S4096x1024, .f32⟩
  | .hbm, ⟨80, _⟩ => ⟨S4096x4096, .f32⟩
  | .hbm, ⟨81, _⟩ => ⟨S4096x4096, .f32⟩
  | .hbm, ⟨82, _⟩ => ⟨S_, .f32⟩
  | .hbm, ⟨83, _⟩ => ⟨S4096x4096, .f32⟩
  | .hbm, ⟨84, _⟩ => ⟨S4096x4096, .f32⟩
  | .hbm, ⟨85, _⟩ => ⟨S4096x1024, .f32⟩
  | .hbm, ⟨86, _⟩ => ⟨S1024x4096, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S1024, .f32⟩
  | .hbm, ⟨96, _⟩ => ⟨S4096x1024, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x4096, .bf16⟩
  | .hbm, ⟨115, _⟩ => ⟨S1x1024, .f32⟩
  | .hbm, ⟨116, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call1_cst : Ref sig .tc := ⟨.hbm, 63, rfl⟩
abbrev main_call1_v0 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_cst_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x1024x512 : Shape := ⟨3, ![8, 1024, 512]⟩
abbrev S8x512x1024 : Shape := ⟨3, ![8, 512, 1024]⟩
abbrev S4096x512 : Shape := ⟨2, ![4096, 512]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 51
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .i1⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S1024x4096, .f32⟩
  | .hbm, ⟨36, _⟩ => ⟨S4096x1024, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x1024, .bf16⟩
  | .hbm, ⟨43, _⟩ => ⟨S4096x4096, .bf16⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .bf16⟩
  | .hbm, ⟨48, _⟩ => ⟨S4096x1024, .bf16⟩
  | .hbm, ⟨49, _⟩ => ⟨S8x1024x512, .bf16⟩
  | .hbm, ⟨50, _⟩ => ⟨S8x512x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x1024, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call1_cst : Ref sig .tc := ⟨.hbm, 44, rfl⟩
abbrev main_call1_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33_0 : Ref sig .tc := ⟨.hbm, 49, rfl⟩
abbrev main_v33_1 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1024x8x512 : Shape := ⟨3, ![1024, 8, 512]⟩
abbrev S8x1024x512 : Shape := ⟨3, ![8, 1024, 512]⟩
abbrev S8x512x1024 : Shape := ⟨3, ![8, 512, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1024x4096, .f32⟩
  | .hbm, ⟨42, _⟩ => ⟨S4096x1024, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x1024, .f32⟩
  | .hbm, ⟨49, _⟩ => ⟨S1024x4096, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S1024x8x512, .f32⟩
  | .hbm, ⟨78, _⟩ => ⟨S8x1024x512, .f32⟩
  | .hbm, ⟨79, _⟩ => ⟨S8x1024x512, .bf16⟩
  | .hbm, ⟨80, _⟩ => ⟨S8x512x1024, .f32⟩
  | .hbm, ⟨81, _⟩ => ⟨S8x512x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x4096 : Shape := ⟨2, ![1024, 4096]⟩
abbrev S8x1x512x1024 : Shape := ⟨4, ![8, 1, 512, 1024]⟩
abbrev S8x512x1024 : Shape := ⟨3, ![8, 512, 1024]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1x512x1024 : Shape := ⟨4, ![1, 1, 512, 1024]⟩
abbrev S512x512 : Shape := ⟨2, ![512, 512]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S8x1x512x1024, .bf16⟩
  | .hbm, ⟨7, _⟩ => ⟨S4096x1024, .bf16⟩
  | .hbm, ⟨8, _⟩ => ⟨S8x512x1024, .bf16⟩
  | .hbm, ⟨9, _⟩ => ⟨S1x1024, .f32⟩
  | .hbm, ⟨10, _⟩ => ⟨S4096x4096, .bf16⟩
  | .hbm, ⟨11, _⟩ => ⟨S4096x1024, .f32⟩
  | .hbm, ⟨12, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1x512x1024, .bf16⟩
  | .local _ .vmem, ⟨4, _⟩ => ⟨S8x512x1024, .bf16⟩
  | .local _ .vmem, ⟨5, _⟩ => ⟨S512x4096, .bf16⟩
  | .local _ .vmem, ⟨6, _⟩ => ⟨S512x4096, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x1024, .f32⟩
  | .hbm, ⟨47, _⟩ => ⟨S4096x1024, .f32⟩
  | .hbm, ⟨48, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_cst : Ref sig .tc := ⟨.hbm, 42, rfl⟩
abbrev main_call1_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S8x1x512x1024 : Shape := ⟨4, ![8, 1, 512, 1024]⟩
abbrev S1x1024 : Shape := ⟨2, ![1, 1024]⟩
abbrev S512x4096 : Shape := ⟨2, ![512, 4096]⟩
abbrev S512x1024 : Shape := ⟨2, ![512, 1024]⟩
abbrev S8x512x1024 : Shape := ⟨3, ![8, 512, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S8x1x512x1024, .bf16⟩
  | .hbm, ⟨8, _⟩ => ⟨S4096x4096, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1x512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_19 : BitVec 32 := 0#32
  let v39 : BitVec 1 := Scalar.cmpi .ne v38 c0_i32_19
  v39

def k0_cond2 (i : grid0.Coords) : BitVec 1 :=
  let arg0 : BitVec 32 := BitVec.ofNat 32 (i 0).val
  let c0_i32_20 : BitVec 32 := 0#32
  let v40 : BitVec 1 := Scalar.cmpi .sgt arg0 c0_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8x1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference5Ideal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S1024x4096, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 23
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x4096, .bf16⟩
  | .hbm, ⟨22, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8x512 : Shape := ⟨3, ![1024, 8, 512]⟩
abbrev S8x1024x512 : Shape := ⟨3, ![8, 1024, 512]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S1024x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1024x8x512, .f32⟩
  | .hbm, ⟨57, _⟩ => ⟨S8x1024x512, .f32⟩
  | .hbm, ⟨58, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x4096 : Shape := ⟨2, ![1024, 4096]⟩
abbrev S8x1x512x1024 : Shape := ⟨4, ![8, 1, 512, 1024]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1x512x1024 : Shape := ⟨4, ![1, 1, 512, 1024]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .bf16⟩
  | .hbm, ⟨5, _⟩ => ⟨S8x1x512x1024, .bf16⟩
  | .hbm, ⟨6, _⟩ => ⟨S1x1024, .f32⟩
  | .hbm, ⟨7, _⟩ => ⟨S4096x4096, .bf16⟩
  | .hbm, ⟨8, _⟩ => ⟨S4096x4096, .bf16⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1x512x1024, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S512x4096, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel7Ideal.lean ====
variable {F : FTy → Type} [FloatOps F] [Named F]
def κ : String → Option EReal := fun
  | "inv_sqrt2" => some (((Real.sqrt 2)⁻¹ : ℝ) : EReal)
  | _ => none
-- ==== Reference7Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .bf16⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .bf16⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel8.lean ====
abbrev S4096x2048 : Shape := ⟨2, ![4096, 2048]⟩
abbrev S2048x1024 : Shape := ⟨2, ![2048, 1024]⟩
abbrev S4096x1024 : Shape := ⟨2, ![4096, 1024]⟩
abbrev S8x256x1024 : Shape := ⟨3, ![8, 256, 1024]⟩
abbrev S1024x2048 : Shape := ⟨2, ![1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x2048, .bf16⟩
  | .hbm, ⟨4, _⟩ => ⟨S2048x1024, .bf16⟩
  | .hbm, ⟨5, _⟩ => ⟨S8x256x1024, .bf16⟩
  | .hbm, ⟨6, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S8x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference8Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S4096x2048 : Shape := ⟨2, ![4096, 2048]⟩
abbrev S2048x1024 : Shape := ⟨2, ![2048, 1024]⟩
abbrev S4096x1024 : Shape := ⟨2, ![4096, 1024]⟩
abbrev S8x256x1024 : Shape := ⟨3, ![8, 256, 1024]⟩
abbrev S1024x1024 : Shape := ⟨2, ![1024, 1024]⟩
abbrev S1024x2048 : Shape := ⟨2, ![1024, 2048]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S2048x1024, .bf16⟩
  | .hbm, ⟨4, _⟩ => ⟨S8x256x1024, .bf16⟩
  | .hbm, ⟨5, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S8x256x1024, .bf16⟩
  | .local _ .vmem, ⟨3, _⟩ => ⟨S1024x2048, .bf16⟩
  | .local _ .vmem, ⟨4, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference9Ideal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S2048x1024, .f32⟩
  | .hbm, ⟨6, _⟩ => ⟨S4096x2048, .f32⟩
  | .hbm, ⟨7, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S2048x1024 : Shape := ⟨2, ![2048, 1024]⟩
abbrev S4096x1024 : Shape := ⟨2, ![4096, 1024]⟩
abbrev S8x256x1024 : Shape := ⟨3, ![8, 256, 1024]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x2048, .bf16⟩
  | .hbm, ⟨4, _⟩ => ⟨S8x256x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S8x256x1024, .bf16⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S8x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference10Ideal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S8x256x1024 : Shape := ⟨3, ![8, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S2048x1024, .f32⟩
  | .hbm, ⟨6, _⟩ => ⟨S4096x2048, .f32⟩
  | .hbm, ⟨7, _⟩ => ⟨S8x256x1024, .f32⟩
  | .hbm, ⟨8, _⟩ => ⟨S8x256x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x4096 : Shape := ⟨2, ![4096, 4096]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S1x2048 : Shape := ⟨2, ![1, 2048]⟩
abbrev S128x8 : Shape := ⟨2, ![128, 8]⟩
abbrev S4096x2048 : Shape := ⟨2, ![4096, 2048]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩
abbrev S128x256 : Shape := ⟨2, ![128, 256]⟩
abbrev S128x1 : Shape := ⟨2, ![128, 1]⟩

abbrev nBuf : Space → Nat
  | .hbm => 26
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S2048, .f32⟩
  | .hbm, ⟨2, _⟩ => ⟨S8x128x128, .f32⟩
  | .hbm, ⟨3, _⟩ => ⟨S8x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S1x128x128, .i1⟩
  | .hbm, ⟨16, _⟩ => ⟨S_, .f32⟩
  | .hbm, ⟨17, _⟩ => ⟨S_, .f32⟩
  | .hbm, ⟨18, _⟩ => ⟨S8x128x128, .i1⟩
  | .hbm, ⟨19, _⟩ => ⟨S8x128x128, .f32⟩
  | .hbm, ⟨20, _⟩ => ⟨S8x128x128, .f32⟩
  | .hbm, ⟨21, _⟩ => ⟨S8x128x128, .bf16⟩
  | .hbm, ⟨22, _⟩ => ⟨S4096x4096, .bf16⟩
  | .hbm, ⟨23, _⟩ => ⟨S1x2048, .f32⟩
  | .hbm, ⟨24, _⟩ => ⟨S128x8, .f32⟩
  | .hbm, ⟨25, _⟩ => ⟨S4096x2048, .bf16⟩
  | .local _ .vmem, ⟨0, _⟩ => ⟨S512x4096, .bf16⟩
  | .local _ .vmem, ⟨1, _⟩ => ⟨S512x4096, .bf16⟩
  | .local _ .vmem, ⟨2, _⟩ => ⟨S1x2048, .f32⟩
  | .local _ .vmem, ⟨3, _⟩ => ⟨S8x128x128, .bf16⟩
  | .local _ .vmem, ⟨4, _⟩ => ⟨S128x8, .f32⟩
  | .local _ .vmem, ⟨5, _⟩ => ⟨S512x2048, .bf16⟩
  | .local _ .vmem, ⟨6, _⟩ => ⟨S512x2048, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S4096x4096 : Shape := ⟨2, ![4096, 4096]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S32x128x8x256 : Shape := ⟨4, ![32, 128, 8, 256]⟩
abbrev S128x128 : Shape := ⟨2, ![128, 128]⟩
abbrev S1x128x128 : Shape := ⟨3, ![1, 128, 128]⟩
abbrev S8x32x256x128 : Shape := ⟨4, ![8, 32, 256, 128]⟩
abbrev S128x8 : Shape := ⟨2, ![128, 8]⟩
abbrev S1x128x8x1 : Shape := ⟨4, ![1, 128, 8, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S2048, .f32⟩
  | .hbm, ⟨2, _⟩ => ⟨S8x128x128, .f32⟩
  | .hbm, ⟨3, _⟩ => ⟨S8x128, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S32x128x8x256, .f32⟩
  | .hbm, ⟨31, _⟩ => ⟨S_, .i1⟩
  | .hbm, ⟨32, _⟩ => ⟨S128x128, .i1⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S_, .i1⟩
  | .hbm, ⟨40, _⟩ => ⟨S128x128, .i1⟩
  | .hbm, ⟨41, _⟩ => ⟨S128x128, .i1⟩
  | .hbm, ⟨42, _⟩ => ⟨S1x128x128, .i1⟩
  | .hbm, ⟨43, _⟩ => ⟨S_, .f32⟩
  | .hbm, ⟨44, _⟩ => ⟨S8x128x128, .f32⟩
  | .hbm, ⟨45, _⟩ => ⟨S8x128x128, .i1⟩
  | .hbm, ⟨46, _⟩ => ⟨S8x128x128, .f32⟩
  | .hbm, ⟨47, _⟩ => ⟨S8x32x256x128, .f32⟩
  | .hbm, ⟨48, _⟩ => ⟨S32x128x8x256, .f32⟩
  | .hbm, ⟨49, _⟩ => ⟨S128x8, .f32⟩
  | .hbm, ⟨50, _⟩ => ⟨S1x128x8x1, .f32⟩
  | .hbm, ⟨51, _⟩ => ⟨S32x128x8x256, .f32⟩
  | .hbm, ⟨52, _⟩ => ⟨S32x128x8x256, .f32⟩
  | .hbm, ⟨53, _⟩ => ⟨S4096x2048, .f32⟩
  | .hbm, ⟨54, _⟩ => ⟨S4096x2048, .f32⟩
  | .hbm, ⟨55, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_0 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_call1_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel12.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S1024x2x2x4x64 : Shape := ⟨5, ![1024, 2, 2, 4, 64]⟩
abbrev S1024x2x4x2x64 : Shape := ⟨5, ![1024, 2, 4, 2, 64]⟩
abbrev S8x128x1024 : Shape := ⟨3, ![8, 128, 1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x2x2x4x64, .f32⟩
  | .hbm, ⟨5, _⟩ => ⟨S1024x2x4x2x64, .f32⟩
  | .hbm, ⟨6, _⟩ => ⟨S1024x1024, .f32⟩
  | .hbm, ⟨7, _⟩ => ⟨S1024x1024, .bf16⟩
  | .hbm, ⟨8, _⟩ => ⟨S8x128x1024, .bf16⟩
  | .hbm, ⟨9, _⟩ => ⟨S4096x1024, .bf16⟩
  | .hbm, ⟨10, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S8x128x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference12Ideal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2x2x4x64 : Shape := ⟨5, ![1024, 2, 2, 4, 64]⟩
abbrev S1024x2x4x2x64 : Shape := ⟨5, ![1024, 2, 4, 2, 64]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x2x2x4x64, .f32⟩
  | .hbm, ⟨20, _⟩ => ⟨S1024x2x4x2x64, .f32⟩
  | .hbm, ⟨21, _⟩ => ⟨S1024x1024, .f32⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S8x128x1024 : Shape := ⟨3, ![8, 128, 1024]⟩
abbrev S2x2x4x64x1024 : Shape := ⟨5, ![2, 2, 4, 64, 1024]⟩
abbrev S2x4x2x64x1024 : Shape := ⟨5, ![2, 4, 2, 64, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S8x128x1024, .bf16⟩
  | .hbm, ⟨6, _⟩ => ⟨S2x2x4x64x1024, .bf16⟩
  | .hbm, ⟨7, _⟩ => ⟨S2x4x2x64x1024, .bf16⟩
  | .hbm, ⟨8, _⟩ => ⟨S8x128x1024, .bf16⟩
  | .hbm, ⟨9, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x128x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference13Ideal.lean ====
abbrev S4096x1024 : Shape := ⟨2, ![4096, 1024]⟩
abbrev S1024x1024 : Shape := ⟨2, ![1024, 1024]⟩
abbrev S2x2x4x64x1024 : Shape := ⟨5, ![2, 2, 4, 64, 1024]⟩
abbrev S2x4x2x64x1024 : Shape := ⟨5, ![2, 4, 2, 64, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S2x2x4x64x1024, .f32⟩
  | .hbm, ⟨4, _⟩ => ⟨S2x4x2x64x1024, .f32⟩
  | .hbm, ⟨5, _⟩ => ⟨S1024x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S1024 : Shape := ⟨1, ![1024]⟩
abbrev S1024x256 : Shape := ⟨2, ![1024, 256]⟩
abbrev S1024x1024 : Shape := ⟨2, ![1024, 1024]⟩
abbrev S1x1024 : Shape := ⟨2, ![1, 1024]⟩
abbrev S1024x512 : Shape := ⟨2, ![1024, 512]⟩
abbrev S8x128x512 : Shape := ⟨3, ![8, 128, 512]⟩
abbrev S1024x2x2x4x64 : Shape := ⟨5, ![1024, 2, 2, 4, 64]⟩
abbrev S1024x2x4x2x64 : Shape := ⟨5, ![1024, 2, 4, 2, 64]⟩
abbrev S8x128x1024 : Shape := ⟨3, ![8, 128, 1024]⟩
abbrev S4096x512 : Shape := ⟨2, ![4096, 512]⟩
abbrev S1024x1 : Shape := ⟨2, ![1024, 1]⟩

abbrev nBuf : Space → Nat
  | .hbm => 20
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x256, .f32⟩
  | .hbm, ⟨3, _⟩ => ⟨S1024x256, .f32⟩
  | .hbm, ⟨4, _⟩ => ⟨S1024, .f32⟩
  | .hbm, ⟨5, _⟩ => ⟨S1024x1024, .f32⟩
  | .hbm, ⟨6, _⟩ => ⟨S1x1024, .f32⟩
  | .hbm, ⟨7, _⟩ => ⟨S1024x512, .f32⟩
  | .hbm, ⟨8, _⟩ => ⟨S1024x512, .bf16⟩
  | .hbm, ⟨9, _⟩ => ⟨S8x128x512, .bf16⟩
  | .hbm, ⟨10, _⟩ => ⟨S1x1024, .f32⟩
  | .hbm, ⟨11, _⟩ => ⟨S1024x2x2x4x64, .f32⟩
  | .hbm, ⟨12, _⟩ => ⟨S1024x2x4x2x64, .f32⟩
  | .hbm, ⟨13, _⟩ => ⟨S1024x1024, .f32⟩
  | .hbm, ⟨14, _⟩ => ⟨S1024x1024, .bf16⟩
  | .hbm, ⟨15, _⟩ => ⟨S8x128x1024, .bf16⟩
  | .hbm, ⟨16, _⟩ => ⟨S4096x512, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x128x512, .bf16⟩
  | .local _ .vmem, ⟨4, _⟩ => ⟨S1x1024, .f32⟩
  | .local _ .vmem, ⟨5, _⟩ => ⟨S8x128x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S4096x1024 : Shape := ⟨2, ![4096, 1024]⟩
abbrev S1024 : Shape := ⟨1, ![1024]⟩
abbrev S1024x256 : Shape := ⟨2, ![1024, 256]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x512 : Shape := ⟨2, ![1024, 512]⟩
abbrev S4096x512 : Shape := ⟨2, ![4096, 512]⟩
abbrev S1024x2x2x4x64 : Shape := ⟨5, ![1024, 2, 2, 4, 64]⟩
abbrev S1024x2x4x2x64 : Shape := ⟨5, ![1024, 2, 4, 2, 64]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x256, .f32⟩
  | .hbm, ⟨3, _⟩ => ⟨S1024x256, .f32⟩
  | .hbm, ⟨4, _⟩ => ⟨S1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1024x512, .f32⟩
  | .hbm, ⟨23, _⟩ => ⟨S4096x512, .f32⟩
  | .hbm, ⟨24, _⟩ => ⟨S4096x512, .bf16⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S1024x2x2x4x64, .f32⟩
  | .hbm, ⟨59, _⟩ => ⟨S1024x2x4x2x64, .f32⟩
  | .hbm, ⟨60, _⟩ => ⟨S1024x1024, .f32⟩
  | .hbm, ⟨61, _⟩ => ⟨S4096x1024, .f32⟩
  | .hbm, ⟨62, _⟩ => ⟨S4096x1024, .bf16⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S8x128x1024 : Shape := ⟨3, ![8, 128, 1024]⟩
abbrev S2x2x4x64x1024 : Shape := ⟨5, ![2, 2, 4, 64, 1024]⟩
abbrev S2x4x2x64x1024 : Shape := ⟨5, ![2, 4, 2, 64, 1024]⟩
abbrev S64x1024 : Shape := ⟨2, ![64, 1024]⟩
abbrev S1x64x1024 : Shape := ⟨3, ![1, 64, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S8x128x1024, .bf16⟩
  | .hbm, ⟨5, _⟩ => ⟨S2x2x4x64x1024, .bf16⟩
  | .hbm, ⟨6, _⟩ => ⟨S2x4x2x64x1024, .bf16⟩
  | .hbm, ⟨7, _⟩ => ⟨S8x128x1024, .bf16⟩
  | .hbm, ⟨8, _⟩ => ⟨S4096x1024, .bf16⟩
  | .hbm, ⟨9, _⟩ => ⟨S4096x1024, .bf16⟩
  | .hbm, ⟨10, _⟩ => ⟨S8x128x1024, .bf16⟩
  | .local _ .vmem, ⟨0, _⟩ => ⟨S1024x1024, .f32⟩
  | .local _ .vmem, ⟨1, _⟩ => ⟨S1024x1024, .f32⟩
  | .local _ .vmem, ⟨2, _⟩ => ⟨S8x128x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S8x128x1024, .bf16⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v17 : BitVec 1 := Scalar.cmpi .eq arg0 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference15Ideal.lean ====
abbrev S4096x1024 : Shape := ⟨2, ![4096, 1024]⟩
abbrev S1024x1024 : Shape := ⟨2, ![1024, 1024]⟩
abbrev S2x2x4x64x1024 : Shape := ⟨5, ![2, 2, 4, 64, 1024]⟩
abbrev S2x4x2x64x1024 : Shape := ⟨5, ![2, 4, 2, 64, 1024]⟩
abbrev S8x128x1024 : Shape := ⟨3, ![8, 128, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S2x2x4x64x1024, .f32⟩
  | .hbm, ⟨4, _⟩ => ⟨S2x4x2x64x1024, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S2x4x2x64x1024, .f32⟩
  | .hbm, ⟨11, _⟩ => ⟨S2x2x4x64x1024, .f32⟩
  | .hbm, ⟨12, _⟩ => ⟨S1024x1024, .f32⟩
  | .hbm, ⟨13, _⟩ => ⟨S4096x1024, .bf16⟩
  | .hbm, ⟨14, _⟩ => ⟨S8x128x1024, .f32⟩
  | .hbm, ⟨15, _⟩ => ⟨S8x128x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S8x128x1024 : Shape := ⟨3, ![8, 128, 1024]⟩
abbrev S1024x64 : Shape := ⟨2, ![1024, 64]⟩
abbrev S8x128x64 : Shape := ⟨3, ![8, 128, 64]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S8x128x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x128x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference16Ideal.lean ====
abbrev S4096x1024 : Shape := ⟨2, ![4096, 1024]⟩
abbrev S1024x1024 : Shape := ⟨2, ![1024, 1024]⟩
abbrev S1024x2x2x4x64 : Shape := ⟨5, ![1024, 2, 2, 4, 64]⟩
abbrev S1024x2x4x2x64 : Shape := ⟨5, ![1024, 2, 4, 2, 64]⟩
abbrev S8x128x1024 : Shape := ⟨3, ![8, 128, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x2x2x4x64, .f32⟩
  | .hbm, ⟨4, _⟩ => ⟨S1024x2x4x2x64, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x2x4x2x64, .f32⟩
  | .hbm, ⟨11, _⟩ => ⟨S1024x2x2x4x64, .f32⟩
  | .hbm, ⟨12, _⟩ => ⟨S1024x1024, .f32⟩
  | .hbm, ⟨13, _⟩ => ⟨S8x128x1024, .f32⟩
  | .hbm, ⟨14, _⟩ => ⟨S8x128x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel17.lean ====
abbrev S4096x1024 : Shape := ⟨2, ![4096, 1024]⟩
abbrev S1024x256 : Shape := ⟨2, ![1024, 256]⟩
abbrev S4096x512 : Shape := ⟨2, ![4096, 512]⟩
abbrev S8x128x512 : Shape := ⟨3, ![8, 128, 512]⟩
abbrev S1024x1024 : Shape := ⟨2, ![1024, 1024]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S1024x256, .f32⟩
  | .hbm, ⟨3, _⟩ => ⟨S4096x512, .f32⟩
  | .hbm, ⟨4, _⟩ => ⟨S4096x512, .f32⟩
  | .hbm, ⟨5, _⟩ => ⟨S4096x1024, .bf16⟩
  | .hbm, ⟨6, _⟩ => ⟨S8x128x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S8x128x512, .bf16⟩
  | .local _ .vmem, ⟨7, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 1 → Memref sig .tc .vmem S8x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== Reference17Ideal.lean ====
abbrev S4096x1024 : Shape := ⟨2, ![4096, 1024]⟩
abbrev S1024x256 : Shape := ⟨2, ![1024, 256]⟩
abbrev S4096x512 : Shape := ⟨2, ![4096, 512]⟩
abbrev S1024x512 : Shape := ⟨2, ![1024, 512]⟩
abbrev S512x1024 : Shape := ⟨2, ![512, 1024]⟩
abbrev S8x128x512 : Shape := ⟨3, ![8, 128, 512]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S1024x256, .f32⟩
  | .hbm, ⟨3, _⟩ => ⟨S4096x512, .f32⟩
  | .hbm, ⟨4, _⟩ => ⟨S4096x512, .f32⟩
  | .hbm, ⟨5, _⟩ => ⟨S1024x512, .f32⟩
  | .hbm, ⟨6, _⟩ => ⟨S4096x512, .f32⟩
  | .hbm, ⟨7, _⟩ => ⟨S4096x512, .f32⟩
  | .hbm, ⟨8, _⟩ => ⟨S512x1024, .f32⟩
  | .hbm, ⟨9, _⟩ => ⟨S1024x512, .f32⟩
  | .hbm, ⟨10, _⟩ => ⟨S1024x256, .f32⟩
  | .hbm, ⟨11, _⟩ => ⟨S1024x256, .f32⟩
  | .hbm, ⟨12, _⟩ => ⟨S1024x512, .f32⟩
  | .hbm, ⟨13, _⟩ => ⟨S8x128x512, .f32⟩
  | .hbm, ⟨14, _⟩ => ⟨S8x128x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel18.lean ====
abbrev S4096x1024 : Shape := ⟨2, ![4096, 1024]⟩
abbrev S1024 : Shape := ⟨1, ![1024]⟩
abbrev S1024x1024 : Shape := ⟨2, ![1024, 1024]⟩
abbrev S1024x2x2x4x64 : Shape := ⟨5, ![1024, 2, 2, 4, 64]⟩
abbrev S1024x2x4x2x64 : Shape := ⟨5, ![1024, 2, 4, 2, 64]⟩
abbrev S8x128x1024 : Shape := ⟨3, ![8, 128, 1024]⟩
abbrev S1x1024 : Shape := ⟨2, ![1, 1024]⟩
abbrev S1024x1 : Shape := ⟨2, ![1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1024x2x2x4x64, .f32⟩
  | .hbm, ⟨7, _⟩ => ⟨S1024x2x4x2x64, .f32⟩
  | .hbm, ⟨8, _⟩ => ⟨S1024x1024, .f32⟩
  | .hbm, ⟨9, _⟩ => ⟨S1024x1024, .bf16⟩
  | .hbm, ⟨10, _⟩ => ⟨S8x128x1024, .bf16⟩
  | .hbm, ⟨11, _⟩ => ⟨S1x1024, .f32⟩
  | .hbm, ⟨12, _⟩ => ⟨S4096x1024, .f32⟩
  | .hbm, ⟨13, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x128x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_18 : BitVec 32 := 0#32
  let v39 : BitVec 1 := Scalar.cmpi .ne v38 c0_i32_18
  v39

def k0_cond2 (i : grid0.Coords) : BitVec 1 :=
  let arg0 : BitVec 32 := BitVec.ofNat 32 (i 0).val
  let c0_i32_19 : BitVec 32 := 0#32
  let v40 : BitVec 1 := Scalar.cmpi .sgt arg0 c0_i32_19
  let v41 : BitVec 32 := Scalar.extui v40
  let c0_i32_20 : BitVec 32 := 0#32
  let v42 : BitVec 1 := Scalar.cmpi .ne v41 c0_i32_20
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference18Ideal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2x2x4x64 : Shape := ⟨5, ![1024, 2, 2, 4, 64]⟩
abbrev S1024x2x4x2x64 : Shape := ⟨5, ![1024, 2, 4, 2, 64]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x2x2x4x64, .f32⟩
  | .hbm, ⟨26, _⟩ => ⟨S1024x2x4x2x64, .f32⟩
  | .hbm, ⟨27, _⟩ => ⟨S1024x1024, .f32⟩
  | .hbm, ⟨28, _⟩ => ⟨S4096x1024, .f32⟩
  | .hbm, ⟨29, _⟩ => ⟨S1024x1024, .f32⟩
  | .hbm, ⟨30, _⟩ => ⟨S1024x1024, .f32⟩
  | .hbm, ⟨31, _⟩ => ⟨S4096x1024, .f32⟩
  | .hbm, ⟨32, _⟩ => ⟨S1024x2x4x2x64, .f32⟩
  | .hbm, ⟨33, _⟩ => ⟨S1024x2x2x4x64, .f32⟩
  | .hbm, ⟨34, _⟩ => ⟨S1024x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel19.lean ====
abbrev S4096x1024 : Shape := ⟨2, ![4096, 1024]⟩
abbrev S1024 : Shape := ⟨1, ![1024]⟩
abbrev S1024x1024 : Shape := ⟨2, ![1024, 1024]⟩
abbrev S1024x256 : Shape := ⟨2, ![1024, 256]⟩
abbrev S4096x512 : Shape := ⟨2, ![4096, 512]⟩
abbrev S1024x2x2x4x64 : Shape := ⟨5, ![1024, 2, 2, 4, 64]⟩
abbrev S1024x2x4x2x64 : Shape := ⟨5, ![1024, 2, 4, 2, 64]⟩
abbrev S8x128x1024 : Shape := ⟨3, ![8, 128, 1024]⟩
abbrev S1024x512 : Shape := ⟨2, ![1024, 512]⟩
abbrev S8x128x512 : Shape := ⟨3, ![8, 128, 512]⟩
abbrev S1x1024 : Shape := ⟨2, ![1, 1024]⟩
abbrev S1024x1 : Shape := ⟨2, ![1024, 1]⟩

abbrev nBuf : Space → Nat
  | .hbm => 24
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x256, .f32⟩
  | .hbm, ⟨5, _⟩ => ⟨S1024x256, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x1024, .f32⟩
  | .hbm, ⟨10, _⟩ => ⟨S4096x1024, .bf16⟩
  | .hbm, ⟨11, _⟩ => ⟨S1024x2x2x4x64, .f32⟩
  | .hbm, ⟨12, _⟩ => ⟨S1024x2x4x2x64, .f32⟩
  | .hbm, ⟨13, _⟩ => ⟨S1024x1024, .f32⟩
  | .hbm, ⟨14, _⟩ => ⟨S1024x1024, .bf16⟩
  | .hbm, ⟨15, _⟩ => ⟨S8x128x1024, .bf16⟩
  | .hbm, ⟨16, _⟩ => ⟨S1024x512, .f32⟩
  | .hbm, ⟨17, _⟩ => ⟨S1024x512, .bf16⟩
  | .hbm, ⟨18, _⟩ => ⟨S8x128x512, .bf16⟩
  | .hbm, ⟨19, _⟩ => ⟨S1x1024, .f32⟩
  | .hbm, ⟨20, _⟩ => ⟨S1x1024, .f32⟩
  | .hbm, ⟨21, _⟩ => ⟨S4096x1024, .f32⟩
  | .hbm, ⟨22, _⟩ => ⟨S1x1024, .f32⟩
  | .hbm, ⟨23, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x128x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S8x128x512, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_29 : BitVec 32 := 0#32
  let v55 : BitVec 1 := Scalar.cmpi .ne v54 c0_i32_29
  v55

def k0_cond2 (i : grid0.Coords) : BitVec 1 :=
  let arg0 : BitVec 32 := BitVec.ofNat 32 (i 0).val
  let c0_i32_30 : BitVec 32 := 0#32
  let v56 : BitVec 1 := Scalar.cmpi .sgt arg0 c0_i32_30
  let v57 : BitVec 32 := Scalar.extui v56
  let c0_i32_31 : BitVec 32 := 0#32
  let v58 : BitVec 1 := Scalar.cmpi .ne v57 c0_i32_31
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference19Ideal.lean ====
abbrev S4096x1024 : Shape := ⟨2, ![4096, 1024]⟩
abbrev S1024 : Shape := ⟨1, ![1024]⟩
abbrev S1024x1024 : Shape := ⟨2, ![1024, 1024]⟩
abbrev S1024x256 : Shape := ⟨2, ![1024, 256]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2x2x4x64 : Shape := ⟨5, ![1024, 2, 2, 4, 64]⟩
abbrev S1024x2x4x2x64 : Shape := ⟨5, ![1024, 2, 4, 2, 64]⟩
abbrev S1024x512 : Shape := ⟨2, ![1024, 512]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x256, .f32⟩
  | .hbm, ⟨5, _⟩ => ⟨S1024x256, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1024x2x2x4x64, .f32⟩
  | .hbm, ⟨31, _⟩ => ⟨S1024x2x4x2x64, .f32⟩
  | .hbm, ⟨32, _⟩ => ⟨S1024x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S1024x512, .f32⟩
  | .hbm, ⟨55, _⟩ => ⟨S4096x512, .f32⟩
  | .hbm, ⟨56, _⟩ => ⟨S4096x512, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S1024, .f32⟩
  | .hbm, ⟨93, _⟩ => ⟨S4096x1024, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1, .f32⟩
  | .hbm, ⟨101, _⟩ => ⟨S_, .f32⟩
  | .hbm, ⟨102, _⟩ => ⟨S4096x1, .f32⟩
  | .hbm, ⟨103, _⟩ => ⟨S4096x1, .f32⟩
  | .hbm, ⟨104, _⟩ => ⟨S_, .f32⟩
  | .hbm, ⟨105, _⟩ => ⟨S4096, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S1x1024, .f32⟩
  | .hbm, ⟨112, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩

abbrev nD : Nat := 1
abbrev τ : Topo := Topo.v7x

variable {F : FTy → Type} [FloatOps F]
-- ==== Proof.GateRows.lean ====
/- The spatial gate in plain formulas, forward and backward, and how a block is read after its stores. -/
module

public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Gate

/-- `n` rows of `d` entries. -/
abbrev Rows (n d : ℕ) : Shape := ⟨2, ![n, d]⟩

/-- A weight for each group. -/
abbrev Cube : Shape := ⟨3, ![8, 128, 128]⟩

/-- Row `i` of chunk `n`, a chunk being 128 rows. -/
def chunk {N q : ℕ} (hN : N = q * 128) (n : Fin q) (i : Fin 128) : Fin N := ⟨n.val * 128 + i.val, by omega⟩

/-- Row `j` of the chunk that holds row `i`. -/
def mate {N q : ℕ} (hN : N = q * 128) (i : Fin N) (j : Fin 128) : Fin N := ⟨i.val / 128 * 128 + j.val, by omega⟩

/-- Column `d` of group `g`, a group being 256 columns. -/
def column (g : Fin 8) (d : Fin 256) : Fin 2048 := ⟨g.val * 256 + d.val, by omega⟩

/-- The group of a column. -/
def group (k : Fin 2048) : Fin 8 := ⟨k.val / 256, by omega⟩

/-- The place of a row in its chunk. -/
def place {N : ℕ} (i : Fin N) : Fin 128 := ⟨i.val % 128, Nat.mod_lt _ (by omega)⟩

/-- Column `k` of the second half. -/
def upper (k : Fin 2048) : Fin 4096 := ⟨2048 + k.val, by omega⟩

/-- Column `k` of the first half. -/
def lower (k : Fin 2048) : Fin 4096 := ⟨k.val, by omega⟩

/-- The gradient at the mixed rows: the upstream gradient times the gate's first half. -/
def dm {n : ℕ} (D : FVec Ideal (Rows n 2048) .bf16) (A : FVec Ideal (Rows n 4096) .bf16) (i : Fin n) (k : Fin 2048) : EReal :=
  D (ix2 i k) * A (ix2 i (lower k))

/-- The second half less its mean, row by row. -/
def xc {n : ℕ} (A : FVec Ideal (Rows n 4096) .bf16) (i : Fin n) (k : Fin 2048) : EReal :=
  A (ix2 i (upper k)) - Ideal.div (∑ e : Fin 2048, A (ix2 i (upper e))) (Ideal.ofBits .f32 0x45000000#32)

/-- The reciprocal of a row's standard deviation. -/
def rs {n : ℕ} (A : FVec Ideal (Rows n 4096) .bf16) (i : Fin n) : EReal :=
  Ideal.rsqrt (Ideal.div (∑ k : Fin 2048, xc A i k * xc A i k) (Ideal.ofBits .f32 0x45000000#32) + Ideal.ofBits .f32 0x358637BD#32)

/-- The normalised second half. -/
def xh {n : ℕ} (A : FVec Ideal (Rows n 4096) .bf16) (i : Fin n) (k : Fin 2048) : EReal := xc A i k * rs A i

/-- The normalised second half times the gain. -/
def vn {n : ℕ} (A : FVec Ideal (Rows n 4096) .bf16) (L : FVec Ideal (Rows 1 2048) .f32) (i : Fin n) (k : Fin 2048) : EReal := xh A i k * L (ix2 0 k)

/-- The mixed rows: in each chunk and group the rows by the spatial weight, and the spatial bias. -/
def mixed {N q : ℕ} (hN : N = q * 128) (A : FVec Ideal (Rows N 4096) .bf16) (L : FVec Ideal (Rows 1 2048) .f32) (W : FVec Ideal Cube .bf16)
    (B : FVec Ideal (Rows 128 8) .f32) (i : Fin N) (k : Fin 2048) : EReal :=
  (∑ j : Fin 128, W (ix3 (group k) (place i) j) * vn A L (mate hN i j) k) + B (ix2 (place i) (group k))

/-- The gradient at the normalised second half: in each chunk and group the rows by the transposed weight. -/
def dvn {N q : ℕ} (hN : N = q * 128) (D : FVec Ideal (Rows N 2048) .bf16) (A : FVec Ideal (Rows N 4096) .bf16) (W : FVec Ideal Cube .bf16) :
    FVec Ideal (Rows N 2048) .f32 :=
  fun y => ∑ j : Fin 128, W (ix3 (group (y 1)) (place (N := N) (y 0)) j) * dm D A (mate hN (y 0) j) (y 1)

/-- The gradient of the spatial bias: the chunks' rows summed over each group. -/
def dbt {N q : ℕ} (hN : N = q * 128) (D : FVec Ideal (Rows N 2048) .bf16) (A : FVec Ideal (Rows N 4096) .bf16) : FVec Ideal (Rows 128 8) .f32 :=
  fun y => ∑ n : Fin q, ∑ d : Fin 256, dm D A (chunk hN n (y 0)) (column (y 1) d)

/-- Whether column `j` of the spatial weight is on or below the diagonal in row `i`. -/
def below (i j : Fin 128) : BitVec 1 := IntOp.cmpi CmpIPredicate.sge (BitVec.ofNat 32 i.val) (BitVec.ofNat 32 j.val)

/-- The gradient of the spatial weight: on and below the diagonal the chunks' products of rows, summed. -/
def dws {N q : ℕ} (hN : N = q * 128) (D : FVec Ideal (Rows N 2048) .bf16) (A : FVec Ideal (Rows N 4096) .bf16) (L : FVec Ideal (Rows 1 2048) .f32) :
    FVec Ideal Cube .f32 :=
  fun y => ∑ n : Fin q, Scalar.select (below (y 1) (y 2))
    (∑ d : Fin 256, dm D A (chunk hN n (y 1)) (column (y 0) d) * vn A L (chunk hN n (y 2)) (column (y 0) d)) (0 : EReal)

/-- The gradient of the norm's gain. -/
def dlng {N : ℕ} (dv : FVec Ideal (Rows N 2048) .f32) (A : FVec Ideal (Rows N 4096) .bf16) : FVec Ideal (Rows 1 2048) .f32 :=
  fun y => ∑ i : Fin N, dv (ix2 i (y 1)) * xh A i (y 1)

/-- The gated rows: the first half times the mixed second half. -/
def gated {N q : ℕ} (hN : N = q * 128) (A : FVec Ideal (Rows N 4096) .bf16) (L : FVec Ideal (Rows 1 2048) .f32) (W : FVec Ideal Cube .bf16)
    (B : FVec Ideal (Rows 128 8) .f32) : FVec Ideal (Rows N 2048) .bf16 :=
  fun y => A (ix2 (y 0) (lower (y 1))) * mixed hN A L W B (y 0) (y 1)

/-- The gradient at the second half: the layer norm's derivative applied to `dv`. -/
def dva {N : ℕ} (dv : FVec Ideal (Rows N 2048) .f32) (A : FVec Ideal (Rows N 4096) .bf16) (L : FVec Ideal (Rows 1 2048) .f32) (i : Fin N) (k : Fin 2048) : EReal :=
  rs A i * (dv (ix2 i k) * L (ix2 0 k) - Ideal.div (∑ e : Fin 2048, dv (ix2 i e) * L (ix2 0 e)) (Ideal.ofBits .f32 0x45000000#32)
    - xh A i k * Ideal.div (∑ e : Fin 2048, dv (ix2 i e) * L (ix2 0 e) * xh A i e) (Ideal.ofBits .f32 0x45000000#32))

/-- A load of the rectangle stored last reads what was stored. -/
theorem readCov_head [∀ e, Nonempty (Elt Ideal e)] {sig : RefSig} {κ : Kind} {sp : Space} {s : Shape} {e : EltTy} (v : View sig κ sp s e) {off size : Fin s.rank → ℕ}
    (inb inb' : ∀ a, off a + size a ≤ s.size a) (w : (Rect.unit off size inb).shape.Idx → Elt Ideal e) (L : List (View.Piece (Elt Ideal) s e)) :
    v.readCov (⟨Rect.unit off size inb, w⟩ :: L) (Rect.unit off size inb').toLoadRect = w := by
  rw [View.readCov_eq_canon', View.canon_cons]; funext j
  exact Rect.overlay_emb _ _ _ j

/-- A whole buffer read back after stores that cover it: what it reads is the function that the stores leave. -/
theorem readCov_whole [∀ e, Nonempty (Elt Ideal e)] {sig : RefSig} {κ : Kind} {sp : Space} {s : Shape} {e : EltTy} (G : s.Idx → Elt Ideal e) (v : View sig κ sp s e) (L : List (View.Piece (Elt Ideal) s e)) (r : Rect s)
    (h : ∀ y, View.canon L y = G y) : v.readCov L r.toLoadRect = View.ld G r := by
  rw [View.readCov_eq_canon']; funext j; exact h _

/-- Of a list of stores only the last `k` count where they cover the index. -/
theorem canon_take [∀ e, Nonempty (Elt Ideal e)] {s : Shape} {e : EltTy} (y : s.Idx) : ∀ (k : ℕ) (L : List (View.Piece (Elt Ideal) s e)),
    (∃ p ∈ L.take k, y ∈ p.1.set) → View.canon L y = View.canon (L.take k) y
  | 0, _, h => by simp at h
  | _ + 1, [], _ => by simp
  | k + 1, p :: L, h => by
    rw [List.take_succ_cons] at h ⊢
    by_cases hy : y ∈ p.1.set
    · obtain ⟨r, w⟩ := p
      obtain ⟨x, rfl⟩ := r.exists_idx_of_mem hy
      exact (View.canon_cons_emb r w _ x).trans (View.canon_cons_emb r w _ x).symm
    · rw [View.canon_cons_of_not_mem p _ hy, View.canon_cons_of_not_mem p _ hy]
      refine canon_take y k L ?_
      obtain ⟨p', hm, hy'⟩ := h
      rcases List.mem_cons.mp hm with rfl | hm
      · exact absurd hy' hy
      · exact ⟨p', hm, hy'⟩

end Cert.Gate

end
-- ==== Proof.GateBias.lean ====
/- The spatial gate backward: the gradient of the spatial bias that one block adds. -/
module

public import proofs.«01_k».proof.Proof.GateRows
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Gate

variable (m : (ℓ : Loc nD τ sig) → Buf (Elt Ideal) ℓ)

/-- One group's column of the bias's gradient, after the four chunks of a block. -/
theorem dbt_tile (D : FVec Ideal (Rows 512 2048) .bf16) (A : FVec Ideal (Rows 512 4096) .bf16) (y : S128x8.Idx)
    (p0 p1 p2 p3 : Fin 256 → Fin 2048) (p0' p1' p2' p3' : Fin 256 → Fin 4096) (r0 r1 r2 r3 r0' r1' r2' r3' : Fin 256 → Fin 512)
    (hp0 : ∀ d, (p0 d).val = (y 1).val * 256 + d.val) (hp1 : ∀ d, (p1 d).val = (y 1).val * 256 + d.val)
    (hp2 : ∀ d, (p2 d).val = (y 1).val * 256 + d.val) (hp3 : ∀ d, (p3 d).val = (y 1).val * 256 + d.val)
    (hq0 : ∀ d, (p0' d).val = (y 1).val * 256 + d.val) (hq1 : ∀ d, (p1' d).val = (y 1).val * 256 + d.val)
    (hq2 : ∀ d, (p2' d).val = (y 1).val * 256 + d.val) (hq3 : ∀ d, (p3' d).val = (y 1).val * 256 + d.val)
    (e0 : ∀ d, (r0 d).val = (y 0).val) (e1 : ∀ d, (r1 d).val = 128 + (y 0).val) (e2 : ∀ d, (r2 d).val = 256 + (y 0).val)
    (e3 : ∀ d, (r3 d).val = 384 + (y 0).val) (f0 : ∀ d, (r0' d).val = (y 0).val) (f1 : ∀ d, (r1' d).val = 128 + (y 0).val)
    (f2 : ∀ d, (r2' d).val = 256 + (y 0).val) (f3 : ∀ d, (r3' d).val = 384 + (y 0).val) :
    (∑ d : Fin 256, D (ix2 (r0 d) (p0 d)) * A (ix2 (r0' d) (p0' d))) + ((∑ d : Fin 256, D (ix2 (r1 d) (p1 d)) * A (ix2 (r1' d) (p1' d)))
      + ((∑ d : Fin 256, D (ix2 (r2 d) (p2 d)) * A (ix2 (r2' d) (p2' d))) + (∑ d : Fin 256, D (ix2 (r3 d) (p3 d)) * A (ix2 (r3' d) (p3' d)))))
    = dbt (N := 512) (q := 4) rfl D A y := by
  have h (a b : Fin 256 → Fin 512) (p : Fin 256 → Fin 2048) (p' : Fin 256 → Fin 4096) (n : Fin 4) (ha : ∀ d, (a d).val = n.val * 128 + (y 0).val)
      (hb : ∀ d, (b d).val = n.val * 128 + (y 0).val) (hp : ∀ d, (p d).val = (y 1).val * 256 + d.val) (hp' : ∀ d, (p' d).val = (y 1).val * 256 + d.val) :
      ∑ d : Fin 256, D (ix2 (a d) (p d)) * A (ix2 (b d) (p' d)) = ∑ d : Fin 256, dm D A (chunk (N := 512) (q := 4) rfl n (y 0)) (column (y 1) d) := by
    obtain rfl : p = fun d => column (y 1) d := funext fun d => Fin.ext (hp d)
    obtain rfl : p' = fun d => lower (column (y 1) d) := funext fun d => Fin.ext (hp' d)
    obtain rfl : a = fun _ => chunk (N := 512) (q := 4) rfl n (y 0) := funext fun d => Fin.ext (ha d)
    obtain rfl : b = fun _ => chunk (N := 512) (q := 4) rfl n (y 0) := funext fun d => Fin.ext (hb d)
    rfl
  rw [h r0 r0' p0 p0' 0 (fun d => (e0 d).trans (by simp)) (fun d => (f0 d).trans (by simp)) hp0 hq0,
    h r1 r1' p1 p1' 1 e1 f1 hp1 hq1, h r2 r2' p2 p2' 2 e2 f2 hp2 hq2, h r3 r3' p3 p3' 3 e3 f3 hp3 hq3]
  unfold dbt
  rw [Fin.sum_univ_four]
  simp only [add_assoc]

set_option maxHeartbeats 4000000 in
/-- The bias's gradient after a later point: what the point before left, and this block's. -/
theorem out9_next (c : Dev nD) (t : Fin cfg0.N) (h : ¬ t.val % 8 = 0) (j) : (outsAt0 m c t.val t.isLt).2.2.1 j =
    (outsAt0 m c (t.val-1) (Nat.lt_of_le_of_lt (Nat.sub_le _ _) t.isLt)).2.2.1 j + dbt (N := 512) (q := 4) rfl (iblk m c 2 t) (iblk m c 0 t) j := by
  rw [outsAt0_B m c t h]
  generalize iblk m c 0 t = A, iblk m c 1 t = Z, iblk m c 2 t = D, iblk m c 3 t = L, iblk m c 4 t = W, iblk m c 5 t = WT, iblk m c 6 t = B,
    outsAt0 m c (t.val-1) (Nat.lt_of_le_of_lt (Nat.sub_le _ _) t.isLt) = P
  frame_open; simp (disch := decide) only [↓View.readCov_skip, readCov_head]; frame_out
  rw [canon_take _ 8]
  · simp only [List.take_succ_cons, List.take_zero]
    canon_tiles x h
    all_goals (
      open_payloads
      pointwise
      simp only [add_assoc]
      refine congrArg₂ (fun a b : EReal => a + b) ?_ (dbt_tile D A j _ _ _ _ _ _ _ _ _ _ _ _ _ _ _ _ ?_ ?_ ?_ ?_ ?_ ?_ ?_ ?_ ?_ ?_ ?_ ?_ ?_ ?_ ?_ ?_))
    all_goals first
      | (intro d; dsimp only; omega)
      | (refine congrArg P.2.2.1 ?_; rw [eq_ix2 j]; exact (ix2_inj ..).2 ⟨Fin.ext (by dsimp only; omega), Fin.ext (by dsimp only [Fin.isValue]; omega)⟩)
      | (intro d; simp only [Fin.isValue, Fin.val_ofNat]; omega)
      | (refine congrArg P.2.2.1 ?_; rw [eq_ix2 j]; exact (ix2_inj ..).2 ⟨Fin.ext (by dsimp only; omega), Fin.ext (by simp only [Fin.isValue, Fin.coe_ofNat_eq_mod]; omega)⟩)
  · exact View.cover_of_tiledL _ ![128, 1] (by sl_kernel_rfl) _

set_option maxHeartbeats 4000000 in
/-- The bias's gradient after the first point: this block's. -/
theorem out9_first (c : Dev nD) (t : Fin cfg0.N) (h : t.val % 8 = 0) (j) : (outsAt0 m c t.val t.isLt).2.2.1 j = dbt (N := 512) (q := 4) rfl (iblk m c 2 t) (iblk m c 0 t) j := by
  rw [outsAt0_A m c t h]
  generalize iblk m c 0 t = A, iblk m c 1 t = Z, iblk m c 2 t = D, iblk m c 3 t = L, iblk m c 4 t = W, iblk m c 5 t = WT, iblk m c 6 t = B
  frame_open; simp (disch := decide) only [↓View.readCov_skip, readCov_head, View.readCov_fill]; frame_out
  rw [canon_take _ 8]
  · simp only [List.take_succ_cons, List.take_zero]
    canon_tiles x h
    all_goals (
      open_payloads
      pointwise
      simp only [add_assoc]
      refine dbt_tile D A j _ _ _ _ _ _ _ _ _ _ _ _ _ _ _ _ ?_ ?_ ?_ ?_ ?_ ?_ ?_ ?_ ?_ ?_ ?_ ?_ ?_ ?_ ?_ ?_)
    all_goals first
      | (intro d; dsimp only; omega)
  · exact View.cover_of_tiledL _ ![128, 1] (by sl_kernel_rfl) _

end Cert.KernelIdeal.Value

end
-- ==== Proof.GateSpatial.lean ====
/- The spatial gate backward: the gradient of the spatial weight that one block adds. -/
module

public import proofs.«01_k».proof.Proof.GateRows
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Gate

variable (m : (ℓ : Loc nD τ sig) → Buf (Elt Ideal) ℓ)

/-- One group of the spatial weight's gradient, after the four chunks of a block. -/
theorem dws_tile (D : FVec Ideal (Rows 512 2048) .bf16) (A : FVec Ideal (Rows 512 4096) .bf16) (L : FVec Ideal S1x2048 .f32) (y : S8x128x128.Idx)
    (a b : ℕ) (p0 p1 p2 p3 l0 l1 l2 l3 : Fin 256 → Fin 2048) (p0' p1' p2' p3' k0 k1 k2 k3 : Fin 256 → Fin 4096)
    (r0 r1 r2 r3 r0' r1' r2' r3' s0 s1 s2 s3 : Fin 256 → Fin 512) (ha : a = (y 1).val) (hb : b = (y 2).val)
    (hr0 : ∀ d, (r0 d).val = 0 + (y 1).val) (hr0' : ∀ d, (r0' d).val = 0 + (y 1).val) (hs0 : ∀ d, (s0 d).val = 0 + (y 2).val)
    (hp0 : ∀ d, (p0 d).val = (y 0).val * 256 + d.val) (hp0' : ∀ d, (p0' d).val = (y 0).val * 256 + d.val)
    (hl0 : ∀ d, (l0 d).val = (y 0).val * 256 + d.val) (hk0 : ∀ d, (k0 d).val = 2048 + ((y 0).val * 256 + d.val))
    (hr1 : ∀ d, (r1 d).val = 128 + (y 1).val) (hr1' : ∀ d, (r1' d).val = 128 + (y 1).val) (hs1 : ∀ d, (s1 d).val = 128 + (y 2).val)
    (hp1 : ∀ d, (p1 d).val = (y 0).val * 256 + d.val) (hp1' : ∀ d, (p1' d).val = (y 0).val * 256 + d.val)
    (hl1 : ∀ d, (l1 d).val = (y 0).val * 256 + d.val) (hk1 : ∀ d, (k1 d).val = 2048 + ((y 0).val * 256 + d.val))
    (hr2 : ∀ d, (r2 d).val = 256 + (y 1).val) (hr2' : ∀ d, (r2' d).val = 256 + (y 1).val) (hs2 : ∀ d, (s2 d).val = 256 + (y 2).val)
    (hp2 : ∀ d, (p2 d).val = (y 0).val * 256 + d.val) (hp2' : ∀ d, (p2' d).val = (y 0).val * 256 + d.val)
    (hl2 : ∀ d, (l2 d).val = (y 0).val * 256 + d.val) (hk2 : ∀ d, (k2 d).val = 2048 + ((y 0).val * 256 + d.val))
    (hr3 : ∀ d, (r3 d).val = 384 + (y 1).val) (hr3' : ∀ d, (r3' d).val = 384 + (y 1).val) (hs3 : ∀ d, (s3 d).val = 384 + (y 2).val)
    (hp3 : ∀ d, (p3 d).val = (y 0).val * 256 + d.val) (hp3' : ∀ d, (p3' d).val = (y 0).val * 256 + d.val)
    (hl3 : ∀ d, (l3 d).val = (y 0).val * 256 + d.val) (hk3 : ∀ d, (k3 d).val = 2048 + ((y 0).val * 256 + d.val)) :
    Scalar.select (IntOp.cmpi CmpIPredicate.sge (BitVec.ofNat 32 a) (BitVec.ofNat 32 b)) (∑ d : Fin 256, D (ix2 (r0 d) (p0 d)) * A (ix2 (r0' d) (p0' d)) * ((A (ix2 (s0 d) (k0 d)) - Ideal.div (∑ e : Fin 2048, A (ix2 (s0 d) (upper e))) (Ideal.ofBits .f32 0x45000000#32)) * rs A (s0 d) * L (ix2 0 (l0 d)))) (0 : EReal)
      + (Scalar.select (IntOp.cmpi CmpIPredicate.sge (BitVec.ofNat 32 a) (BitVec.ofNat 32 b)) (∑ d : Fin 256, D (ix2 (r1 d) (p1 d)) * A (ix2 (r1' d) (p1' d)) * ((A (ix2 (s1 d) (k1 d)) - Ideal.div (∑ e : Fin 2048, A (ix2 (s1 d) (upper e))) (Ideal.ofBits .f32 0x45000000#32)) * rs A (s1 d) * L (ix2 0 (l1 d)))) (0 : EReal)
      + (Scalar.select (IntOp.cmpi CmpIPredicate.sge (BitVec.ofNat 32 a) (BitVec.ofNat 32 b)) (∑ d : Fin 256, D (ix2 (r2 d) (p2 d)) * A (ix2 (r2' d) (p2' d)) * ((A (ix2 (s2 d) (k2 d)) - Ideal.div (∑ e : Fin 2048, A (ix2 (s2 d) (upper e))) (Ideal.ofBits .f32 0x45000000#32)) * rs A (s2 d) * L (ix2 0 (l2 d)))) (0 : EReal)
      + Scalar.select (IntOp.cmpi CmpIPredicate.sge (BitVec.ofNat 32 a) (BitVec.ofNat 32 b)) (∑ d : Fin 256, D (ix2 (r3 d) (p3 d)) * A (ix2 (r3' d) (p3' d)) * ((A (ix2 (s3 d) (k3 d)) - Ideal.div (∑ e : Fin 2048, A (ix2 (s3 d) (upper e))) (Ideal.ofBits .f32 0x45000000#32)) * rs A (s3 d) * L (ix2 0 (l3 d)))) (0 : EReal)))
    = dws (N := 512) (q := 4) rfl D A L y := by
  subst ha hb
  have h (n : Fin 4) (r r' s : Fin 256 → Fin 512) (p l : Fin 256 → Fin 2048) (p' k : Fin 256 → Fin 4096) (hr : ∀ d, (r d).val = n.val * 128 + (y 1).val)
      (hr' : ∀ d, (r' d).val = n.val * 128 + (y 1).val) (hs : ∀ d, (s d).val = n.val * 128 + (y 2).val)
      (hp : ∀ d, (p d).val = (y 0).val * 256 + d.val) (hp' : ∀ d, (p' d).val = (y 0).val * 256 + d.val)
      (hl : ∀ d, (l d).val = (y 0).val * 256 + d.val) (hk : ∀ d, (k d).val = 2048 + ((y 0).val * 256 + d.val)) :
      Scalar.select (IntOp.cmpi CmpIPredicate.sge (BitVec.ofNat 32 (y 1).val) (BitVec.ofNat 32 (y 2).val)) (∑ d : Fin 256, D (ix2 (r d) (p d)) * A (ix2 (r' d) (p' d)) * ((A (ix2 (s d) (k d)) - Ideal.div (∑ e : Fin 2048, A (ix2 (s d) (upper e))) (Ideal.ofBits .f32 0x45000000#32)) * rs A (s d) * L (ix2 0 (l d)))) (0 : EReal)
      = Scalar.select (below (y 1) (y 2)) (∑ d : Fin 256, dm D A (chunk (N := 512) (q := 4) rfl n (y 1)) (column (y 0) d) * vn A L (chunk (N := 512) (q := 4) rfl n (y 2)) (column (y 0) d)) (0 : EReal) := by
    obtain rfl : p = fun d => column (y 0) d := funext fun d => Fin.ext (hp d)
    obtain rfl : l = fun d => column (y 0) d := funext fun d => Fin.ext (hl d)
    obtain rfl : p' = fun d => lower (column (y 0) d) := funext fun d => Fin.ext (hp' d)
    obtain rfl : k = fun d => upper (column (y 0) d) := funext fun d => Fin.ext (hk d)
    obtain rfl : r = fun _ => chunk (N := 512) (q := 4) rfl n (y 1) := funext fun d => Fin.ext (hr d)
    obtain rfl : r' = fun _ => chunk (N := 512) (q := 4) rfl n (y 1) := funext fun d => Fin.ext (hr' d)
    obtain rfl : s = fun _ => chunk (N := 512) (q := 4) rfl n (y 2) := funext fun d => Fin.ext (hs d)
    rfl
  rw [h 0 r0 r0' s0 p0 l0 p0' k0 (fun d => (hr0 d).trans (by simp)) (fun d => (hr0' d).trans (by simp)) (fun d => (hs0 d).trans (by simp)) hp0 hp0' hl0 hk0,
    h 1 r1 r1' s1 p1 l1 p1' k1 hr1 hr1' hs1 hp1 hp1' hl1 hk1, h 2 r2 r2' s2 p2 l2 p2' k2 hr2 hr2' hs2 hp2 hp2' hl2 hk2,
    h 3 r3 r3' s3 p3 l3 p3' k3 hr3 hr3' hs3 hp3 hp3' hl3 hk3]
  unfold dws
  rw [Fin.sum_univ_four]
  simp only [add_assoc]

set_option maxHeartbeats 4000000 in
/-- The spatial weight's gradient after a later point: what the point before left, and this block's. -/
theorem out8_next (c : Dev nD) (t : Fin cfg0.N) (h : ¬ t.val % 8 = 0) (j) : (outsAt0 m c t.val t.isLt).2.1 j =
    (outsAt0 m c (t.val-1) (Nat.lt_of_le_of_lt (Nat.sub_le _ _) t.isLt)).2.1 j + dws (N := 512) (q := 4) rfl (iblk m c 2 t) (iblk m c 0 t) (iblk m c 3 t) j := by
  rw [outsAt0_B m c t h]
  generalize iblk m c 0 t = A, iblk m c 1 t = Z, iblk m c 2 t = D, iblk m c 3 t = L, iblk m c 4 t = W, iblk m c 5 t = WT, iblk m c 6 t = B,
    outsAt0 m c (t.val-1) (Nat.lt_of_le_of_lt (Nat.sub_le _ _) t.isLt) = P
  frame_open; simp (disch := decide) only [↓View.readCov_skip, readCov_head]; frame_out
  rw [canon_take _ 8]
  · simp only [List.take_succ_cons, List.take_zero]
    canon_tiles x h
    all_goals (
      open_payloads
      pointwise
      simp only [add_assoc]
      refine congrArg₂ (fun a b : EReal => a + b) ?_ (dws_tile D A L j _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_))
    all_goals first
      | (intro d; dsimp only; omega)
      | omega
      | (refine congrArg P.2.1 ?_; rw [eq_ix3 j]; exact (ix3_inj ..).2 ⟨Fin.ext (by dsimp only [Fin.isValue]; omega), Fin.ext (by dsimp only; omega), Fin.ext (by dsimp only; omega)⟩)
      | (refine congrArg P.2.1 ?_; rw [eq_ix3 j]; exact (ix3_inj ..).2 ⟨Fin.ext (by simp only [Fin.isValue, Fin.coe_ofNat_eq_mod]; omega), Fin.ext (by dsimp only; omega), Fin.ext (by dsimp only; omega)⟩)
  · exact View.cover_of_tiledL _ ![1, 128, 128] (by sl_kernel_rfl) _

set_option maxHeartbeats 4000000 in
/-- The spatial weight's gradient after the first point: this block's. -/
theorem out8_first (c : Dev nD) (t : Fin cfg0.N) (h : t.val % 8 = 0) (j) : (outsAt0 m c t.val t.isLt).2.1 j =
    dws (N := 512) (q := 4) rfl (iblk m c 2 t) (iblk m c 0 t) (iblk m c 3 t) j := by
  rw [outsAt0_A m c t h]
  generalize iblk m c 0 t = A, iblk m c 1 t = Z, iblk m c 2 t = D, iblk m c 3 t = L, iblk m c 4 t = W, iblk m c 5 t = WT, iblk m c 6 t = B
  frame_open; simp (disch := decide) only [↓View.readCov_skip, readCov_head, View.readCov_fill]; frame_out
  rw [canon_take _ 8]
  · simp only [List.take_succ_cons, List.take_zero]
    canon_tiles x h
    all_goals (
      open_payloads
      pointwise
      simp only [add_assoc]
      refine dws_tile D A L j _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_)
    all_goals first
      | (intro d; dsimp only; omega)
      | omega
  · exact View.cover_of_tiledL _ ![1, 128, 128] (by sl_kernel_rfl) _

end Cert.KernelIdeal.Value

end
-- ==== Proof.GateGain.lean ====
/- The spatial gate backward: the gradient at the normalised half, and what one block adds to the gradient of the gain. -/
module

public import proofs.«01_k».proof.Proof.GateRows
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Gate

variable (m : (ℓ : Loc nD τ sig) → Buf (Elt Ideal) ℓ)

/-- One chunk and group of the gradient at the normalised half, as it is stored, at its place in the block. -/
theorem dvn_tile (D : FVec Ideal (Rows 512 2048) .bf16) (A : FVec Ideal (Rows 512 4096) .bf16) (W : FVec Ideal S8x128x128 .bf16) (y : (Rows 512 2048).Idx)
    (g : Fin 8) (i : Fin 128) (r r' : Fin 128 → Fin 512) (p : Fin 128 → Fin 2048) (p' : Fin 128 → Fin 4096) (hg : g.val = (y 1).val / 256) (hi : i.val = (y 0).val % 128)
    (hr : ∀ j, (r j).val = (y 0).val / 128 * 128 + j.val) (hr' : ∀ j, (r' j).val = (y 0).val / 128 * 128 + j.val)
    (hp : ∀ j, (p j).val = (y 1).val) (hp' : ∀ j, (p' j).val = (y 1).val) :
    (∑ j : Fin 128, W (ix3 g i j) * (D (ix2 (r j) (p j)) * A (ix2 (r' j) (p' j)))) = dvn (N := 512) (q := 4) rfl D A W y := by
  obtain rfl : g = group (y 1) := Fin.ext hg
  obtain rfl : i = place (N := 512) (y 0) := Fin.ext hi
  obtain rfl : r = mate (N := 512) (q := 4) rfl (y 0) := funext fun j => Fin.ext (hr j)
  obtain rfl : r' = mate (N := 512) (q := 4) rfl (y 0) := funext fun j => Fin.ext (hr' j)
  obtain rfl : p = fun _ => y 1 := funext fun j => Fin.ext (hp j)
  obtain rfl : p' = fun _ => lower (y 1) := funext fun j => Fin.ext (hp' j)
  rfl

set_option maxHeartbeats 4000000 in
/-- The gain's gradient after a later point: what the point before left, and this block's. -/
theorem out10_next (c : Dev nD) (t : Fin cfg0.N) (h : ¬ t.val % 8 = 0) (j) : (outsAt0 m c t.val t.isLt).2.2.2 j =
    (outsAt0 m c (t.val-1) (Nat.lt_of_le_of_lt (Nat.sub_le _ _) t.isLt)).2.2.2 j + dlng (N := 512) (dvn (q := 4) rfl (iblk m c 2 t) (iblk m c 0 t) (iblk m c 5 t)) (iblk m c 0 t) j := by
  rw [outsAt0_B m c t h]
  generalize iblk m c 0 t = A, iblk m c 1 t = Z, iblk m c 2 t = D, iblk m c 3 t = L, iblk m c 4 t = W, iblk m c 5 t = WT, iblk m c 6 t = B,
    outsAt0 m c (t.val-1) (Nat.lt_of_le_of_lt (Nat.sub_le _ _) t.isLt) = P
  frame_out
  open_payloads
  rw [readCov_whole (dvn (q := 4) rfl D A WT)]
  · pointwise
    rfl
  · intro y
    canon_tiles x h
    all_goals (
      open_payloads
      pointwise
      refine dvn_tile D A WT y _ _ _ _ _ _ ?_ ?_ ?_ ?_ ?_ ?_)
    all_goals first
      | omega
      | (dsimp only; omega)
      | (intro j; dsimp only; omega)
      | (simp only [Fin.isValue, Fin.val_ofNat]; omega)
      | (simp only [Fin.isValue, Fin.coe_ofNat_eq_mod]; omega)

set_option maxHeartbeats 4000000 in
/-- The gain's gradient after the first point: this block's. -/
theorem out10_first (c : Dev nD) (t : Fin cfg0.N) (h : t.val % 8 = 0) (j) : (outsAt0 m c t.val t.isLt).2.2.2 j =
    dlng (N := 512) (dvn (q := 4) rfl (iblk m c 2 t) (iblk m c 0 t) (iblk m c 5 t)) (iblk m c 0 t) j := by
  rw [outsAt0_A m c t h]
  generalize iblk m c 0 t = A, iblk m c 1 t = Z, iblk m c 2 t = D, iblk m c 3 t = L, iblk m c 4 t = W, iblk m c 5 t = WT, iblk m c 6 t = B
  frame_open; simp (disch := decide) only [View.readCov_fill]; frame_out
  open_payloads
  rw [readCov_whole (dvn (q := 4) rfl D A WT)]
  · pointwise
    rfl
  · intro y
    canon_tiles x h
    all_goals (
      open_payloads
      pointwise
      refine dvn_tile D A WT y _ _ _ _ _ _ ?_ ?_ ?_ ?_ ?_ ?_)
    all_goals first
      | omega
      | (dsimp only; omega)
      | (intro j; dsimp only; omega)
      | (simp only [Fin.isValue, Fin.val_ofNat]; omega)
      | (simp only [Fin.isValue, Fin.coe_ofNat_eq_mod]; omega)

end Cert.KernelIdeal.Value

end
-- ==== Proof.GateInput.lean ====
/- The spatial gate backward: the gradient at the input, block by block. -/
module

public import proofs.«01_k».proof.Proof.GateRows
public import proofs.«01_k».proof.Proof.GateGain
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Gate

variable (m : (ℓ : Loc nD τ sig) → Buf (Elt Ideal) ℓ)

/-- The derivative of gelu. -/
def slope (z : EReal) : EReal :=
  Ideal.ofBits .f32 0x3F000000#32 * (1 + FloatOps.erf (F := Ideal) (φ := .f32) (z * (Named.named (F := Ideal) κ "inv_sqrt2" (φ := .f32) 0x3F3504F3#32 : EReal)))
    + z * (Ideal.exp (Ideal.ofBits .f32 0xBF000000#32 * z * z) * (Named.named (F := Ideal) κ "erf_slope" (φ := .f32) 0x3ECC422A#32 : EReal))

/-- The gradient at the gate's input: of the first half the upstream gradient times the mixed rows, of the second the norm's derivative, each times
    gelu's. -/
def dz {N q : ℕ} (hN : N = q * 128) (A Z : FVec Ideal (Rows N 4096) .bf16) (D : FVec Ideal (Rows N 2048) .bf16) (L : FVec Ideal (Rows 1 2048) .f32)
    (W WT : FVec Ideal Cube .bf16) (B : FVec Ideal (Rows 128 8) .f32) : FVec Ideal (Rows N 4096) .bf16 := fun y =>
  if h : (y 1).val < 2048 then
    D (ix2 (y 0) ⟨(y 1).val, h⟩) * mixed hN A L W B (y 0) ⟨(y 1).val, h⟩ * slope (Z (ix2 (y 0) (y 1)))
  else
    dva (dvn hN D A WT) A L (y 0) ⟨(y 1).val - 2048, by have h1 : (y 1).val < 4096 := (y 1).isLt; omega⟩ * slope (Z (ix2 (y 0) (y 1)))

/-- One chunk and group of the first half, as it is stored, at its place in the block. -/
theorem dz_tile (A Z : FVec Ideal (Rows 512 4096) .bf16) (D : FVec Ideal (Rows 512 2048) .bf16) (L : FVec Ideal S1x2048 .f32) (W WT : FVec Ideal S8x128x128 .bf16)
    (B : FVec Ideal S128x8 .f32) (y : (Rows 512 4096).Idx) (r : Fin 512) (d : Fin 2048) (p : Fin 4096) (g : Fin 8) (i : Fin 128) (q : Fin 128 → Fin 512)
    (k : Fin 128 → Fin 2048) (k' : Fin 128 → Fin 4096) (hlt : (y 1).val < 2048)
    (hr : r.val = (y 0).val) (hd : d.val = (y 1).val) (hp : p.val = (y 1).val) (hg : g.val = (y 1).val / 256) (hi : i.val = (y 0).val % 128)
    (hq : ∀ j, (q j).val = (y 0).val / 128 * 128 + j.val) (hk : ∀ j, (k j).val = (y 1).val) (hk' : ∀ j, (k' j).val = 2048 + (y 1).val) :
    D (ix2 r d) * ((∑ j : Fin 128, W (ix3 g i j) * ((A (ix2 (q j) (k' j)) - Ideal.div (∑ e : Fin 2048, A (ix2 (q j) (upper e))) (Ideal.ofBits .f32 0x45000000#32))
      * rs A (q j) * L (ix2 0 (k j)))) + B (ix2 i g)) * slope (Z (ix2 r p)) = dz (N := 512) (q := 4) rfl A Z D L W WT B y := by
  unfold dz
  rw [dif_pos hlt]
  obtain rfl : r = y 0 := Fin.ext hr
  obtain rfl : d = ⟨(y 1).val, hlt⟩ := Fin.ext hd
  obtain rfl : k = fun _ => ⟨(y 1).val, hlt⟩ := funext fun j => Fin.ext (hk j)
  obtain rfl : p = y 1 := Fin.ext hp
  obtain rfl : k' = fun _ => upper ⟨(y 1).val, hlt⟩ := funext fun j => Fin.ext (hk' j)
  obtain rfl : g = group ⟨(y 1).val, hlt⟩ := Fin.ext hg
  obtain rfl : i = place (N := 512) (y 0) := Fin.ext hi
  obtain rfl : q = mate (N := 512) (q := 4) rfl (y 0) := funext fun j => Fin.ext (hq j)
  rfl

/-- The second half, as it is stored, at its place in the block. -/
theorem dz_right (A Z : FVec Ideal (Rows 512 4096) .bf16) (D : FVec Ideal (Rows 512 2048) .bf16) (L : FVec Ideal S1x2048 .f32) (W WT : FVec Ideal S8x128x128 .bf16)
    (B : FVec Ideal S128x8 .f32) (y : (Rows 512 4096).Idx) (r : Fin 512) (k : Fin 2048) (p : Fin 4096) (hr : (y 0).val = r.val) (hk : (y 1).val = 2048 + k.val) (hp : p.val = 2048 + k.val) :
    dva (dvn (N := 512) (q := 4) rfl D A WT) A L r k * slope (Z (ix2 r p)) = dz (N := 512) (q := 4) rfl A Z D L W WT B y := by
  unfold dz
  rw [dif_neg (by omega)]
  obtain rfl : r = y 0 := Fin.ext hr.symm
  obtain rfl : p = y 1 := Fin.ext (hp.trans hk.symm)
  exact congrArg (fun k => dva (dvn (N := 512) (q := 4) rfl D A WT) A L (y 0) k * slope (Z (ix2 (y 0) (y 1)))) (Fin.ext (by dsimp only; omega))

set_option maxHeartbeats 4000000 in
/-- The gradient at the gate's input after a later point. -/
theorem out7_next (c : Dev nD) (t : Fin cfg0.N) (h : ¬ t.val % 8 = 0) (j) : (outsAt0 m c t.val t.isLt).1 j =
    dz (N := 512) (q := 4) rfl (iblk m c 0 t) (iblk m c 1 t) (iblk m c 2 t) (iblk m c 3 t) (iblk m c 4 t) (iblk m c 5 t) (iblk m c 6 t) j := by
  rw [outsAt0_B m c t h]
  generalize iblk m c 0 t = A, iblk m c 1 t = Z, iblk m c 2 t = D, iblk m c 3 t = L, iblk m c 4 t = W, iblk m c 5 t = WT, iblk m c 6 t = B,
    outsAt0 m c (t.val-1) (Nat.lt_of_le_of_lt (Nat.sub_le _ _) t.isLt) = P
  frame_out
  canon_tiles x h using View.cover_of_tiledBy _ ![128, 256] (by sl_kernel_rfl) _
  · open_payloads
    rw [readCov_whole (dvn (q := 4) rfl D A WT)]
    · pointwise
      exact dz_right A Z D L W WT B j (x 0) (x 1) ⟨2048 + (x 1).val, by omega⟩ h0 h1 rfl
    · intro y
      canon_tiles x h
      all_goals (
        open_payloads
        pointwise
        refine dvn_tile D A WT y _ _ _ _ _ _ ?_ ?_ ?_ ?_ ?_ ?_)
      all_goals first
        | omega
        | (dsimp only; omega)
        | (intro j; dsimp only; omega)
        | (simp only [Fin.isValue, Fin.val_ofNat]; omega)
        | (simp only [Fin.isValue, Fin.coe_ofNat_eq_mod]; omega)
  all_goals (
    open_payloads
    pointwise
    refine dz_tile A Z D L W WT B j _ _ _ _ _ _ _ _ ?_ ?_ ?_ ?_ ?_ ?_ ?_ ?_ ?_)
  all_goals first
    | omega
    | (dsimp only; omega)
    | (intro j; dsimp only; omega)
    | (simp only [Fin.isValue, Fin.val_ofNat]; omega)
    | (simp only [Fin.isValue, Fin.coe_ofNat_eq_mod]; omega)

set_option maxHeartbeats 4000000 in
/-- The gradient at the gate's input after the first point. -/
theorem out7_first (c : Dev nD) (t : Fin cfg0.N) (h : t.val % 8 = 0) (j) : (outsAt0 m c t.val t.isLt).1 j =
    dz (N := 512) (q := 4) rfl (iblk m c 0 t) (iblk m c 1 t) (iblk m c 2 t) (iblk m c 3 t) (iblk m c 4 t) (iblk m c 5 t) (iblk m c 6 t) j := by
  rw [outsAt0_A m c t h]
  generalize iblk m c 0 t = A, iblk m c 1 t = Z, iblk m c 2 t = D, iblk m c 3 t = L, iblk m c 4 t = W, iblk m c 5 t = WT, iblk m c 6 t = B
  frame_out
  canon_tiles x h using View.cover_of_tiledBy _ ![128, 256] (by sl_kernel_rfl) _
  · open_payloads
    rw [readCov_whole (dvn (q := 4) rfl D A WT)]
    · pointwise
      exact dz_right A Z D L W WT B j (x 0) (x 1) ⟨2048 + (x 1).val, by omega⟩ h0 h1 rfl
    · intro y
      canon_tiles x h
      all_goals (
        open_payloads
        pointwise
        refine dvn_tile D A WT y _ _ _ _ _ _ ?_ ?_ ?_ ?_ ?_ ?_)
      all_goals first
        | omega
        | (dsimp only; omega)
        | (intro j; dsimp only; omega)
        | (simp only [Fin.isValue, Fin.val_ofNat]; omega)
        | (simp only [Fin.isValue, Fin.coe_ofNat_eq_mod]; omega)
  all_goals (
    open_payloads
    pointwise
    refine dz_tile A Z D L W WT B j _ _ _ _ _ _ _ _ ?_ ?_ ?_ ?_ ?_ ?_ ?_ ?_ ?_)
  all_goals first
    | omega
    | (dsimp only; omega)
    | (intro j; dsimp only; omega)
    | (simp only [Fin.isValue, Fin.val_ofNat]; omega)
    | (simp only [Fin.isValue, Fin.coe_ofNat_eq_mod]; omega)

end Cert.KernelIdeal.Value

end
-- ==== Proof.GateArray.lean ====
/- The spatial gate backward: the four results as the call returns them, in the arrays it reads. -/
module

public import proofs.«01_k».proof.Proof.GateBias
public import proofs.«01_k».proof.Proof.GateSpatial
public import proofs.«01_k».proof.Proof.GateGain
public import proofs.«01_k».proof.Proof.GateInput
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Gate

variable (m : (ℓ : Loc nD τ sig) → Buf (Elt Ideal) ℓ)

/-- Which block of its array each window shows at grid point `t`. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0, 0]
    ∧ win0_5.index t = ![0, 0, 0]
    ∧ win0_6.index t = ![0, 0]
    ∧ win0_7.index t = ![t.val, 0]
    ∧ win0_8.index t = ![0, 0, 0]
    ∧ win0_9.index t = ![0, 0]
    ∧ win0_10.index t = ![0, 0] :=
  (by decide +kernel : ∀ t : Fin grid0.N, _)

/-- The bias's gradient after the last point. -/
theorem acc9 (c : Dev nD) (j) : (outsAt0 m c t0_7.val t0_7.isLt).2.2.1 j = dbt (N := 4096) (q := 32) rfl (V m c main_v20) (V m c main_v18) j := by
  rw [Pipeline.eq_sum_fin_of_reset_step_apply_last (fun n h => (outsAt0 m c n h).2.2.1) 8 (fun _ => 0)
    (fun t j => dbt (N := 512) (q := 4) rfl (iblk m c 2 t) (iblk m c 0 t) j)
    (fun t h j => by rw [out9_first m c t h, zero_add])
    (fun t h j => out9_next m c t h j)
    (le_of_eq N_0) t0_7 rfl j, zero_add]
  pointwise [dbt, dm, chunk, column, lower]
  refine Fin.sum_mul_add_congr (fun p k hl => ?_)
  refine Finset.sum_congr rfl fun d _ => ?_
  blk_point [iblk, idx p]

/-- The bias's gradient as the call returns it. -/
theorem result9 (c : Dev nD) : (dats m 0 c).arrAt 9 (cfgs 0).N = dbt (N := 4096) (q := 32) rfl (V m c main_v20) (V m c main_v18) := by
  refine (dats m 0 c).arrAt_eq_of_after_last 9 t0_7 (by decide +kernel) _ fun j => ?_
  blk_simp
  rw [after0_9]
  exact acc9 m c j

/-- The spatial weight's gradient after the last point. -/
theorem acc8 (c : Dev nD) (j) : (outsAt0 m c t0_7.val t0_7.isLt).2.1 j = dws (N := 4096) (q := 32) rfl (V m c main_v20) (V m c main_v18) (V m c main_v21) j := by
  rw [Pipeline.eq_sum_fin_of_reset_step_apply_last (fun n h => (outsAt0 m c n h).2.1) 8 (fun _ => 0)
    (fun t j => dws (N := 512) (q := 4) rfl (iblk m c 2 t) (iblk m c 0 t) (iblk m c 3 t) j)
    (fun t h j => by rw [out8_first m c t h, zero_add])
    (fun t h j => out8_next m c t h j)
    (le_of_eq N_0) t0_7 rfl j, zero_add]
  pointwise [dws, dm, below, chunk, column, vn, xh, xc, rs, upper, lower]
  refine Fin.sum_mul_add_congr (fun p k hl => ?_)
  refine congrArg (fun z => Scalar.select _ z (0 : EReal)) (Finset.sum_congr rfl fun d _ => ?_)
  blk_point [iblk, idx p]

/-- The spatial weight's gradient as the call returns it. -/
theorem result8 (c : Dev nD) : (dats m 0 c).arrAt 8 (cfgs 0).N = dws (N := 4096) (q := 32) rfl (V m c main_v20) (V m c main_v18) (V m c main_v21) := by
  refine (dats m 0 c).arrAt_eq_of_after_last 8 t0_7 (by decide +kernel) _ fun j => ?_
  blk_simp
  rw [after0_8]
  exact acc8 m c j

/-- The gain's gradient after the last point. -/
theorem acc10 (c : Dev nD) (j) : (outsAt0 m c t0_7.val t0_7.isLt).2.2.2 j = dlng (N := 4096) (dvn (q := 32) rfl (V m c main_v20) (V m c main_v18) (V m c main_v6)) (V m c main_v18) j := by
  rw [Pipeline.eq_sum_fin_of_reset_step_apply_last (fun n h => (outsAt0 m c n h).2.2.2) 8 (fun _ => 0)
    (fun t j => dlng (N := 512) (dvn (q := 4) rfl (iblk m c 2 t) (iblk m c 0 t) (iblk m c 5 t)) (iblk m c 0 t) j)
    (fun t h j => by rw [out10_first m c t h, zero_add])
    (fun t h j => out10_next m c t h j)
    (le_of_eq N_0) t0_7 rfl j, zero_add]
  pointwise [dlng, dvn, dm, mate, group, place, vn, xh, xc, rs, upper, lower]
  refine Fin.sum_mul_add_congr (fun p k hl => ?_)
  blk_point [iblk, idx p]

/-- The gain's gradient as the call returns it. -/
theorem result10 (c : Dev nD) : (dats m 0 c).arrAt 10 (cfgs 0).N = dlng (N := 4096) (dvn (q := 32) rfl (V m c main_v20) (V m c main_v18) (V m c main_v6)) (V m c main_v18) := by
  refine (dats m 0 c).arrAt_eq_of_after_last 10 t0_7 (by decide +kernel) _ fun j => ?_
  blk_simp
  rw [after0_10]
  exact acc10 m c j

section Block
variable {N q : ℕ} (hN : N = q * 128) (A Z : FVec Ideal (Rows N 4096) .bf16) (D : FVec Ideal (Rows N 2048) .bf16) (L : FVec Ideal (Rows 1 2048) .f32)
  (W WT : FVec Ideal Cube .bf16) (B : FVec Ideal (Rows 128 8) .f32)

/-- An entry of the first half. -/
theorem dz_left (i : Fin N) (k : Fin 4096) (h : k.val < 2048) : dz hN A Z D L W WT B (ix2 i k)
    = D (ix2 i ⟨k.val, h⟩) * mixed hN A L W B i ⟨k.val, h⟩ * slope (Z (ix2 i k)) := dif_pos h

/-- An entry of the second half. -/
theorem dz_upper (i : Fin N) (k : Fin 4096) (h : ¬ k.val < 2048) : dz hN A Z D L W WT B (ix2 i k)
    = dva (dvn hN D A WT) A L i ⟨k.val - 2048, by omega⟩ * slope (Z (ix2 i k)) := dif_neg h
end Block

/-- Row `i` of block `b`, a block being 512 rows. -/
def row (b : Fin 8) (i : Fin 512) : Fin 4096 := ⟨b.val * 512 + i.val, by omega⟩

/-- A block of the gradient at the input is that of the blocks. -/
theorem dz_block (b : Fin 8) (A Z : FVec Ideal (Rows 4096 4096) .bf16) (D : FVec Ideal (Rows 4096 2048) .bf16) (L : FVec Ideal (Rows 1 2048) .f32)
    (W WT : FVec Ideal Cube .bf16) (B : FVec Ideal (Rows 128 8) .f32) (A' Z' : FVec Ideal (Rows 512 4096) .bf16) (D' : FVec Ideal (Rows 512 2048) .bf16)
    (hA : ∀ i k, A' (ix2 i k) = A (ix2 (row b i) k)) (hZ : ∀ i k, Z' (ix2 i k) = Z (ix2 (row b i) k)) (hD : ∀ i k, D' (ix2 i k) = D (ix2 (row b i) k))
    (i : Fin 512) (k : Fin 4096) : dz (N := 512) (q := 4) rfl A' Z' D' L W WT B (ix2 i k) = dz (N := 4096) (q := 32) rfl A Z D L W WT B (ix2 (row b i) k) := by
  have e1 (i : Fin 512) (j : Fin 128) : mate (N := 4096) (q := 32) rfl (row b i) j = row b (mate (N := 512) (q := 4) rfl i j) :=
    Fin.ext (by simp only [mate, row]; omega)
  have e2 (i : Fin 512) : place (row b i) = place i := Fin.ext (by simp only [place, row]; omega)
  have hx i k : xc A' i k = xc A (row b i) k := by unfold xc; simp only [hA]
  have hr i : rs A' i = rs A (row b i) := by unfold rs; simp only [hx]
  have hh i k : xh A' i k = xh A (row b i) k := by unfold xh; simp only [hx, hr]
  have hm i k : mixed (N := 512) (q := 4) rfl A' L W B i k = mixed (N := 4096) (q := 32) rfl A L W B (row b i) k := by
    unfold mixed vn; simp only [hh, e1, e2]
  have hd (i : Fin 512) (k : Fin 2048) : dvn (N := 512) (q := 4) rfl D' A' WT (ix2 i k) = dvn (N := 4096) (q := 32) rfl D A WT (ix2 (row b i) k) := by
    show ∑ j : Fin 128, WT (ix3 (group k) (place i) j) * (D' (ix2 (mate (N := 512) (q := 4) rfl i j) k) * A' (ix2 (mate (N := 512) (q := 4) rfl i j) (lower k)))
      = ∑ j : Fin 128, WT (ix3 (group k) (place (row b i)) j) * (D (ix2 (mate (N := 4096) (q := 32) rfl (row b i) j) k) * A (ix2 (mate (N := 4096) (q := 32) rfl (row b i) j) (lower k)))
    simp only [hA, hD, e1, e2]
  by_cases h : k.val < 2048
  · rw [dz_left (N := 512) (q := 4) rfl A' Z' D' L W WT B i k h, dz_left (N := 4096) (q := 32) rfl A Z D L W WT B (row b i) k h, hm, hD, hZ]
  · rw [dz_upper (N := 512) (q := 4) rfl A' Z' D' L W WT B i k h, dz_upper (N := 4096) (q := 32) rfl A Z D L W WT B (row b i) k h, hZ]
    unfold dva
    simp only [hr, hh, hd]

/-- The gradient at the input, as the call returns it. -/
theorem result7 (c : Dev nD) : (dats m 0 c).arrAt 7 (cfgs 0).N = dz (N := 4096) (q := 32) rfl (V m c main_v18) (V m c main_v19) (V m c main_v20) (V m c main_v21) (V m c main_v4) (V m c main_v6) (V m c main_v7) := by
  refine (dats m 0 c).arrAt_eq_of_covers 7 _ (by decide +kernel) fun t hf y => ?_
  blk_simp
  have e : (outsAt0 m c t.val t.isLt).1 y = dz (N := 512) (q := 4) rfl (iblk m c 0 t) (iblk m c 1 t) (iblk m c 2 t) (iblk m c 3 t) (iblk m c 4 t) (iblk m c 5 t) (iblk m c 6 t) y := by
    by_cases h : t.val % 8 = 0
    · exact out7_first m c t h y
    · exact out7_next m c t h y
  rw [after0_7, e]
  have e3 : (iblk m c 3 t : FVec Ideal (Rows 1 2048) .f32) = V m c main_v21 := by funext y; blk_point [iblk, idx t]
  have e4 : (iblk m c 4 t : FVec Ideal Cube .bf16) = V m c main_v4 := by funext y; blk_point [iblk, idx t]
  have e5 : (iblk m c 5 t : FVec Ideal Cube .bf16) = V m c main_v6 := by funext y; blk_point [iblk, idx t]
  have e6 : (iblk m c 6 t : FVec Ideal (Rows 128 8) .f32) = V m c main_v7 := by funext y; blk_point [iblk, idx t]
  rw [e3, e4, e5, e6]
  obtain ⟨i, k, rfl⟩ : ∃ (i : Fin 512) (k : Fin 4096), y = ix2 i k := ⟨_, _, eq_ix2 y⟩
  refine (dz_block ⟨t.val, t.isLt⟩ (V m c main_v18) (V m c main_v19) (V m c main_v20) _ _ _ _ _ _ _ (fun i k => ?_) (fun i k => ?_) (fun i k => ?_) i k).trans ?_
  · unfold row; blk_point [iblk, idx t]
  · unfold row; blk_point [iblk, idx t]
  · unfold row; blk_point [iblk, idx t]
  · refine congrArg _ ?_
    unfold row
    blk_point [iblk, idx t]

end Cert.KernelIdeal.Value

end
-- ==== Proof.Reals.lean ====
/- Facts about finite extended reals, and the backward pass of a normalised row. -/
module

public import Idealize.ShloMosaic.PureOps.Ideal
public import Idealize.ShloMosaic.Lib.ReduceAll
public import Idealize.ShloMosaic.Lib.IdealHost
public import Idealize.ShloMosaic.Lib.Pointwise

@[expose] public section

noncomputable section

namespace Cert.Proof
open Idealize.ShloMosaic
open scoped BigOperators

/-- An extended real that is neither of the infinities. -/
def IsReal (v : EReal) : Prop := ∃ r : ℝ, v = r

namespace IsReal
variable {a b : EReal}
theorem coe (r : ℝ) : IsReal (r : EReal) := ⟨r, rfl⟩
theorem add (ha : IsReal a) (hb : IsReal b) : IsReal (a + b) := by
  obtain ⟨x, rfl⟩ := ha; obtain ⟨y, rfl⟩ := hb; exact ⟨x + y, (EReal.coe_add x y).symm⟩
theorem mul (ha : IsReal a) (hb : IsReal b) : IsReal (a * b) := by
  obtain ⟨x, rfl⟩ := ha; obtain ⟨y, rfl⟩ := hb; exact ⟨x * y, (EReal.coe_mul x y).symm⟩
theorem max (ha : IsReal a) (hb : IsReal b) : IsReal (Max.max a b) := by
  rcases max_choice a b with h | h <;> rw [h] <;> assumption
theorem sum {ι : Type*} [Fintype ι] {f : ι → EReal} (h : ∀ i, IsReal (f i)) : IsReal (∑ i, f i) := by
  choose g hg using h
  exact ⟨∑ i, g i, by simp only [hg]; exact (map_sum (⟨⟨Real.toEReal, EReal.coe_zero⟩, EReal.coe_add⟩ : ℝ →+ EReal) g Finset.univ).symm⟩
end IsReal

/-- A sum of reals, taken among the extended reals. -/
theorem coe_sum {ι : Type*} [Fintype ι] (f : ι → ℝ) : (∑ i, (f i : EReal)) = ((∑ i, f i : ℝ) : EReal) :=
  (map_sum (⟨⟨Real.toEReal, EReal.coe_zero⟩, EReal.coe_add⟩ : ℝ →+ EReal) f Finset.univ).symm

/-- What the test `|v| < ∞` says. -/
theorem fin_of_abs_lt {v : EReal} (h : FloatOps.cmpf (F := Ideal) (φ := .f32) .olt (FloatOps.hostAbsf (F := Ideal) (φ := .f32) v) (FloatOps.ofBits (F := Ideal) .f32 0x7F800000#32) = 1#1) : IsReal v := by
  have e : FloatOps.ofBits (F := Ideal) .f32 0x7F800000#32 = (⊤ : EReal) := by
    show Ideal.ofBits .f32 0x7F800000#32 = ⊤
    simp [Ideal.ofBits, Ideal.ieee]
  have h' : max v (-v) < ⊤ := by
    rw [e] at h
    by_contra hn
    have : Ideal.cmp .olt (max v (-v)) ⊤ = 1#1 := h
    simp [Ideal.cmp, hn] at this
  induction v with
  | bot => simp at h'
  | top => simp at h'
  | coe r => exact ⟨r, rfl⟩

/-- The reciprocal root of a positive real. -/
theorem rsqrt_coe {v : ℝ} (h : 0 < v) : Ideal.rsqrt (v : EReal) = ((√v)⁻¹ : ℝ) := by
  show (if v < 0 then ⊥ else if v = 0 then ⊤ else (((√v)⁻¹ : ℝ) : EReal)) = _
  rw [if_neg (not_lt.2 h.le), if_neg h.ne']

/-- The mean square of a finite row, plus a positive constant, is a positive real. -/
theorem ms_pos {n : ℕ} (X : Fin n → ℝ) (N ε : ℝ) (hN : 0 < N) (hε : 0 < ε) : 0 < (∑ d, X d * X d) * (1 / N) + ε := by
  have : 0 ≤ ∑ d, X d * X d := Finset.sum_nonneg fun d _ => mul_self_nonneg _
  positivity

theorem ms_coe {n : ℕ} (X : Fin n → ℝ) (N ε : ℝ) (hN : 0 < N) :
    Ideal.div (∑ d, (X d : EReal) * (X d : EReal)) (N : EReal) + (ε : EReal) = (((∑ d, X d * X d) * (1 / N) + ε : ℝ) : EReal) := by
  simp only [← EReal.coe_mul, coe_sum, Ideal.div_coe hN.ne', ← EReal.coe_add]

/-- The reciprocal root mean square of a finite row is finite. -/
theorem rms_finite {n : ℕ} (x : Fin n → EReal) (hx : ∀ d, IsReal (x d)) (N ε : ℝ) (hN : 0 < N) (hε : 0 < ε) :
    IsReal (Ideal.rsqrt (Ideal.div (∑ d, x d * x d) (N : EReal) + (ε : EReal))) := by
  choose X hX using hx
  simp only [hX, ms_coe X N ε hN, rsqrt_coe (ms_pos X N ε hN hε)]
  exact .coe _

/-- The backward pass of `x · (mean x² + ε)^(-1/2)` along a row: the gradient written with the normalised row against the
    derivative taken operation by operation. -/
theorem rms_row {n : ℕ} (x e : Fin n → EReal) (hx : ∀ d, IsReal (x d)) (he : ∀ d, IsReal (e d)) (N ε : ℝ) (hN : 0 < N) (hε : 0 < ε) (j : Fin n) :
    let v := Ideal.div (∑ d, x d * x d) (N : EReal) + (ε : EReal)
    let s := Ideal.rsqrt v
    let q := Ideal.div ((∑ d, x d * e d) * (((-1/2 : ℝ) : EReal) * Ideal.div s v)) (N : EReal)
    s * (e j - x j * s * Ideal.div (∑ d, e d * (x d * s)) (N : EReal)) = e j * s + x j * q + q * x j := by
  choose X hX using hx
  choose E hE using he
  intro v s q
  have hpos := ms_pos X N ε hN hε
  have hv : v = (((∑ d, X d * X d) * (1 / N) + ε : ℝ) : EReal) := by simp only [v, hX]; exact ms_coe X N ε hN
  set V : ℝ := (∑ d, X d * X d) * (1 / N) + ε with hV
  have hs : s = ((√V)⁻¹ : ℝ) := by simp only [s, hv]; exact rsqrt_coe hpos
  have h2 : (√V)⁻¹ * (√V)⁻¹ = 1 / V := by rw [← mul_inv, Real.mul_self_sqrt hpos.le, one_div]
  set S : ℝ := (√V)⁻¹
  have hq : q = (((∑ d, X d * E d) * ((-1/2) * (S * (1 / V))) * (1 / N) : ℝ) : EReal) := by
    simp only [q, hv, hs, hX, hE, ← EReal.coe_mul, coe_sum, Ideal.div_coe hN.ne', Ideal.div_coe hpos.ne']
  rw [hq, hs]
  simp only [hX, hE, ← EReal.coe_mul, coe_sum, Ideal.div_coe hN.ne', ← EReal.coe_add, ← EReal.coe_sub]
  congr 1
  have hT : ∑ d, E d * (X d * S) = (∑ d, X d * E d) * S := by rw [Finset.sum_mul]; exact Finset.sum_congr rfl fun d _ => by ring
  rw [hT, ← h2]; ring

/-- The derivative of the squared rectifier: the rectifier's own branch adds nothing to the product with its value. -/
theorem relu_grad (a b t : EReal) : (if 0 < a then b * (t * max a 0) else 0) = b * (t * max a 0) := by
  split
  · rfl
  · next h => rw [max_eq_right (not_lt.1 h), mul_zero, mul_zero]

/-! The float constants of the programs, as reals. -/

theorem ofBits_1024 : Ideal.ofBits .f32 0x44800000#32 = ((1024 : ℝ) : EReal) := by
  simp [Ideal.ofBits, Ideal.ieee, -EReal.coe_mul, -EReal.coe_neg]; norm_num
theorem ofBits_2048 : Ideal.ofBits .f32 0x45000000#32 = ((2048 : ℝ) : EReal) := by
  simp [Ideal.ofBits, Ideal.ieee, -EReal.coe_mul, -EReal.coe_neg]; norm_num
theorem ofBits_neg_half : Ideal.ofBits .f32 0xBF000000#32 = ((-1/2 : ℝ) : EReal) := by
  simp [Ideal.ofBits, Ideal.ieee, -EReal.coe_mul, -EReal.coe_neg]; norm_num
theorem ofBits_two : Ideal.ofBits .f32 0x40000000#32 = ((2 : ℝ) : EReal) := by
  simp [Ideal.ofBits, Ideal.ieee, -EReal.coe_mul, -EReal.coe_neg]; norm_num
theorem ofBits_eps : Ideal.ofBits .f32 0x358637BD#32 = ((8796093 / 8796093022208 : ℝ) : EReal) := by
  simp [Ideal.ofBits, Ideal.ieee, -EReal.coe_mul, -EReal.coe_neg]; norm_num

/-- The two spellings of the argument of the error function. -/
theorem div_sqrt2 (z : EReal) : Ideal.div z (Ideal.sqrt (Ideal.ofBits .f32 0x40000000#32)) = z * (((Real.sqrt 2)⁻¹ : ℝ) : EReal) := by
  rw [ofBits_two, Ideal.sqrt_coe, if_neg (by norm_num), Ideal.div_coe (by positivity), one_div]

end Cert.Proof

end
-- ==== Proof.GateReals.lean ====
/- The layer norm's backward pass along a row and gelu's derivative, each in two spellings. -/
module

public import proofs.«01_k».proof.Proof.Reals

@[expose] public section

noncomputable section

namespace Cert.Proof
open Idealize.ShloMosaic
open scoped BigOperators

theorem ofBits_half : Ideal.ofBits .f32 0x3F000000#32 = ((1/2 : ℝ) : EReal) := by
  simp [Ideal.ofBits, Ideal.ieee, -EReal.coe_mul, -EReal.coe_neg]; norm_num
theorem ofBits_erf_factor : Ideal.ofBits .f32 0x3F906EBB#32 = ((9465531/8388608 : ℝ) : EReal) := by
  simp [Ideal.ofBits, Ideal.ieee, -EReal.coe_mul, -EReal.coe_neg]; norm_num

namespace IsReal
variable {a b : EReal}
theorem sub (ha : IsReal a) (hb : IsReal b) : IsReal (a - b) := by
  obtain ⟨x, rfl⟩ := ha; obtain ⟨y, rfl⟩ := hb; exact ⟨x - y, (EReal.coe_sub x y).symm⟩
theorem div {r : ℝ} (hr : r ≠ 0) (ha : IsReal a) : IsReal (Ideal.div a (r : EReal)) := by
  rw [Ideal.div_coe hr]; exact ha.mul (.coe _)
theorem erf (ha : IsReal a) : IsReal (Ideal.erf a) := by
  obtain ⟨x, rfl⟩ := ha; exact ⟨_, Ideal.erf_coe x⟩
theorem select {c : BitVec 1} (ha : IsReal a) (hb : IsReal b) : IsReal (Scalar.select c a b) := by
  unfold Scalar.select; split <;> assumption
end IsReal

/-- Gelu's derivative times an upstream gradient: taken operation by operation, and with the constants folded. -/
theorem gelu_grad (z g : EReal) (hz : IsReal z) (hg : IsReal g) :
    ((9465531/8388608 : ℝ) : EReal) * (((1/2 : ℝ) : EReal) * z * g) * Ideal.exp (-(z * (((√2)⁻¹ : ℝ) : EReal) * (z * (((√2)⁻¹ : ℝ) : EReal)))) * (((√2)⁻¹ : ℝ) : EReal)
      + ((1/2 : ℝ) : EReal) * (g * (1 + Ideal.erf (z * (((√2)⁻¹ : ℝ) : EReal))))
    = g * (((1/2 : ℝ) : EReal) * (1 + Ideal.erf (z * (((√2)⁻¹ : ℝ) : EReal)))
      + z * (Ideal.exp (((-1/2 : ℝ) : EReal) * z * z) * (((9465531/16777216 : ℝ) * (√2)⁻¹ : ℝ) : EReal))) := by
  obtain ⟨Z, rfl⟩ := hz
  obtain ⟨G, rfl⟩ := hg
  obtain ⟨E, hE⟩ := IsReal.erf (.coe (Z * (√2)⁻¹))
  have h2 : (√2 : ℝ)⁻¹ * (√2)⁻¹ = 1/2 := by rw [← mul_inv, Real.mul_self_sqrt (by norm_num)]; norm_num
  have hx : -(Z * (√2)⁻¹ * (Z * (√2)⁻¹)) = -1/2 * Z * Z := by linear_combination (-Z * Z) * h2
  rw [← EReal.coe_one]
  simp only [← EReal.coe_mul, ← EReal.coe_neg, hx, Ideal.exp_coe, hE, ← EReal.coe_add]
  congr 1
  ring

/-- The backward pass of a centred and scaled row: the derivative taken operation by operation, the mean's part last, against the gradient
    written with the normalised row. -/
theorem norm_row {n : ℕ} (x e : Fin n → EReal) (hx : ∀ d, IsReal (x d)) (he : ∀ d, IsReal (e d)) (N ε : ℝ) (hn : N = n) (hN : 0 < N) (hε : 0 < ε) (j : Fin n) :
    let c := fun k => x k - Ideal.div (∑ d, x d) (N : EReal)
    let v := Ideal.div (∑ d, c d * c d) (N : EReal) + (ε : EReal)
    let s := Ideal.rsqrt v
    let q := Ideal.div ((∑ d, c d * e d) * (((-1/2 : ℝ) : EReal) * Ideal.div s v)) (N : EReal)
    let p := fun k => e k * s + c k * q + q * c k
    p j + Ideal.div (∑ d, -p d) (N : EReal)
      = s * (e j - Ideal.div (∑ d, e d) (N : EReal) - c j * s * Ideal.div (∑ d, e d * (c d * s)) (N : EReal)) := by
  choose X hX using hx
  choose E hE using he
  intro c v s q p
  set C : Fin n → ℝ := fun k => X k - (∑ d, X d) * (1 / N) with hC
  have hc k : c k = (C k : EReal) := by
    simp only [c, hC, hX, coe_sum, Ideal.div_coe hN.ne', ← EReal.coe_mul, ← EReal.coe_sub]
  have hpos := ms_pos C N ε hN hε
  have hv : v = (((∑ d, C d * C d) * (1 / N) + ε : ℝ) : EReal) := by simp only [v, hc]; exact ms_coe C N ε hN
  set V : ℝ := (∑ d, C d * C d) * (1 / N) + ε with hV
  have hs : s = ((√V)⁻¹ : ℝ) := by simp only [s, hv]; exact rsqrt_coe hpos
  have h2 : (√V)⁻¹ * (√V)⁻¹ = 1 / V := by rw [← mul_inv, Real.mul_self_sqrt hpos.le, one_div]
  set S : ℝ := (√V)⁻¹
  have hq : q = (((∑ d, C d * E d) * ((-1/2) * (S * (1 / V))) * (1 / N) : ℝ) : EReal) := by
    simp only [q, hv, hs, hc, hE, ← EReal.coe_mul, coe_sum, Ideal.div_coe hN.ne', Ideal.div_coe hpos.ne']
  set Q : ℝ := (∑ d, C d * E d) * ((-1/2) * (S * (1 / V))) * (1 / N) with hQ
  have hp k : p k = ((E k * S + C k * Q + Q * C k : ℝ) : EReal) := by
    simp only [p, hq, hs, hc, hE, ← EReal.coe_mul, ← EReal.coe_add]
  have h0 : ∑ d, C d = 0 := by
    simp only [hC, Finset.sum_sub_distrib, Finset.sum_const, Finset.card_univ, Fintype.card_fin, nsmul_eq_mul, ← hn]
    field_simp; ring
  have hP : ∑ d, -(E d * S + C d * Q + Q * C d) = -((∑ d, E d) * S) := by
    have : ∀ d, -(E d * S + C d * Q + Q * C d) = -(E d * S) - C d * (2 * Q) := fun d => by ring
    simp only [this, Finset.sum_sub_distrib, Finset.sum_neg_distrib, ← Finset.sum_mul, h0]; ring
  have hT : ∑ d, E d * (C d * S) = (∑ d, C d * E d) * S := by rw [Finset.sum_mul]; exact Finset.sum_congr rfl fun d _ => by ring
  simp only [hp, hs, hc, hE, ← EReal.coe_mul, ← EReal.coe_neg, coe_sum, Ideal.div_coe hN.ne', ← EReal.coe_add, ← EReal.coe_sub]
  congr 1
  rw [hT, hP, hQ, ← h2]; ring

end Cert.Proof

end
-- ==== Proof.GateReference.lean ====
/- The spatial gate backward: the operations of the reference in the plain formulas. -/
module

public import proofs.«01_k».proof.Proof.GateRows
public import proofs.«01_k».proof.Proof.Gen.ReferenceIdeal.Run
public import Idealize.ShloMosaic.Lib.Pipeline.Value
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.Gate

/-- Gelu of the input. -/
def act (z : FVec Ideal (Rows 4096 4096) .f32) : FVec Ideal (Rows 4096 4096) .bf16 := fun y =>
  Ideal.ofBits .f32 0x3F000000#32 * z (ix2 (y 0) (y 1)) * (1 + Ideal.erf (Ideal.div (z (ix2 (y 0) (y 1))) (Ideal.sqrt (Ideal.ofBits .f32 0x40000000#32))))

/-- The gain as one row. -/
def gain (g : FVec Ideal ⟨1, ![2048]⟩ .f32) : FVec Ideal (Rows 1 2048) .f32 := fun y => g (ix1 (y 1))

/-- The spatial weight, zero above the diagonal. -/
def masked (w : FVec Ideal Cube .f32) : FVec Ideal Cube .bf16 := fun y => Scalar.select (below (y 1) (y 2)) (w (ix3 (y 0) (y 1) (y 2))) (0 : EReal)

/-- The masked spatial weight, each group transposed. -/
def flipped (w : FVec Ideal Cube .f32) : FVec Ideal Cube .bf16 := fun y => Scalar.select (below (y 2) (y 1)) (w (ix3 (y 0) (y 2) (y 1))) (0 : EReal)

/-- The spatial bias, transposed. -/
def bias (b : FVec Ideal ⟨2, ![8, 128]⟩ .f32) : FVec Ideal (Rows 128 8) .f32 := fun y => b (ix2 (y 1) (y 0))

/-- A sum that is kept or dropped whole is one whose terms are. -/
theorem select_sum {n : ℕ} (b : BitVec 1) (f : Fin n → EReal) : Scalar.select b (∑ k, f k) 0 = ∑ k, Scalar.select b (f k) 0 := by
  unfold Scalar.select
  split
  · rfl
  · rw [Finset.sum_const_zero]

/-- A sum over the first and the last of four axes. -/
theorem sum_outer {n0 n1 n2 n3 : ℕ} (h : (⟨4, ![n0, n1, n2, n3]⟩ : Shape).ReducesTo [0, 3] ⟨2, ![n1, n2]⟩) (v : (⟨4, ![n0, n1, n2, n3]⟩ : Shape).Idx → EReal)
    (init : EReal) (i : Fin n1) (g : Fin n2) : Ideal.hostReduceAdd h v init (ix2 i g) = init + ∑ k : Fin n0, ∑ l : Fin n3, v (ix4 k i g l) := by
  have fib (x : (⟨4, ![n0, n1, n2, n3]⟩ : Shape).Idx) : h.drop x = ix2 i g ↔ ∃ p : Fin n0 × Fin n3, ix4 p.1 i g p.2 = x := by
    constructor
    · intro e
      refine ⟨(x 0, x 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨p, rfl⟩
      funext a
      apply Fin.ext
      match a with
      | ⟨0, _⟩ => rfl
      | ⟨1, _⟩ => rfl
  refine congrArg (init + ·) ((Finset.sum_filter_eq_sum_of_fiber _ (fun p : Fin n0 × Fin n3 => ix4 p.1 i g p.2)
    (fun _ _ e => Prod.ext (congrFun e 0) (congrFun e 3)) fib v).trans ?_)
  simp only [Fintype.sum_prod_type]

/-- A column is its place in its group. -/
theorem column_div (k : Fin 2048) : column ⟨k.val / 256, by omega⟩ ⟨k.val % 256, Nat.mod_lt _ (by omega)⟩ = k :=
  Fin.ext (by simp only [column]; omega)

/-- Gelu's derivative times an upstream gradient, operation by operation. -/
def backward (z g : EReal) : EReal :=
  Ideal.div (Ideal.ofBits .f32 0x3F906EBB#32 * (Ideal.ofBits .f32 0x3F000000#32 * z * g)
      * Ideal.exp (-(Ideal.div z (Ideal.sqrt (Ideal.ofBits .f32 0x40000000#32)) * Ideal.div z (Ideal.sqrt (Ideal.ofBits .f32 0x40000000#32)))))
      (Ideal.sqrt (Ideal.ofBits .f32 0x40000000#32))
    + Ideal.ofBits .f32 0x3F000000#32 * (g * (1 + Ideal.erf (Ideal.div z (Ideal.sqrt (Ideal.ofBits .f32 0x40000000#32)))))

/-- What reaches each entry of a row through its mean square, once. -/
def through (A : FVec Ideal (Rows 4096 4096) .bf16) (e : Fin 2048 → EReal) (i : Fin 4096) : EReal :=
  Ideal.div ((∑ k : Fin 2048, xc A i k * e k) * (Ideal.ofBits .f32 0xBF000000#32 * Ideal.div (rs A i)
    (Ideal.div (∑ k : Fin 2048, xc A i k * xc A i k) (Ideal.ofBits .f32 0x45000000#32) + Ideal.ofBits .f32 0x358637BD#32))) (Ideal.ofBits .f32 0x45000000#32)

/-- The gradient at the centred row, operation by operation. -/
def stepwise (A : FVec Ideal (Rows 4096 4096) .bf16) (e : Fin 2048 → EReal) (i : Fin 4096) (k : Fin 2048) : EReal :=
  e k * rs A i + xc A i k * through A e i + through A e i * xc A i k

/-- The gradient at the row, operation by operation. -/
def centred (A : FVec Ideal (Rows 4096 4096) .bf16) (e : Fin 2048 → EReal) (i : Fin 4096) (k : Fin 2048) : EReal :=
  stepwise A e i k + Ideal.div (∑ d : Fin 2048, -stepwise A e i d) (Ideal.ofBits .f32 0x45000000#32)

/-- The mask as the programs write it. -/
theorem mask_eq (i j : Fin 128) : Scalar.select (IntOp.cmpi CmpIPredicate.sge (IntOp.addi (BitVec.ofNat 32 i.val) 0#32) (BitVec.ofNat 32 j.val)) 1#1 0#1 = below i j := by
  have h (b : BitVec 1) : Scalar.select b 1#1 0#1 = b := by
    revert b; decide
  rw [h]
  simp [below, IntOp.addi]

end Cert.Gate

namespace Cert.ReferenceIdeal.Value

open Cert.ReferenceIdeal Cert.ReferenceIdeal.Gen Cert.Gate

variable (V0 : Valuation τ sig (Elt Ideal)) {z : FVec Ideal S4096x4096 .f32} {lg : FVec Ideal S2048 .f32} {w : FVec Ideal S8x128x128 .f32}
  {b : FVec Ideal S8x128 .f32} {ct : FVec Ideal S4096x2048 .f32}

/-- An entry of `main_v12`. -/
theorem v12_at (hz : V0 (Proc.devRef .tc main_arg0) = z) (i k : Fin 4096) : (res_main_v12 V0 : FVec Ideal S4096x4096 .f32) (ix2 i k) = act z (ix2 i k) := by
  subst hz
  unfold res_main_v12 res_main_v1 res_main_v11 res_main_v5 res_main_v3
  pointwise [act]
  rfl

/-- An entry of `main_v13`. -/
theorem v13_at (hz : V0 (Proc.devRef .tc main_arg0) = z) (i : Fin 4096) (k : Fin 2048) : (res_main_v13 V0 : FVec Ideal S4096x2048 .f32) (ix2 i k) = act z (ix2 i (lower k)) := by
  unfold res_main_v13
  pointwise
  rw [v12_at V0 hz]
  exact congrArg (act z) ((ix2_inj ..).2 ⟨rfl, Fin.ext (by simp [lower])⟩)

/-- An entry of `main_v14`. -/
theorem v14_at (hz : V0 (Proc.devRef .tc main_arg0) = z) (i : Fin 4096) (k : Fin 2048) : (res_main_v14 V0 : FVec Ideal S4096x2048 .f32) (ix2 i k) = act z (ix2 i (upper k)) := by
  unfold res_main_v14
  pointwise
  rw [v12_at V0 hz]
  exact congrArg (act z) ((ix2_inj ..).2 ⟨rfl, Fin.ext (by simp [upper])⟩)

/-- An entry of `main_v20`. -/
theorem v20_at (hz : V0 (Proc.devRef .tc main_arg0) = z) (i : Fin 4096) (k : Fin 2048) : (res_main_v20 V0 : FVec Ideal S4096x2048 .f32) (ix2 i k) = xc (act z) i k := by
  unfold res_main_v20
  pointwise
  simp only [v14_at V0 hz]
  rfl

/-- An entry of `main_v27`. -/
theorem v27_at (hz : V0 (Proc.devRef .tc main_arg0) = z) (i : Fin 4096) (o : Fin 1) : (res_main_v27 V0 : FVec Ideal S4096x1 .f32) (ix2 i o)
    = Ideal.div (∑ k : Fin 2048, xc (act z) i k * xc (act z) i k) (Ideal.ofBits .f32 0x45000000#32) + Ideal.ofBits .f32 0x358637BD#32 := by
  unfold res_main_v27
  pointwise
  simp only [v20_at V0 hz]

/-- An entry of `main_v28`. -/
theorem v28_at (hz : V0 (Proc.devRef .tc main_arg0) = z) (i : Fin 4096) (o : Fin 1) : (res_main_v28 V0 : FVec Ideal S4096x1 .f32) (ix2 i o) = rs (act z) i := by
  unfold res_main_v28
  pointwise
  rw [v27_at V0 hz]
  rfl

/-- An entry of `main_v33`. -/
theorem v33_at (hz : V0 (Proc.devRef .tc main_arg0) = z) (i : Fin 4096) (k : Fin 2048) : (res_main_v33 V0 : FVec Ideal S4096x2048 .f32) (ix2 i k) = xh (act z) i k := by
  unfold res_main_v33
  pointwise
  simp only [v20_at V0 hz, v28_at V0 hz]
  rfl

/-- An entry of `main_v34`. -/
theorem v34_at (hl : V0 (Proc.devRef .tc main_arg1) = lg) (o : Fin 1) (k : Fin 2048) : (res_main_v34 V0 : FVec Ideal S1x2048 .f32) (ix2 o k) = lg (ix1 k) := by
  subst hl
  unfold res_main_v34
  pointwise

/-- An entry of `main_v37`. -/
theorem v37_at (hz : V0 (Proc.devRef .tc main_arg0) = z) (hl : V0 (Proc.devRef .tc main_arg1) = lg) (n : Fin 32) (i : Fin 128) (g : Fin 8) (d : Fin 256) :
    (res_main_v37 V0 : FVec Ideal S32x128x8x256 .f32) (ix4 n i g d) = vn (act z) (gain lg) (chunk (N := 4096) (q := 32) rfl n i) (column g d) := by
  unfold res_main_v37
  pointwise
  simp only [v33_at V0 hz, v34_at V0 hl]
  rfl

/-- An entry of `main_v42_1`. -/
theorem v42_1_at (g : Fin 8) (i j : Fin 128) : (res_main_v42_1 V0 : IVec S8x128x128 1) (ix3 g i j) = below i j := by
  unfold res_main_v42_1
  pointwise
  exact mask_eq i j

/-- An entry of `main_v42`. -/
theorem v42_at (hw : V0 (Proc.devRef .tc main_arg2) = w) (g : Fin 8) (i j : Fin 128) : (res_main_v42_0 V0 : FVec Ideal S8x128x128 .f32) (ix3 g i j) = masked w (ix3 g i j) := by
  subst hw
  unfold res_main_v42_0
  pointwise
  rw [v42_1_at]
  rfl

/-- An entry of `main_v53`. -/
theorem v53_at (hz : V0 (Proc.devRef .tc main_arg0) = z) (hc : V0 (Proc.devRef .tc main_arg4) = ct) (n : Fin 32) (i : Fin 128) (g : Fin 8) (d : Fin 256) :
    (res_main_v53 V0 : FVec Ideal S32x128x8x256 .f32) (ix4 n i g d) = dm ct (act z) (chunk (N := 4096) (q := 32) rfl n i) (column g d) := by
  subst hc
  unfold res_main_v53
  pointwise
  simp only [v13_at V0 hz]
  exact @mul_comm EReal _ _ _

/-- An entry of `main_v58`. -/
theorem v58_at (hz : V0 (Proc.devRef .tc main_arg0) = z) (hc : V0 (Proc.devRef .tc main_arg4) = ct) (g : Fin 8) (n : Fin 32) (d : Fin 256) (i : Fin 128) :
    (res_main_v58 V0 : FVec Ideal S8x32x256x128 .f32) (ix4 g n d i) = dm ct (act z) (chunk (N := 4096) (q := 32) rfl n i) (column g d) := by
  unfold res_main_v58
  pointwise
  simp only [v53_at V0 hz hc]

/-- An entry of `main_v49`. -/
theorem v49_at (hz : V0 (Proc.devRef .tc main_arg0) = z) (hl : V0 (Proc.devRef .tc main_arg1) = lg) (hw : V0 (Proc.devRef .tc main_arg2) = w)
    (hb : V0 (Proc.devRef .tc main_arg3) = b) (i : Fin 4096) (k : Fin 2048) :
    (res_main_v49 V0 : FVec Ideal S4096x2048 .f32) (ix2 i k) = mixed (N := 4096) (q := 32) rfl (act z) (gain lg) (masked w) (bias b) i k := by
  subst hb
  unfold res_main_v49
  pointwise
  simp only [v37_at V0 hz hl, v42_at V0 hw]
  unfold mixed
  refine congrArg₂ (fun a b : EReal => a + b) (Finset.sum_congr rfl fun j _ => (mul_comm (_ : EReal) _).trans ?_) rfl
  rw [column_div k]
  rfl

/-- An entry of `main_v63`. -/
theorem v63_at (hz : V0 (Proc.devRef .tc main_arg0) = z) (hw : V0 (Proc.devRef .tc main_arg2) = w)
    (hc : V0 (Proc.devRef .tc main_arg4) = ct) (i : Fin 4096) (k : Fin 2048) :
    (res_main_v63 V0 : FVec Ideal S4096x2048 .f32) (ix2 i k) = dvn (N := 4096) (q := 32) rfl ct (act z) (flipped w) (ix2 i k) := by
  unfold res_main_v63
  pointwise
  simp only [v58_at V0 hz hc, v42_at V0 hw]
  unfold dvn
  refine Finset.sum_congr (M := EReal) rfl fun j _ => (mul_comm (_ : EReal) _).trans ?_
  rw [column_div k]
  rfl

/-- An entry of `main_v68`. -/
theorem v68_at (hz : V0 (Proc.devRef .tc main_arg0) = z) (hl : V0 (Proc.devRef .tc main_arg1) = lg) (hw : V0 (Proc.devRef .tc main_arg2) = w)
    (hc : V0 (Proc.devRef .tc main_arg4) = ct) (i : Fin 4096) (k : Fin 2048) :
    (res_main_v68 V0 : FVec Ideal S4096x2048 .f32) (ix2 i k) = dvn (N := 4096) (q := 32) rfl ct (act z) (flipped w) (ix2 i k) * gain lg (ix2 0 k) := by
  unfold res_main_v68
  pointwise
  rw [v63_at V0 hz hw hc, v34_at V0 hl]
  rfl

/-- An entry of `main_v79`. -/
theorem v79_at (hz : V0 (Proc.devRef .tc main_arg0) = z) (hl : V0 (Proc.devRef .tc main_arg1) = lg) (hw : V0 (Proc.devRef .tc main_arg2) = w)
    (hc : V0 (Proc.devRef .tc main_arg4) = ct) (i : Fin 4096) (k : Fin 2048) :
    (res_main_v79 V0 : FVec Ideal S4096x2048 .f32) (ix2 i k) = through (act z) (fun k => dvn (N := 4096) (q := 32) rfl ct (act z) (flipped w) (ix2 i k) * gain lg (ix2 0 k)) i := by
  unfold res_main_v79
  pointwise
  simp only [v68_at V0 hz hl hw hc, v20_at V0 hz, v27_at V0 hz, v28_at V0 hz, Finset.univ_unique, Finset.sum_singleton]
  rfl

/-- An entry of `main_v83`. -/
theorem v83_at (hz : V0 (Proc.devRef .tc main_arg0) = z) (hl : V0 (Proc.devRef .tc main_arg1) = lg) (hw : V0 (Proc.devRef .tc main_arg2) = w)
    (hc : V0 (Proc.devRef .tc main_arg4) = ct) (i : Fin 4096) (k : Fin 2048) :
    (res_main_v83 V0 : FVec Ideal S4096x2048 .f32) (ix2 i k) = stepwise (act z) (fun k => dvn (N := 4096) (q := 32) rfl ct (act z) (flipped w) (ix2 i k) * gain lg (ix2 0 k)) i k := by
  unfold res_main_v83
  pointwise
  simp only [v68_at V0 hz hl hw hc, v20_at V0 hz, v79_at V0 hz hl hw hc, v28_at V0 hz]
  rfl

/-- An entry of the first half of `main_v92`. -/
theorem v92_left (hz : V0 (Proc.devRef .tc main_arg0) = z) (hl : V0 (Proc.devRef .tc main_arg1) = lg) (hw : V0 (Proc.devRef .tc main_arg2) = w)
    (hb : V0 (Proc.devRef .tc main_arg3) = b) (hc : V0 (Proc.devRef .tc main_arg4) = ct) (i : Fin 4096) (k : Fin 4096) (h : k.val < 2048) :
    (res_main_v92 V0 : FVec Ideal S4096x4096 .f32) (ix2 i k) = ct (ix2 i ⟨k.val, h⟩) * mixed (N := 4096) (q := 32) rfl (act z) (gain lg) (masked w) (bias b) i ⟨k.val, h⟩ := by
  subst hc
  unfold res_main_v92
  pointwise
  rw [dif_pos h, v49_at V0 hz hl hw hb]

/-- An entry of the second half of `main_v92`. -/
theorem v92_right (hz : V0 (Proc.devRef .tc main_arg0) = z) (hl : V0 (Proc.devRef .tc main_arg1) = lg) (hw : V0 (Proc.devRef .tc main_arg2) = w)
    (hc : V0 (Proc.devRef .tc main_arg4) = ct) (i : Fin 4096) (k : Fin 4096) (h : ¬ k.val < 2048) :
    (res_main_v92 V0 : FVec Ideal S4096x4096 .f32) (ix2 i k)
      = centred (act z) (fun k => dvn (N := 4096) (q := 32) rfl ct (act z) (flipped w) (ix2 i k) * gain lg (ix2 0 k)) i ⟨k.val - 2048, by omega⟩ := by
  unfold res_main_v92
  pointwise
  rw [dif_neg h]
  simp only [v83_at V0 hz hl hw hc, Finset.univ_unique, Finset.sum_singleton]
  rfl

/-- The reference's gradient of the spatial weight. -/
theorem v62_eq (hz : V0 (Proc.devRef .tc main_arg0) = z) (hl : V0 (Proc.devRef .tc main_arg1) = lg) (hc : V0 (Proc.devRef .tc main_arg4) = ct) :
    (select (res_main_v42_1 V0) (Host.dotGeneral (φ₁ := .f32) (φ₂ := .f32) dot_S8x32x256x128_S32x128x8x256_S8x128x128_12_03_3_1_0_2 none (res_main_v58 V0 : FVec Ideal S8x32x256x128 .f32) (res_main_v37 V0 : FVec Ideal S32x128x8x256 .f32) : FVec Ideal S8x128x128 .f32) (broadcastInDim S8x128x128 ![] bcast_S_S8x128x128 (constant S_ .f32 0x00000000#32)) : FVec Ideal S8x128x128 .f32)
      = dws (N := 4096) (q := 32) rfl ct (act z) (gain lg) := by
  funext y
  obtain ⟨g, i, j, rfl⟩ : ∃ (g : Fin 8) (i j : Fin 128), y = ix3 g i j := ⟨_, _, _, eq_ix3 y⟩
  pointwise
  rw [v42_1_at]
  simp only [v58_at V0 hz hc, v37_at V0 hz hl]
  exact select_sum _ _

/-- The reference's gradient of the spatial bias. -/
theorem v104_eq (hz : V0 (Proc.devRef .tc main_arg0) = z) (hc : V0 (Proc.devRef .tc main_arg4) = ct) :
    (transpose S128x8 [1, 0] (transpose S8x128 [1, 0] (Host.reduceAdd (shapeCast _ (Host.reduceAdd (res_main_v53 V0 : FVec Ideal S32x128x8x256 .f32) (constant S_ .f32 0x00000000#32) reducesTo_S32x128x8x256_S128x8_d0_3 h_S_) shapeCasts_S128x8_S1x128x8x1) (constant S_ .f32 0x00000000#32) reducesTo_S1x128x8x1_S128x8_d0_3 h_S_) transposes_S128x8_S8x128_1_0) transposes_S8x128_S128x8_1_0 : FVec Ideal S128x8 .f32)
      = dbt (N := 4096) (q := 32) rfl ct (act z) := by
  funext y
  obtain ⟨i, g, rfl⟩ : ∃ (i : Fin 128) (g : Fin 8), y = ix2 i g := ⟨_, _, eq_ix2 y⟩
  pointwise
  rw [sum_outer]
  pointwise
  rw [sum_outer]
  simp only [v53_at V0 hz hc, Finset.univ_unique, Finset.sum_singleton]
  exact zero_add _

/-- The reference's gradient of the gain. -/
theorem v105_eq (hz : V0 (Proc.devRef .tc main_arg0) = z) (hw : V0 (Proc.devRef .tc main_arg2) = w) (hc : V0 (Proc.devRef .tc main_arg4) = ct) :
    (shapeCast _ (Host.reduceAdd (shapeCast _ (Host.reduceAdd (mulf (res_main_v33 V0) (res_main_v63 V0)) (constant S_ .f32 0x00000000#32) reducesTo_S4096x2048_S2048_d0 h_S_) shapeCasts_S2048_S1x2048) (constant S_ .f32 0x00000000#32) reducesTo_S1x2048_S2048_d0 h_S_) shapeCasts_S2048_S1x2048 : FVec Ideal S1x2048 .f32)
      = dlng (N := 4096) (dvn (q := 32) rfl ct (act z) (flipped w)) (act z) := by
  funext y
  obtain ⟨o, k, rfl⟩ : ∃ (o : Fin 1) (k : Fin 2048), y = ix2 o k := ⟨_, _, eq_ix2 y⟩
  pointwise
  simp only [v33_at V0 hz, v63_at V0 hz hw hc, Finset.univ_unique, Finset.sum_singleton]
  exact Finset.sum_congr rfl fun i _ => mul_comm _ _

/-- An entry of the reference's gradient at the input. -/
theorem v103_at (hz : V0 (Proc.devRef .tc main_arg0) = z) (i k : Fin 4096) :
    (truncf .bf16 (addf (Host.divf (mulf (mulf (broadcastInDim S4096x4096 ![] bcast_S_S4096x4096 (constant S_ .f32 0x3F906EBB#32)) (mulf (res_main_v1 V0) (res_main_v92 V0))) (Host.exp (Host.negf (mulf (res_main_v5 V0) (res_main_v5 V0))))) (broadcastInDim S4096x4096 ![] bcast_S_S4096x4096 (res_main_v3 V0))) (mulf (broadcastInDim S4096x4096 ![] bcast_S_S4096x4096 (constant S_ .f32 0x3F000000#32)) (mulf (res_main_v92 V0) (res_main_v11 V0)))) bitsLt_bf16_f32 : FVec Ideal S4096x4096 .bf16) (ix2 i k)
      = backward (z (ix2 i k)) ((res_main_v92 V0 : FVec Ideal S4096x4096 .f32) (ix2 i k)) := by
  subst hz
  unfold res_main_v1 res_main_v11 res_main_v5 res_main_v3
  pointwise
  rfl

end Cert.ReferenceIdeal.Value

end
-- ==== Proof.GateEquation.lean ====
/- The spatial gate backward: the gradient at the input, operation by operation and as the call writes it, over finite inputs. -/
module

public import proofs.«01_k».proof.Proof.GateArray
public import proofs.«01_k».proof.Proof.GateReals
public import proofs.«01_k».proof.Proof.GateReference
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.Gate

open Cert.Proof

section Finite
variable {N q : ℕ} {A : FVec Ideal (Rows N 4096) .bf16} {D : FVec Ideal (Rows N 2048) .bf16} {L : FVec Ideal (Rows 1 2048) .f32} {W : FVec Ideal Cube .bf16}
  {B : FVec Ideal (Rows 128 8) .f32}

theorem xc_real (hA : ∀ y, IsReal (A y)) (i : Fin N) (k : Fin 2048) : IsReal (xc A i k) := by
  unfold xc; rw [ofBits_2048]
  exact .sub (hA _) (.div (by norm_num) (.sum fun e => hA _))

theorem rs_real (hA : ∀ y, IsReal (A y)) (i : Fin N) : IsReal (rs A i) := by
  unfold rs; rw [ofBits_2048, ofBits_eps]
  exact rms_finite (xc A i) (xc_real hA i) _ _ (by norm_num) (by norm_num)

theorem xh_real (hA : ∀ y, IsReal (A y)) (i : Fin N) (k : Fin 2048) : IsReal (xh A i k) := .mul (xc_real hA i k) (rs_real hA i)

theorem mixed_real (hN : N = q * 128) (hA : ∀ y, IsReal (A y)) (hL : ∀ y, IsReal (L y)) (hW : ∀ y, IsReal (W y)) (hB : ∀ y, IsReal (B y)) (i : Fin N) (k : Fin 2048) :
    IsReal (mixed hN A L W B i k) :=
  .add (.sum fun j => .mul (hW _) (.mul (xh_real hA _ _) (hL _))) (hB _)

theorem dvn_real (hN : N = q * 128) (hD : ∀ y, IsReal (D y)) (hA : ∀ y, IsReal (A y)) (hW : ∀ y, IsReal (W y)) (y : (Rows N 2048).Idx) : IsReal (dvn hN D A W y) :=
  .sum fun j => .mul (hW _) (.mul (hD _) (hA _))

end Finite

variable {z : FVec Ideal (Rows 4096 4096) .f32} {lg : FVec Ideal ⟨1, ![2048]⟩ .f32} {w : FVec Ideal Cube .f32} {b : FVec Ideal ⟨2, ![8, 128]⟩ .f32}
  {ct : FVec Ideal (Rows 4096 2048) .f32}

theorem act_real (hz : ∀ y, IsReal (z y)) (y : (Rows 4096 4096).Idx) : IsReal (act z y) := by
  unfold act; rw [div_sqrt2, ofBits_half, ← EReal.coe_one]
  exact .mul (.mul (.coe _) (hz _)) (.add (.coe _) (.erf (.mul (hz _) (.coe _))))

theorem masked_real (hw : ∀ y, IsReal (w y)) (y : Cube.Idx) : IsReal (masked w y) := .select (hw _) (.coe 0)

theorem flipped_real (hw : ∀ y, IsReal (w y)) (y : Cube.Idx) : IsReal (flipped w y) := .select (hw _) (.coe 0)

/-- The layer norm's derivative, operation by operation and as the call writes it. -/
theorem centred_eq {A : FVec Ideal (Rows 4096 4096) .bf16} {dv : FVec Ideal (Rows 4096 2048) .f32} {L : FVec Ideal (Rows 1 2048) .f32} (hA : ∀ y, IsReal (A y))
    (hd : ∀ y, IsReal (dv y)) (hL : ∀ y, IsReal (L y)) (i : Fin 4096) (k : Fin 2048) :
    centred A (fun k => dv (ix2 i k) * L (ix2 0 k)) i k = dva dv A L i k := by
  have r := norm_row (fun k : Fin 2048 => A (ix2 i (upper k))) (fun k => dv (ix2 i k) * L (ix2 0 k)) (fun d => hA _) (fun d => .mul (hd _) (hL _))
    2048 _ (by norm_num) (by norm_num) (by norm_num : (0 : ℝ) < 8796093 / 8796093022208) k
  rw [← ofBits_2048, ← ofBits_eps, ← ofBits_neg_half] at r
  exact r

end Cert.Gate

namespace Cert.KernelIdeal.Value

open Cert.KernelIdeal Cert.KernelIdeal.Gen Cert.Gate Cert.Proof

/-- The named constant is the reciprocal root of two. -/
theorem named_inv_sqrt2 : (Named.named (F := Ideal) κ "inv_sqrt2" (φ := .f32) 0x3F3504F3#32 : EReal) = (((Real.sqrt 2)⁻¹ : ℝ) : EReal) :=
  IdealRules.named_const.ideal_named_scalar _ _ _ _ rfl

/-- The named constant is half the error function's factor over the root of two. -/
theorem named_erf_slope : (Named.named (F := Ideal) κ "erf_slope" (φ := .f32) 0x3ECC422A#32 : EReal) = (((9465531/16777216 : ℝ) * (Real.sqrt 2)⁻¹ : ℝ) : EReal) :=
  IdealRules.named_const.ideal_named_scalar _ _ _ _ rfl

/-- Gelu's derivative, operation by operation and as the call writes it. -/
theorem backward_eq {z g : EReal} (hz : IsReal z) (hg : IsReal g) : backward z g = g * slope z := by
  unfold backward slope
  rw [div_sqrt2, div_sqrt2, named_inv_sqrt2, named_erf_slope, ofBits_half, ofBits_neg_half, ofBits_erf_factor]
  exact gelu_grad z g hz hg

variable (V0 : Valuation Cert.ReferenceIdeal.τ Cert.ReferenceIdeal.sig (Elt Ideal))
  {z : FVec Ideal (Rows 4096 4096) .f32} {lg : FVec Ideal ⟨1, ![2048]⟩ .f32} {w : FVec Ideal Cube .f32} {b : FVec Ideal ⟨2, ![8, 128]⟩ .f32}
  {ct : FVec Ideal (Rows 4096 2048) .f32}

/-- The reference's gradient at the input is the call's. -/
theorem dz_at (hz : V0 (Proc.devRef .tc Cert.ReferenceIdeal.main_arg0) = z) (hl : V0 (Proc.devRef .tc Cert.ReferenceIdeal.main_arg1) = lg)
    (hw : V0 (Proc.devRef .tc Cert.ReferenceIdeal.main_arg2) = w) (hb : V0 (Proc.devRef .tc Cert.ReferenceIdeal.main_arg3) = b)
    (hc : V0 (Proc.devRef .tc Cert.ReferenceIdeal.main_arg4) = ct)
    (fz : ∀ y, IsReal (z y)) (fl : ∀ y, IsReal (lg y)) (fw : ∀ y, IsReal (w y)) (fb : ∀ y, IsReal (b y)) (fc : ∀ y, IsReal (ct y)) (i k : Fin 4096) :
    backward (z (ix2 i k)) ((Cert.ReferenceIdeal.Value.res_main_v92 V0 : FVec Ideal Cert.ReferenceIdeal.S4096x4096 .f32) (ix2 i k))
      = dz (N := 4096) (q := 32) rfl (act z) z ct (gain lg) (masked w) (flipped w) (bias b) (ix2 i k) := by
  have fL : ∀ y, IsReal (gain lg y) := fun y => fl _
  have fB : ∀ y, IsReal (bias b y) := fun y => fb _
  have fA := act_real fz
  by_cases h : k.val < 2048
  · rw [Cert.ReferenceIdeal.Value.v92_left V0 hz hl hw hb hc i k h, dz_left (N := 4096) (q := 32) rfl (act z) z ct (gain lg) (masked w) (flipped w) (bias b) i k h]
    exact backward_eq (fz _) (.mul (fc _) (mixed_real _ fA fL (masked_real fw) fB _ _))
  · have fv : ∀ y, IsReal (dvn (N := 4096) (q := 32) rfl ct (act z) (flipped w) y) := dvn_real _ fc fA (flipped_real fw)
    rw [Cert.ReferenceIdeal.Value.v92_right V0 hz hl hw hc i k h, centred_eq fA fv fL,
      dz_upper (N := 4096) (q := 32) rfl (act z) z ct (gain lg) (masked w) (flipped w) (bias b) i k h]
    refine backward_eq (fz _) ?_
    unfold dva
    rw [ofBits_2048]
    exact .mul (rs_real fA _) (.sub (.sub (.mul (fv _) (fL _)) (.div (by norm_num) (.sum fun e => .mul (fv _) (fL _))))
      (.mul (xh_real fA _ _) (.div (by norm_num) (.sum fun e => .mul (.mul (fv _) (fL _)) (xh_real fA _ _)))))

end Cert.KernelIdeal.Value

end
-- ==== Proof.Gate.lean ====
/- The spatial gate backward: the call's four results are the reference's, over finite inputs. -/
module

public import proofs.«01_k».proof.Defs
public import proofs.«01_k».proof.Proof.GateEquation
public import proofs.«01_k».proof.Proof.Gen.Pre_finite
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Gate Cert.Proof

variable (m : (ℓ : Loc nD τ sig) → Buf (Elt Ideal) ℓ)

/-- The activated input, in the arguments. -/
theorem gelu_eq (c : Dev nD) (i k : Fin 4096) : (V m c main_v18 : FVec Ideal S4096x4096 .bf16) (ix2 i k)
    = Ideal.ofBits .f32 0x3F000000#32 * (m (c.tc.loc main_arg0) : FVec Ideal S4096x4096 .f32) (ix2 i k)
      * (1 + Ideal.erf (Ideal.div ((m (c.tc.loc main_arg0) : FVec Ideal S4096x4096 .f32) (ix2 i k)) (Ideal.sqrt (Ideal.ofBits .f32 0x40000000#32)))) := by
  simp only [V, hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  entry_read
  pointwise

/-- The input, in the arguments. -/
theorem input_eq (c : Dev nD) (i k : Fin 4096) : (V m c main_v19 : FVec Ideal S4096x4096 .bf16) (ix2 i k)
    = (m (c.tc.loc main_arg0) : FVec Ideal S4096x4096 .f32) (ix2 i k) := by
  simp only [V, hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  entry_read
  pointwise

/-- The upstream gradient, in the arguments. -/
theorem upstream_eq (c : Dev nD) (i : Fin 4096) (k : Fin 2048) : (V m c main_v20 : FVec Ideal S4096x2048 .bf16) (ix2 i k)
    = (m (c.tc.loc main_arg4) : FVec Ideal S4096x2048 .f32) (ix2 i k) := by
  simp only [V, hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  entry_read
  pointwise

/-- The gain, in the arguments. -/
theorem gain_eq (c : Dev nD) (k : Fin 2048) : (V m c main_v21 : FVec Ideal S1x2048 .f32) (ix2 0 k)
    = (m (c.tc.loc main_arg1) : FVec Ideal S2048 .f32) (ix1 k) := by
  simp only [V, hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  entry_read
  pointwise

/-- The masked weight, in the arguments. -/
theorem weight_eq (c : Dev nD) (g : Fin 8) (i j : Fin 128) : (V m c main_v4 : FVec Ideal S8x128x128 .bf16) (ix3 g i j)
    = Scalar.select (below i j)
      ((m (c.tc.loc main_arg2) : FVec Ideal S8x128x128 .f32) (ix3 g i j)) (0 : EReal) := by
  simp only [V, hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  rw [← mask_eq]
  entry_read
  pointwise

/-- The transposed masked weight, in the arguments. -/
theorem weight_t_eq (c : Dev nD) (g : Fin 8) (i j : Fin 128) : (V m c main_v6 : FVec Ideal S8x128x128 .bf16) (ix3 g i j)
    = Scalar.select (below j i)
      ((m (c.tc.loc main_arg2) : FVec Ideal S8x128x128 .f32) (ix3 g j i)) (0 : EReal) := by
  simp only [V, hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  rw [← mask_eq]
  entry_read
  pointwise

/-- The bias, in the arguments. -/
theorem bias_eq (c : Dev nD) (i : Fin 128) (g : Fin 8) : (V m c main_v7 : FVec Ideal S128x8 .f32) (ix2 i g)
    = (m (c.tc.loc main_arg3) : FVec Ideal S8x128 .f32) (ix2 g i) := by
  simp only [V, hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  entry_read
  pointwise

/-- The activated input as an array. -/
theorem gelu_args (c : Dev nD) : (V m c main_v18 : FVec Ideal S4096x4096 .bf16) = act (m (c.tc.loc main_arg0)) :=
  funext fun y => (congrArg _ (eq_ix2 y)).trans (gelu_eq m c (y 0) (y 1))

/-- The input as an array. -/
theorem input_args (c : Dev nD) : (V m c main_v19 : FVec Ideal S4096x4096 .bf16) = (m (c.tc.loc main_arg0) : FVec Ideal S4096x4096 .f32) :=
  funext fun y => (congrArg _ (eq_ix2 y)).trans ((input_eq m c (y 0) (y 1)).trans (congrArg (m (c.tc.loc main_arg0) : FVec Ideal S4096x4096 .f32) (eq_ix2 y).symm))

/-- The upstream gradient as an array. -/
theorem upstream_args (c : Dev nD) : (V m c main_v20 : FVec Ideal S4096x2048 .bf16) = (m (c.tc.loc main_arg4) : FVec Ideal S4096x2048 .f32) :=
  funext fun y => (congrArg _ (eq_ix2 y)).trans ((upstream_eq m c (y 0) (y 1)).trans (congrArg (m (c.tc.loc main_arg4) : FVec Ideal S4096x2048 .f32) (eq_ix2 y).symm))

/-- The gain as one row. -/
theorem gain_args (c : Dev nD) : (V m c main_v21 : FVec Ideal S1x2048 .f32) = gain (m (c.tc.loc main_arg1)) :=
  funext fun y => (congrArg _ ((eq_ix2 y).trans (congrArg (fun z : Fin 1 => ix2 z (y 1)) (Subsingleton.elim (α := Fin 1) (y 0) 0)))).trans (gain_eq m c (y 1))

/-- The masked weight as an array. -/
theorem weight_args (c : Dev nD) : (V m c main_v4 : FVec Ideal S8x128x128 .bf16) = masked (m (c.tc.loc main_arg2)) :=
  funext fun y => (congrArg _ (eq_ix3 y)).trans (weight_eq m c (y 0) (y 1) (y 2))

/-- The transposed masked weight as an array. -/
theorem weight_t_args (c : Dev nD) : (V m c main_v6 : FVec Ideal S8x128x128 .bf16) = flipped (m (c.tc.loc main_arg2)) :=
  funext fun y => (congrArg _ (eq_ix3 y)).trans (weight_t_eq m c (y 0) (y 1) (y 2))

/-- The bias as an array. -/
theorem bias_args (c : Dev nD) : (V m c main_v7 : FVec Ideal S128x8 .f32) = bias (m (c.tc.loc main_arg3)) :=
  funext fun y => (congrArg _ (eq_ix2 y)).trans (bias_eq m c (y 0) (y 1))

/-- The precondition, read: every entry of every argument is a real. -/
theorem finite_args (hpre : Cert.Pre_KernelIdeal_finite m) (c : Dev nD) :
    (∀ i, IsReal ((m (c.tc.loc main_arg0) : FVec Ideal S4096x4096 .f32) i)) ∧ (∀ i, IsReal ((m (c.tc.loc main_arg1) : FVec Ideal S2048 .f32) i))
    ∧ (∀ i, IsReal ((m (c.tc.loc main_arg2) : FVec Ideal S8x128x128 .f32) i)) ∧ (∀ i, IsReal ((m (c.tc.loc main_arg3) : FVec Ideal S8x128 .f32) i))
    ∧ (∀ i, IsReal ((m (c.tc.loc main_arg4) : FVec Ideal S4096x2048 .f32) i)) := by
  have e := congrFun (hpre c) ValueIdx.ix0
  simp only [Cert.Pre_finite.fn, Cert.Pre_finite.fn_part1, andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => fin_of_abs_lt (Host.reduce_andi_all _ _ _ _ _ e0 i), fun i => fin_of_abs_lt (Host.reduce_andi_all _ _ _ _ _ e1 i),
    fun i => fin_of_abs_lt (Host.reduce_andi_all _ _ _ _ _ e2 i), fun i => fin_of_abs_lt (Host.reduce_andi_all _ _ _ _ _ e3 i),
    fun i => fin_of_abs_lt (Host.reduce_andi_all _ _ _ _ _ e4 i)⟩

end Cert.KernelIdeal.Value

/-- The call's results are the gradients at the input, the spatial weight, the spatial bias and the gain. -/
theorem Cert.Proof.alg1 : Cert.algebraic_KernelIdeal_ReferenceIdeal_pre_finite := by
  pair_intro
  · run_from Cert.KernelIdeal.Value.run_blocks m g
  · run_from Cert.ReferenceIdeal.Value.run m' g'
    · obtain ⟨a0, a1, a2, a3, a4⟩ := hagree c
      obtain ⟨f0, f1, f2, f3, f4⟩ := Cert.KernelIdeal.Value.finite_args m hpre c
      rw [Cert.KernelIdeal.Value.result7, Cert.KernelIdeal.Value.gelu_args, Cert.KernelIdeal.Value.input_args, Cert.KernelIdeal.Value.upstream_args, Cert.KernelIdeal.Value.gain_args,
        Cert.KernelIdeal.Value.weight_args, Cert.KernelIdeal.Value.weight_t_args, Cert.KernelIdeal.Value.bias_args]
      funext j
      obtain ⟨i, k, rfl⟩ : ∃ i k, j = ix2 i k := ⟨_, _, eq_ix2 j⟩
      exact (Cert.ReferenceIdeal.Value.v103_at _ a0 i k).trans (Cert.KernelIdeal.Value.dz_at _ a0 a1 a2 a3 a4 f0 f1 f2 f3 f4 i k)
    · obtain ⟨a0, a1, a2, a3, a4⟩ := hagree c
      rw [Cert.KernelIdeal.Value.result8, Cert.KernelIdeal.Value.gelu_args, Cert.KernelIdeal.Value.upstream_args, Cert.KernelIdeal.Value.gain_args]
      exact Cert.ReferenceIdeal.Value.v62_eq _ a0 a1 a4
    · obtain ⟨a0, a1, a2, a3, a4⟩ := hagree c
      rw [Cert.KernelIdeal.Value.result9, Cert.KernelIdeal.Value.gelu_args, Cert.KernelIdeal.Value.upstream_args]
      exact Cert.ReferenceIdeal.Value.v104_eq _ a0 a4
    · obtain ⟨a0, a1, a2, a3, a4⟩ := hagree c
      rw [Cert.KernelIdeal.Value.result10, Cert.KernelIdeal.Value.gelu_args, Cert.KernelIdeal.Value.upstream_args, Cert.KernelIdeal.Value.weight_t_args]
      exact Cert.ReferenceIdeal.Value.v105_eq _ a0 a2 a4

end
-- ==== Proof.FfnDataBlock.lean ====
/- The channel MLP's backward pass through its activation and its norm: what one block of 512 rows computes. -/
module

public import proofs.«01_k».proof.Proof.Gen.Kernel2Ideal.Frame
public import proofs.«01_k».proof.Proof.Gen.Kernel2Ideal.Value
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value

open Cert.Kernel2Ideal Cert.Kernel2Ideal.Gen

variable (m : (ℓ : Loc nD τ sig) → Buf (Elt Ideal) ℓ)

/-- Which block of its array each window shows at grid point `t`. -/
theorem idx : ∀ t : Fin cfg0.N, win0_0.index t = ![t.val, 0]
    ∧ win0_1.index t = ![t.val, 0]
    ∧ win0_2.index t = ![0, 0, 0, 0]
    ∧ win0_3.index t = ![0, 0, 0]
    ∧ win0_4.index t = ![t.val, 0]
    ∧ win0_5.index t = ![0, 0]
    ∧ win0_6.index t = ![t.val, 0]
    ∧ win0_7.index t = ![t.val, 0]
    ∧ win0_8.index t = ![0, 0]
    ∧ win0_9.index t = ![t.val, 0] :=
  (by decide +kernel : ∀ t : Fin grid0.N, _)

/-- `n` rows of `d` entries. -/
abbrev Rows (n d : ℕ) : Shape := ⟨2, ![n, d]⟩

/-- The gradient at the pre-activations. -/
def da {n : ℕ} (ct : FVec Ideal (Rows n 1024) .f32) (p : FVec Ideal (Rows n 4096) .bf16) (w : FVec Ideal S8x512x1024 .bf16) :
    FVec Ideal (Rows n 4096) .bf16 :=
  fun j => (∑ d : Fin 1024, ct (ix2 (j 0) d) * w (ix3 ⟨(j 1).val / 512, Nat.div_lt_of_lt_mul (j 1).isLt⟩ ⟨(j 1).val % 512, Nat.mod_lt _ (by omega)⟩ d))
    * (Ideal.ofBits .f32 0x40000000#32 * p (ix2 (j 0) (j 1)))

/-- The gradient at the normalised input: the pre-activations' gradient through the first weight. -/
def dhn {n : ℕ} (da : FVec Ideal (Rows n 4096) .bf16) (w : FVec Ideal S8x1x512x1024 .bf16) : FVec Ideal (Rows n 1024) .f32 :=
  fun j => ∑ k : Fin 4096, da (ix2 (j 0) k) * w (ix4 ⟨k.val / 512, Nat.div_lt_of_lt_mul k.isLt⟩ 0 ⟨k.val % 512, Nat.mod_lt _ (by omega)⟩ (j 1))

/-- The reciprocal root mean square of row `i`. -/
def inv {n : ℕ} (h : FVec Ideal (Rows n 1024) .f32) (i : Fin n) : EReal :=
  Ideal.rsqrt (Ideal.div (∑ d : Fin 1024, h (ix2 i d) * h (ix2 i d)) (Ideal.ofBits .f32 0x44800000#32) + Ideal.ofBits .f32 0x358637BD#32)

/-- The gradient at the layer's input: the upstream gradient plus the normalisation's backward pass. -/
def dh {n : ℕ} (ct : FVec Ideal (Rows n 1024) .f32) (dn : FVec Ideal (Rows n 1024) .f32) (h : FVec Ideal (Rows n 1024) .f32) (g : FVec Ideal S1x1024 .f32) :
    FVec Ideal (Rows n 1024) .f32 :=
  fun j => ct (ix2 (j 0) (j 1)) + inv h (j 0) * (dn (ix2 (j 0) (j 1)) * g (ix2 0 (j 1)) - h (ix2 (j 0) (j 1)) * inv h (j 0) *
    Ideal.div (∑ d : Fin 1024, dn (ix2 (j 0) d) * g (ix2 0 d) * (h (ix2 (j 0) d) * inv h (j 0))) (Ideal.ofBits .f32 0x44800000#32))

/-- The gradient of the normalisation's gain. -/
def dg {n : ℕ} (dn h : FVec Ideal (Rows n 1024) .f32) : FVec Ideal S1x1024 .f32 :=
  fun j => ∑ i : Fin n, dn (ix2 i (j 1)) * (h (ix2 i (j 1)) * inv h i)

/-- A whole buffer read back after stores that cover it: what it reads is the function that the stores leave. -/
theorem readCov_of_canon [∀ e, Nonempty (Elt Ideal e)] {sig : RefSig} {κ : Kind} {sp : Space} {s : Shape} {e : EltTy} (G : s.Idx → Elt Ideal e) (v : View sig κ sp s e) (L : List (View.Piece (Elt Ideal) s e)) (r : Rect s)
    (h : ∀ y, View.canon L y = G y) : v.readCov L r.toLoadRect = View.ld G r := by
  rw [View.readCov_eq_canon']; funext j; exact h _

/-- One tile of 512 columns of the gradient at the pre-activations, as it is stored, at its place in the whole rows. -/
theorem tile {n : ℕ} (ct : FVec Ideal (Rows n 1024) .f32) (p : FVec Ideal (Rows n 4096) .bf16) (w : FVec Ideal S8x512x1024 .bf16)
    (k : Fin 8) (i : Fin n) (l : Fin 512) (q : Fin 4096) (hq : q.val = 512 * k.val + l.val) (y : (Rows n 4096).Idx) (h0 : (y 0).val = i.val) (h1 : (y 1).val = q.val) :
    (∑ d : Fin 1024, ct (ix2 i d) * w (ix3 k l d)) * (Ideal.ofBits .f32 0x40000000#32 * p (ix2 i q)) = da ct p w y := by
  obtain rfl : y = ix2 i q := by
    rw [eq_ix2 y]; exact (ix2_inj ..).2 ⟨Fin.ext h0, Fin.ext h1⟩
  have e : ∀ d : Fin 1024, (ix3 k l d : S8x512x1024.Idx) = ix3 ⟨q.val / 512, by omega⟩ ⟨q.val % 512, Nat.mod_lt _ (by omega)⟩ d := fun d => by
    have := l.isLt
    congr 1 <;> (apply Fin.ext; simp only; omega)
  simp only [e]; rfl

/-- The gradient at the pre-activations on the rows of point `t`. -/
abbrev daBlk (c : Dev nD) (t : Fin cfg0.N) : FVec Ideal (Rows 512 4096) .bf16 := da (n := 512) (iblk m c 0 t) (iblk m c 1 t) (iblk m c 3 t)

/-- The gradient at the normalised input on the rows of point `t`. -/
abbrev dhnBlk (c : Dev nD) (t : Fin cfg0.N) : FVec Ideal (Rows 512 1024) .f32 := dhn (daBlk m c t) (iblk m c 2 t)

/-- What a point leaves in its block of the pre-activations' gradient. -/
theorem out6 (c : Dev nD) (t : Fin cfg0.N) (y) : (outsAt0 m c t.val t.isLt).1 y = daBlk m c t y := by
  by_cases h : t.val % 8 = 0
  · have h1 : ¬ 1 ≤ t.val := by have : t.val < 8 := t.isLt; omega
    rw [outsAt0_A m c t h h1]; frame_out
    canon_tiles x h
    all_goals (open_payloads; pointwise; exact tile _ _ _ _ _ _ _ (by simp) _ (by assumption) (by simpa))
  · have h1 : 1 ≤ t.val := by omega
    rw [outsAt0_B m c t h h1]; frame_out
    canon_tiles x h
    all_goals (open_payloads; pointwise; exact tile _ _ _ _ _ _ _ (by simp) _ (by assumption) (by simpa))

/-- A later point adds its rows' part to the gain's gradient. -/
theorem out8B (c : Dev nD) (t : Fin cfg0.N) (h : ¬ t.val % 8 = 0) (h1 : 1 ≤ t.val) (j) : (outsAt0 m c t.val t.isLt).2.2.1 j =
  (outsAt0 m c (t.val-1) (Nat.lt_of_le_of_lt (Nat.sub_le _ _) t.isLt)).2.2.1 j + dg (n := 512) (dhnBlk m c t) (iblk m c 4 t) j := by
  rw [outsAt0_B m c t h h1]; frame_out
  rw [readCov_of_canon (daBlk m c t)]
  · frame_out
    open_payloads
    pointwise [dg, dhnBlk, dhn, inv]
  · intro y
    canon_tiles x h
    all_goals (open_payloads; pointwise; exact tile _ _ _ _ _ _ _ (by simp) _ (by assumption) (by simpa))

/-- The first point starts the gain's gradient with its rows' part. -/
theorem out8A (c : Dev nD) (t : Fin cfg0.N) (h : t.val % 8 = 0) (h1 : ¬ 1 ≤ t.val) (j) : (outsAt0 m c t.val t.isLt).2.2.1 j =
  dg (n := 512) (dhnBlk m c t) (iblk m c 4 t) j := by
  rw [outsAt0_A m c t h h1]; frame_out
  rw [readCov_of_canon (daBlk m c t)]
  · frame_out
    open_payloads
    pointwise [dg, dhnBlk, dhn, inv]
  · intro y
    canon_tiles x h
    all_goals (open_payloads; pointwise; exact tile _ _ _ _ _ _ _ (by simp) _ (by assumption) (by simpa))

/-- What a point leaves in its block of the input's gradient. -/
theorem out7 (c : Dev nD) (t : Fin cfg0.N) (j) : (outsAt0 m c t.val t.isLt).2.1 j =
   dh (n := 512) (iblk m c 0 t) (dhnBlk m c t) (iblk m c 4 t) (iblk m c 5 t) j := by
  by_cases h : t.val % 8 = 0
  · have h1 : ¬ 1 ≤ t.val := by have : t.val < 8 := t.isLt; omega
    rw [outsAt0_A m c t h h1]; frame_out
    rw [readCov_of_canon (daBlk m c t)]
    · frame_out
      open_payloads
      pointwise [dh, dhnBlk, dhn, inv]
    · intro y
      canon_tiles x h
      all_goals (open_payloads; pointwise; exact tile _ _ _ _ _ _ _ (by simp) _ (by assumption) (by simpa))
  · have h1 : 1 ≤ t.val := by omega
    rw [outsAt0_B m c t h h1]; frame_out
    rw [readCov_of_canon (daBlk m c t)]
    · frame_out
      open_payloads
      pointwise [dh, dhnBlk, dhn, inv]
    · intro y
      canon_tiles x h
      all_goals (open_payloads; pointwise; exact tile _ _ _ _ _ _ _ (by simp) _ (by assumption) (by simpa))

/-- What a point leaves in its block of the upstream gradient's copy. -/
theorem out9 (c : Dev nD) (t : Fin cfg0.N) (j) : (outsAt0 m c t.val t.isLt).2.2.2 j = (show FVec Ideal (Rows 512 1024) .f32 from iblk m c 0 t) j := by
  by_cases h : t.val % 8 = 0
  · have h1 : ¬ 1 ≤ t.val := by have : t.val < 8 := t.isLt; omega
    rw [outsAt0_A m c t h h1]; frame_out
    open_payloads; pointwise
  · have h1 : 1 ≤ t.val := by omega
    rw [outsAt0_B m c t h h1]; frame_out
    open_payloads; pointwise

end Cert.Kernel2Ideal.Value

end
-- ==== Proof.FfnDataArray.lean ====
/- The channel MLP's backward pass through its activation and its norm: what the result arrays hold at the end. -/
module

public import proofs.«01_k».proof.Proof.FfnDataBlock
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value

open Cert.Kernel2Ideal Cert.Kernel2Ideal.Gen

variable (m : (ℓ : Loc nD τ sig) → Buf (Elt Ideal) ℓ)

/-- The array of the pre-activations' gradient after the last point. -/
theorem final6 (c : Dev nD) : (dats m 0 c).arrAt 6 (cfgs 0).N = da (n := 4096) (V m c main_arg4) (V m c main_v15) (V m c main_v20) := by
  refine (dats m 0 c).arrAt_eq_of_covers 6 _ (by decide +kernel) fun t hf y => ?_
  blk_simp; rw [after0_6, out6]
  pointwise [daBlk, da]
  blk_point [iblk, idx t]

/-- The array of the input's gradient after the last point. -/
theorem final7 (c : Dev nD) : (dats m 0 c).arrAt 7 (cfgs 0).N = dh (n := 4096) (V m c main_arg4)
    (dhn (da (n := 4096) (V m c main_arg4) (V m c main_v15) (V m c main_v20)) (V m c main_v18)) (V m c main_arg0) (V m c main_v21) := by
  refine (dats m 0 c).arrAt_eq_of_covers 7 _ (by decide +kernel) fun t hf y => ?_
  blk_simp; rw [after0_7, out7]
  pointwise [daBlk, da, dhnBlk, dhn, dh, inv]
  blk_point [iblk, idx t]

/-- The copy of the upstream gradient. -/
theorem final9 (c : Dev nD) : (dats m 0 c).arrAt 9 (cfgs 0).N = V m c main_arg4 := by
  refine (dats m 0 c).arrAt_eq_of_covers 9 _ (by decide +kernel) fun t hf y => ?_
  blk_simp; rw [after0_9, out9]
  blk_point [iblk, idx t]

/-- The gain's gradient after the last point: the sum over all rows. -/
theorem final8 (c : Dev nD) : (dats m 0 c).arrAt 8 (cfgs 0).N = dg (n := 4096)
    (dhn (da (n := 4096) (V m c main_arg4) (V m c main_v15) (V m c main_v20)) (V m c main_v18)) (V m c main_arg0) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0)
    (fun t j => dg (n := 512) (dhnBlk m c t) (iblk m c 4 t) j)
    (fun t h j => by rw [out8A m c t h (by have : t.val < 8 := t.isLt; omega), zero_add])
    (fun t h j => by rw [out8B m c t h (by omega)])
    (le_of_eq N_0) t0_7 rfl j, zero_add]
  pointwise [dg, dhnBlk, daBlk, dhn, da, inv]
  refine Fin.sum_mul_add_congr (fun p k hl => ?_)
  blk_point [iblk, idx p]

end Cert.Kernel2Ideal.Value

end
-- ==== Proof.FfnDataEquation.lean ====
/- The channel MLP's backward pass through its activation and its norm: the call's results are the derivatives of the layer. -/
module

public import proofs.«01_k».proof.Defs
public import proofs.«01_k».proof.Proof.Gen.Pre_finite2
public import proofs.«01_k».proof.Proof.FfnDataArray
public import proofs.«01_k».proof.Proof.Reals
public import proofs.«01_k».proof.Proof.Gen.Reference2Ideal.Run
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen Cert.Proof

/-- The pre-activation of row `i`, unit `k`: the normalised row against a column of the first weight. -/
def pre (h : FVec Ideal S4096x1024 .f32) (g : FVec Ideal S1024 .f32) (w1 : FVec Ideal S1024x4096 .f32) (i : Fin 4096) (k : Fin 4096) : EReal :=
  ∑ x : Fin 1024, h (ix2 i x) * inv (n := 4096) h i * g (ix1 x) * w1 (ix2 x k)

/-- The gradient at that pre-activation. -/
def dpre (h : FVec Ideal S4096x1024 .f32) (g : FVec Ideal S1024 .f32) (w1 : FVec Ideal S1024x4096 .f32) (w2 ct : FVec Ideal S4096x1024 .f32)
    (i : Fin 4096) (k : Fin 4096) : EReal :=
  (∑ d : Fin 1024, ct (ix2 i d) * w2 (ix2 k d)) * (Ideal.ofBits .f32 0x40000000#32 * max (pre h g w1 i k) 0)

/-- The gradient at the normalised input. -/
def dnorm (h : FVec Ideal S4096x1024 .f32) (g : FVec Ideal S1024 .f32) (w1 : FVec Ideal S1024x4096 .f32) (w2 ct : FVec Ideal S4096x1024 .f32)
    (i : Fin 4096) (x : Fin 1024) : EReal :=
  ∑ k : Fin 4096, dpre h g w1 w2 ct i k * w1 (ix2 x k)

variable (m : (ℓ : Loc nD τ sig) → Buf (Elt Ideal) ℓ)

/-- The host's rectified pre-activations. -/
theorem p_eq (c : Dev nD) (i k : Fin 4096) : (V m c main_v15 : FVec Ideal S4096x4096 .bf16) (ix2 i k)
    = max (pre (m (c.tc.loc main_arg0)) (m (c.tc.loc main_arg1)) (m (c.tc.loc main_arg2)) i k) 0 := by
  simp only [V, hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  pointwise [pre, inv]

/-- The second weight, cut in panels of 512 rows. -/
theorem rows_eq (c : Dev nD) (k : Fin 4096) (d : Fin 1024) :
    (V m c main_v20 : FVec Ideal S8x512x1024 .bf16) (ix3 ⟨k.val / 512, Nat.div_lt_of_lt_mul k.isLt⟩ ⟨k.val % 512, Nat.mod_lt _ (by omega)⟩ d)
    = (m (c.tc.loc main_arg3) : FVec Ideal S4096x1024 .f32) (ix2 k d) := by
  simp only [V, hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  pointwise

/-- The first weight, transposed and cut in panels. -/
theorem col_eq (c : Dev nD) (k : Fin 4096) (d : Fin 1024) :
    (V m c main_v18 : FVec Ideal S8x1x512x1024 .bf16) (ix4 ⟨k.val / 512, Nat.div_lt_of_lt_mul k.isLt⟩ 0 ⟨k.val % 512, Nat.mod_lt _ (by omega)⟩ d)
    = (m (c.tc.loc main_arg2) : FVec Ideal S1024x4096 .f32) (ix2 d k) := by
  simp only [V, hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  pointwise

/-- The gain as a row. -/
theorem gain_eq (c : Dev nD) (d : Fin 1024) :
    (V m c main_v21 : FVec Ideal S1x1024 .f32) (ix2 0 d) = (m (c.tc.loc main_arg1) : FVec Ideal S1024 .f32) (ix1 d) := by
  simp only [V, hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  pointwise

/-- The call's gradient at the pre-activations, in the arguments. -/
theorem da_eq (c : Dev nD) (i k : Fin 4096) : da (n := 4096) (V m c main_arg4) (V m c main_v15) (V m c main_v20) (ix2 i k)
    = dpre (m (c.tc.loc main_arg0)) (m (c.tc.loc main_arg1)) (m (c.tc.loc main_arg2)) (m (c.tc.loc main_arg3)) (m (c.tc.loc main_arg4)) i k := by
  have e : ∀ d : Fin 1024, _ := fun d => rows_eq m c k d
  have p := p_eq m c i k
  unfold da dpre
  rw [V_main_arg4]
  exact congr (congrArg _ (Finset.sum_congr rfl fun d _ => congrArg _ (e d))) (congrArg _ p)

/-- The call's gradient at the normalised input, in the arguments. -/
theorem dhn_eq (c : Dev nD) (i : Fin 4096) (x : Fin 1024) : dhn (da (n := 4096) (V m c main_arg4) (V m c main_v15) (V m c main_v20)) (V m c main_v18) (ix2 i x)
    = dnorm (m (c.tc.loc main_arg0)) (m (c.tc.loc main_arg1)) (m (c.tc.loc main_arg2)) (m (c.tc.loc main_arg3)) (m (c.tc.loc main_arg4)) i x :=
  Finset.sum_congr rfl fun k _ => congr (congrArg _ (da_eq m c i k)) (col_eq m c k x)

end Cert.Kernel2Ideal.Value

end
-- ==== Proof.FfnData.lean ====
/- The channel MLP's backward pass through its activation and its norm: the reference's derivatives, and that the call computes them. -/
module

public import proofs.«01_k».proof.Proof.FfnDataEquation

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen Cert.Proof

variable (m : (ℓ : Loc nD τ sig) → Buf (Elt Ideal) ℓ)

/-- What the precondition says of the arguments: every element is finite. -/
theorem finite_args (hpre : Cert.Pre_Kernel2Ideal_finite2 m) (c : Dev nD) :
    (∀ i, IsReal ((m (c.tc.loc main_arg0) : FVec Ideal S4096x1024 .f32) i)) ∧ (∀ i, IsReal ((m (c.tc.loc main_arg1) : FVec Ideal S1024 .f32) i))
    ∧ (∀ i, IsReal ((m (c.tc.loc main_arg2) : FVec Ideal S1024x4096 .f32) i)) ∧ (∀ i, IsReal ((m (c.tc.loc main_arg3) : FVec Ideal S4096x1024 .f32) i))
    ∧ (∀ i, IsReal ((m (c.tc.loc main_arg4) : FVec Ideal S4096x1024 .f32) i)) := by
  have e := congrFun (hpre c) ValueIdx.ix0
  simp only [Cert.Pre_finite2.fn, Cert.Pre_finite2.fn_part1, andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => fin_of_abs_lt (Host.reduce_andi_all _ _ _ _ _ e0 i), fun i => fin_of_abs_lt (Host.reduce_andi_all _ _ _ _ _ e1 i),
    fun i => fin_of_abs_lt (Host.reduce_andi_all _ _ _ _ _ e2 i), fun i => fin_of_abs_lt (Host.reduce_andi_all _ _ _ _ _ e3 i),
    fun i => fin_of_abs_lt (Host.reduce_andi_all _ _ _ _ _ e4 i)⟩

theorem inv_finite (h : FVec Ideal S4096x1024 .f32) (hh : ∀ i, IsReal (h i)) (i : Fin 4096) : IsReal (inv (n := 4096) h i) := by
  unfold inv; rw [ofBits_1024, ofBits_eps]
  exact rms_finite (fun d => h (ix2 i d)) (fun d => hh _) _ _ (by norm_num) (by norm_num)

theorem dnorm_finite (h : FVec Ideal S4096x1024 .f32) (g : FVec Ideal S1024 .f32) (w1 : FVec Ideal S1024x4096 .f32) (w2 ct : FVec Ideal S4096x1024 .f32)
    (hh : ∀ i, IsReal (h i)) (hg : ∀ i, IsReal (g i)) (h1 : ∀ i, IsReal (w1 i)) (h2 : ∀ i, IsReal (w2 i)) (hc : ∀ i, IsReal (ct i))
    (i : Fin 4096) (x : Fin 1024) : IsReal (dnorm h g w1 w2 ct i x) := by
  refine .sum fun k => .mul (.mul (.sum fun d => .mul (hc _) (h2 _)) (.mul (by rw [ofBits_two]; exact .coe _) (.max (.sum fun d => ?_) (.coe 0)))) (h1 _)
  exact .mul (.mul (.mul (hh _) (inv_finite h hh i)) (hg _)) (h1 _)

theorem dh_at (ct dn h : FVec Ideal (Rows 4096 1024) .f32) (g : FVec Ideal S1x1024 .f32) (i : Fin 4096) (x : Fin 1024) :
    dh ct dn h g (ix2 i x) = ct (ix2 i x) + inv h i * (dn (ix2 i x) * g (ix2 0 x) - h (ix2 i x) * inv h i *
      Ideal.div (∑ d : Fin 1024, dn (ix2 i d) * g (ix2 0 d) * (h (ix2 i d) * inv h i)) (Ideal.ofBits .f32 0x44800000#32)) := rfl

/-- The call's gradient at the input, in the arguments. -/
theorem dh_eq (c : Dev nD) (i : Fin 4096) (x : Fin 1024) {h : FVec Ideal S4096x1024 .f32} {g : FVec Ideal S1024 .f32} {w1 : FVec Ideal S1024x4096 .f32}
    {w2 ct : FVec Ideal S4096x1024 .f32} (e0 : m (c.tc.loc main_arg0) = h) (e1 : m (c.tc.loc main_arg1) = g) (e2 : m (c.tc.loc main_arg2) = w1)
    (e3 : m (c.tc.loc main_arg3) = w2) (e4 : m (c.tc.loc main_arg4) = ct) :
    dh (n := 4096) (V m c main_arg4) (dhn (da (n := 4096) (V m c main_arg4) (V m c main_v15) (V m c main_v20)) (V m c main_v18)) (V m c main_arg0) (V m c main_v21) (ix2 i x)
    = ct (ix2 i x) + inv (n := 4096) h i * (dnorm h g w1 w2 ct i x * g (ix1 x) - h (ix2 i x) * inv (n := 4096) h i *
        Ideal.div (∑ d : Fin 1024, dnorm h g w1 w2 ct i d * g (ix1 d) * (h (ix2 i d) * inv (n := 4096) h i)) (Ideal.ofBits .f32 0x44800000#32)) := by
  subst e0 e1 e2 e3 e4
  have a : ∀ d : Fin 1024, _ := fun d => dhn_eq m c i d
  have b : ∀ d : Fin 1024, _ := fun d => gain_eq m c d
  rw [V_main_arg4] at a ⊢
  rw [V_main_arg0]
  rw [dh_at]
  simp only [a, b]

/-- The derivative at the input taken operation by operation: the upstream gradient, the normalised row's part, and twice the
    part through the mean square. -/
theorem dh_row (h : FVec Ideal S4096x1024 .f32) (g : FVec Ideal S1024 .f32) (w1 : FVec Ideal S1024x4096 .f32) (w2 ct : FVec Ideal S4096x1024 .f32)
    (hh : ∀ i, IsReal (h i)) (hg : ∀ i, IsReal (g i)) (h1 : ∀ i, IsReal (w1 i)) (h2 : ∀ i, IsReal (w2 i)) (hc : ∀ i, IsReal (ct i))
    (i : Fin 4096) (x : Fin 1024) :
    let v : EReal := Ideal.div (∑ d : Fin 1024, h (ix2 i d) * h (ix2 i d)) (Ideal.ofBits .f32 0x44800000#32) + Ideal.ofBits .f32 0x358637BD#32
    let q : EReal := Ideal.div ((∑ d : Fin 1024, h (ix2 i d) * (dnorm h g w1 w2 ct i d * g (ix1 d))) * (Ideal.ofBits .f32 0xBF000000#32 * Ideal.div (Ideal.rsqrt v) v)) (Ideal.ofBits .f32 0x44800000#32)
    (ct (ix2 i x) + dnorm h g w1 w2 ct i x * g (ix1 x) * Ideal.rsqrt v + h (ix2 i x) * q + q * h (ix2 i x) : EReal)
    = ct (ix2 i x) + inv (n := 4096) h i * (dnorm h g w1 w2 ct i x * g (ix1 x) - h (ix2 i x) * inv (n := 4096) h i *
        Ideal.div (∑ d : Fin 1024, dnorm h g w1 w2 ct i d * g (ix1 d) * (h (ix2 i d) * inv (n := 4096) h i)) (Ideal.ofBits .f32 0x44800000#32)) := by
  intro v q
  have r := rms_row (fun d : Fin 1024 => h (ix2 i d)) (fun d => dnorm h g w1 w2 ct i d * g (ix1 d)) (fun d => hh _)
    (fun d => .mul (dnorm_finite h g w1 w2 ct hh hg h1 h2 hc i d) (hg _)) 1024 _ (by norm_num) (by norm_num : (0 : ℝ) < 8796093 / 8796093022208) x
  rw [← ofBits_1024, ← ofBits_eps, ← ofBits_neg_half] at r
  rw [add_assoc, add_assoc, ← add_assoc (_ * _ * _)]
  exact congrArg (ct (ix2 i x) + ·) r.symm

end Cert.Kernel2Ideal.Value

/-- The call's four results are the layer's derivative at the pre-activations, at its input and at its gain, and the upstream
    gradient. -/
theorem Cert.Proof.alg2 : Cert.algebraic_Kernel2Ideal_Reference2Ideal_pre_finite2 := by
  pair_intro
  · run_from Cert.Kernel2Ideal.Value.run_blocks m g
  · run_from Cert.Reference2Ideal.Value.run m' g'
    · rw [Cert.Kernel2Ideal.Value.final6]
      funext j
      obtain ⟨i, k, rfl⟩ : ∃ i k, j = ix2 i k := ⟨_, _, eq_ix2 j⟩
      rw [Cert.Kernel2Ideal.Value.da_eq]
      pointwise [Cert.Kernel2Ideal.Value.dpre, Cert.Kernel2Ideal.Value.pre, Cert.Kernel2Ideal.Value.inv]
      exact Cert.Proof.relu_grad _ _ _
    · obtain ⟨a0, a1, a2, a3, a4⟩ := hagree c
      unfold Cert.Reference2Ideal.Value.res_main_v84
      rw [Cert.Kernel2Ideal.Value.final7]
      funext j
      obtain ⟨i, x, rfl⟩ : ∃ i x, j = ix2 i x := ⟨_, _, eq_ix2 j⟩
      pointwise
      simp only [a0, a1, a2, a3, a4, Cert.Proof.relu_grad, Finset.univ_unique, Finset.sum_singleton]
      obtain ⟨f0, f1, f2, f3, f4⟩ := Cert.Kernel2Ideal.Value.finite_args m hpre c
      rw [Cert.Kernel2Ideal.Value.dh_eq m c i x rfl rfl rfl rfl rfl]
      exact Cert.Kernel2Ideal.Value.dh_row _ _ _ _ _ f0 f1 f2 f3 f4 i x
    · rw [Cert.Kernel2Ideal.Value.final8]
      funext j
      obtain ⟨z, x, rfl⟩ : ∃ z x, j = ix2 z x := ⟨_, _, eq_ix2 j⟩
      pointwise
      simp only [Cert.Proof.relu_grad, Finset.univ_unique, Finset.sum_singleton]
      refine Finset.sum_congr rfl fun i _ => ?_
      refine (mul_comm _ _).trans (congrArg (· * _) ?_)
      exact (Cert.Kernel2Ideal.Value.dhn_eq m c i x).symm
    · rw [Cert.Kernel2Ideal.Value.final9]
      exact (Cert.Kernel2Ideal.Gen.V_main_arg4 m c).symm

end
-- ==== Proof.FfnWeights.lean ====
/- The channel MLP's weight gradients: the call's two result arrays, and that they are the derivatives of the layer. -/
module

public import proofs.«01_k».proof.Defs
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Value

open Cert.Kernel3Ideal Cert.Kernel3Ideal.Gen

variable (m : (ℓ : Loc nD τ sig) → Buf (Elt Ideal) ℓ)

/-- Which block of its array each window shows at grid point `t`. -/
theorem idx : ∀ t : Fin cfg0.N, win0_0.index t = ![0, 0]
    ∧ win0_1.index t = ![0, t.val]
    ∧ win0_2.index t = ![0, t.val]
    ∧ win0_3.index t = ![0, 0]
    ∧ win0_4.index t = ![t.val, 0, 0]
    ∧ win0_5.index t = ![t.val, 0, 0] :=
  (by decide +kernel : ∀ t : Fin grid0.N, _)

/-- The gradient of the first weight, one panel of 512 columns after the other: the normalised input against the
    pre-activations' gradient, summed over the rows. -/
def dw1 (hn : FVec Ideal S4096x1024 .bf16) (da : FVec Ideal S4096x4096 .bf16) : FVec Ideal S8x1024x512 .bf16 :=
  fun j => ∑ r : Fin 4096, (hn (ix2 r (j 1)) * da (ix2 r ⟨(j 0).val * 512 + (j 2).val, by have := (j 0).isLt; have := (j 2).isLt; simp at *; omega⟩) : EReal)

/-- The gradient of the second weight, one panel of 512 rows after the other: the squared activation against the upstream
    gradient, summed over the rows. -/
def dw2 (p : FVec Ideal S4096x4096 .bf16) (ct : FVec Ideal S4096x1024 .bf16) : FVec Ideal S8x512x1024 .bf16 :=
  fun j => ∑ r : Fin 4096, (p (ix2 r ⟨(j 0).val * 512 + (j 1).val, by have := (j 0).isLt; have := (j 1).isLt; simp at *; omega⟩)
      * p (ix2 r ⟨(j 0).val * 512 + (j 1).val, by have := (j 0).isLt; have := (j 1).isLt; simp at *; omega⟩) * ct (ix2 r (j 2)) : EReal)

/-- The array of the first gradient after the last point. -/
theorem final4 (c : Dev nD) : (dats m 0 c).arrAt 4 (cfgs 0).N = dw1 (V m c main_v28) (V m c main_v29) := by
  refine (dats m 0 c).arrAt_eq_of_covers 4 _ (by decide +kernel) fun t hf y => ?_
  blk_simp; rw [after0_4]; frame_out
  pointwise [k0_pay1, dw1]

  blk_point [iblk, idx t]

/-- The array of the second gradient after the last point. -/
theorem final5 (c : Dev nD) : (dats m 0 c).arrAt 5 (cfgs 0).N = dw2 (V m c main_v31) (V m c main_v32) := by
  refine (dats m 0 c).arrAt_eq_of_covers 5 _ (by decide +kernel) fun t hf y => ?_
  blk_simp; rw [after0_5]; frame_out
  pointwise [k0_pay2, dw2]
  blk_point [iblk, idx t]

end Cert.Kernel3Ideal.Value

/-- The call's two results are the derivatives of the layer in its two weights. -/
theorem Cert.Proof.alg3 : Cert.algebraic_Kernel3Ideal_Reference3Ideal := by
  pair_intro
  · run_from Cert.Kernel3Ideal.Value.run_blocks m g
  · run_from Cert.Reference3Ideal.Value.run m' g'
    · rw [Cert.Kernel3Ideal.Value.final4]
      simp only [Cert.Kernel3Ideal.Gen.V, Cert.Kernel3Ideal.Gen.hostOps0, Cert.Kernel3Ideal.Gen.hostOps0_1, Cert.Kernel3Ideal.Gen.hostOps0_2, Cert.Kernel3Ideal.Gen.hostOps0_3, Cert.Kernel3Ideal.Gen.hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel3Ideal.Value.dw1]
      exact Finset.sum_congr rfl fun r _ => mul_comm _ _
    · rw [Cert.Kernel3Ideal.Value.final5]
      simp only [Cert.Kernel3Ideal.Gen.V, Cert.Kernel3Ideal.Gen.hostOps0, Cert.Kernel3Ideal.Gen.hostOps0_1, Cert.Kernel3Ideal.Gen.hostOps0_2, Cert.Kernel3Ideal.Gen.hostOps0_3, Cert.Kernel3Ideal.Gen.hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel3Ideal.Value.dw2]
      exact Finset.sum_congr rfl fun r _ => mul_comm _ _

end
-- ==== Proof.FfnForward.lean ====
/- The channel MLP's forward pass: what one block of 512 rows computes, and that the call's results are the layer's. -/
module

public import proofs.«01_k».proof.Defs
public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Value

open Cert.Kernel4Ideal Cert.Kernel4Ideal.Gen

variable (m : (ℓ : Loc nD τ sig) → Buf (Elt Ideal) ℓ)

/-- Which block of its array each window shows at grid point `t`. -/
theorem idx : ∀ t : Fin cfg0.N, win0_0.index t = ![t.val, 0]
    ∧ win0_1.index t = ![0, 0]
    ∧ win0_2.index t = ![0, 0, 0, 0]
    ∧ win0_3.index t = ![0, 0, 0]
    ∧ win0_4.index t = ![t.val, 0]
    ∧ win0_5.index t = ![t.val, 0]
    ∧ win0_6.index t = ![t.val, 0] :=
  (by decide +kernel : ∀ t : Fin grid0.N, _)

/-- `n` rows of `d` entries. -/
abbrev Rows (n d : ℕ) : Shape := ⟨2, ![n, d]⟩

/-- The reciprocal root mean square of row `i`. -/
def inv {n : ℕ} (h : FVec Ideal (Rows n 1024) .f32) (i : Fin n) : EReal :=
  Ideal.rsqrt (Ideal.div (∑ d : Fin 1024, h (ix2 i d) * h (ix2 i d)) (Ideal.ofBits .f32 0x44800000#32) + Ideal.ofBits .f32 0x358637BD#32)

/-- The normalised input. -/
def norm {n : ℕ} (h : FVec Ideal (Rows n 1024) .f32) (g : FVec Ideal S1x1024 .f32) : FVec Ideal (Rows n 1024) .bf16 :=
  fun j => h (ix2 (j 0) (j 1)) * inv h (j 0) * g (ix2 0 (j 1))

/-- The rectified pre-activations. -/
def act {n : ℕ} (x : FVec Ideal (Rows n 1024) .bf16) (w : FVec Ideal S8x1x512x1024 .bf16) : FVec Ideal (Rows n 4096) .bf16 :=
  fun j => max (∑ d : Fin 1024, x (ix2 (j 0) d) * w (ix4 ⟨(j 1).val / 512, Nat.div_lt_of_lt_mul (j 1).isLt⟩ 0 ⟨(j 1).val % 512, Nat.mod_lt _ (by omega)⟩ d)) 0

/-- Their squares. -/
def sq {n : ℕ} (p : FVec Ideal (Rows n 4096) .bf16) : FVec Ideal (Rows n 4096) .bf16 := fun j => p (ix2 (j 0) (j 1)) * p (ix2 (j 0) (j 1))

/-- The layer's output: the input plus the squares through the second weight. -/
def out {n : ℕ} (h : FVec Ideal (Rows n 1024) .f32) (r : FVec Ideal (Rows n 4096) .bf16) (w : FVec Ideal S8x512x1024 .bf16) : FVec Ideal (Rows n 1024) .f32 :=
  fun j => h (ix2 (j 0) (j 1)) + ∑ k : Fin 4096, r (ix2 (j 0) k) * w (ix3 ⟨k.val / 512, Nat.div_lt_of_lt_mul k.isLt⟩ ⟨k.val % 512, Nat.mod_lt _ (by omega)⟩ (j 1))

/-- A whole buffer read back after stores that cover it: what it reads is the function that the stores leave. -/
theorem readCov_of_canon [∀ e, Nonempty (Elt Ideal e)] {sig : RefSig} {κ : Kind} {sp : Space} {s : Shape} {e : EltTy} (G : s.Idx → Elt Ideal e) (v : View sig κ sp s e) (L : List (View.Piece (Elt Ideal) s e)) (r : Rect s)
    (h : ∀ y, View.canon L y = G y) : v.readCov L r.toLoadRect = View.ld G r := by
  rw [View.readCov_eq_canon']; funext j; exact h _

/-- One tile of 512 columns of the rectified pre-activations, as it is stored, at its place in the whole rows. -/
theorem tile {n : ℕ} (x : FVec Ideal (Rows n 1024) .bf16) (w : FVec Ideal S8x1x512x1024 .bf16)
    (k : Fin 8) (i : Fin n) (l : Fin 512) (y : (Rows n 4096).Idx) (h0 : (y 0).val = i.val) (h1 : (y 1).val = 512 * k.val + l.val) :
    max (∑ d : Fin 1024, x (ix2 i d) * w (ix4 k 0 l d)) 0 = act x w y := by
  have hl := l.isLt
  have e0 : y 0 = i := Fin.ext h0
  have e : ∀ d : Fin 1024, (ix4 k 0 l d : S8x1x512x1024.Idx) = ix4 ⟨(y 1).val / 512, Nat.div_lt_of_lt_mul (y 1).isLt⟩ 0 ⟨(y 1).val % 512, Nat.mod_lt _ (by omega)⟩ d := fun d => by
    congr 1 <;> (apply Fin.ext; simp only; omega)
  unfold act
  simp only [e, e0]

/-- The same tile's squares. -/
theorem tile_sq {n : ℕ} (x : FVec Ideal (Rows n 1024) .bf16) (w : FVec Ideal S8x1x512x1024 .bf16)
    (k : Fin 8) (i : Fin n) (l : Fin 512) (y : (Rows n 4096).Idx) (h0 : (y 0).val = i.val) (h1 : (y 1).val = 512 * k.val + l.val) :
    max (∑ d : Fin 1024, x (ix2 i d) * w (ix4 k 0 l d)) 0 * max (∑ d : Fin 1024, x (ix2 i d) * w (ix4 k 0 l d)) 0 = sq (act x w) y := by
  rw [tile x w k i l y h0 h1]
  show _ = act x w (ix2 (y 0) (y 1)) * act x w (ix2 (y 0) (y 1))
  rw [← eq_ix2 y]

/-- The normalised rows of point `t`. -/
abbrev normBlk (c : Dev nD) (t : Fin cfg0.N) : FVec Ideal (Rows 512 1024) .bf16 := norm (n := 512) (iblk m c 0 t) (iblk m c 1 t)

/-- What a point leaves in its block of the rectified pre-activations. -/
theorem out4 (c : Dev nD) (t : Fin cfg0.N) (y) : (outsAt0 m c t).1 y = act (normBlk m c t) (iblk m c 2 t) y := by
  unfold outsAt0; dsimp only; frame_out
  canon_tiles x h
  all_goals (open_payloads; pointwise; exact tile (normBlk m c t) (iblk m c 2 t) _ _ _ _ (by assumption) (by simpa))

/-- What a point leaves in its block of the output. -/
theorem out5 (c : Dev nD) (t : Fin cfg0.N) (j) : (outsAt0 m c t).2.1 j = out (n := 512) (iblk m c 0 t) (sq (act (normBlk m c t) (iblk m c 2 t))) (iblk m c 3 t) j := by
  unfold outsAt0; dsimp only; frame_out
  rw [readCov_of_canon (sq (act (normBlk m c t) (iblk m c 2 t)))]
  · frame_out
    open_payloads
    pointwise [out]
  · intro y
    canon_tiles x h
    all_goals (open_payloads; pointwise; exact tile_sq (normBlk m c t) (iblk m c 2 t) _ _ _ _ (by assumption) (by simpa))

/-- What a point leaves in its block of the normalised input. -/
theorem out6 (c : Dev nD) (t : Fin cfg0.N) (j) : (outsAt0 m c t).2.2 j = normBlk m c t j := by
  unfold outsAt0; dsimp only; frame_out
  open_payloads; pointwise [normBlk, norm, inv]

/-- The array of the rectified pre-activations after the last point. -/
theorem final4 (c : Dev nD) : (dats m 0 c).arrAt 4 (cfgs 0).N = act (n := 4096) (norm (n := 4096) (V m c main_arg0) (V m c main_v5)) (V m c main_v2) := by
  refine (dats m 0 c).arrAt_eq_of_covers 4 _ (by decide +kernel) fun t hf y => ?_
  blk_simp; rw [after0_4, out4]
  pointwise [act, normBlk, norm, inv]
  blk_point [iblk, idx t]

/-- The array of the output after the last point. -/
theorem final5 (c : Dev nD) : (dats m 0 c).arrAt 5 (cfgs 0).N = out (n := 4096) (V m c main_arg0) (sq (act (n := 4096) (norm (n := 4096) (V m c main_arg0) (V m c main_v5)) (V m c main_v2))) (V m c main_v4) := by
  refine (dats m 0 c).arrAt_eq_of_covers 5 _ (by decide +kernel) fun t hf y => ?_
  blk_simp; rw [after0_5, out5]
  pointwise [out, sq, act, normBlk, norm, inv]
  blk_point [iblk, idx t]

/-- The array of the normalised input after the last point. -/
theorem final6 (c : Dev nD) : (dats m 0 c).arrAt 6 (cfgs 0).N = norm (n := 4096) (V m c main_arg0) (V m c main_v5) := by
  refine (dats m 0 c).arrAt_eq_of_covers 6 _ (by decide +kernel) fun t hf y => ?_
  blk_simp; rw [after0_6, out6]
  pointwise [normBlk, norm, inv]
  blk_point [iblk, idx t]

end Cert.Kernel4Ideal.Value

/-- The call's three results are the layer's rectified pre-activations, its output and its normalised input. -/
theorem Cert.Proof.alg4 : Cert.algebraic_Kernel4Ideal_Reference4Ideal := by
  pair_intro
  · run_from Cert.Kernel4Ideal.Value.run_blocks m g
  · run_from Cert.Reference4Ideal.Value.run m' g'
    · rw [Cert.Kernel4Ideal.Value.final4]
      simp only [Cert.Kernel4Ideal.Gen.V, Cert.Kernel4Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel4Ideal.Value.act, Cert.Kernel4Ideal.Value.norm, Cert.Kernel4Ideal.Value.inv]
    · rw [Cert.Kernel4Ideal.Value.final5]
      simp only [Cert.Kernel4Ideal.Gen.V, Cert.Kernel4Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel4Ideal.Value.out, Cert.Kernel4Ideal.Value.sq, Cert.Kernel4Ideal.Value.act, Cert.Kernel4Ideal.Value.norm, Cert.Kernel4Ideal.Value.inv]
    · rw [Cert.Kernel4Ideal.Value.final6]
      simp only [Cert.Kernel4Ideal.Gen.V, Cert.Kernel4Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel4Ideal.Value.norm, Cert.Kernel4Ideal.Value.inv]

end
-- ==== Proof.ProjectData.lean ====
/- The gated layers' input projection, backward to the stream: what a block of 512 rows computes, the result arrays, and that
   they are the derivatives of the normalised projection. -/
module

public import proofs.«01_k».proof.Defs
public import proofs.«01_k».proof.Proof.Reals
public import proofs.«01_k».proof.Proof.Gen.Pre_finite5
public import proofs.«01_k».proof.Proof.Gen.Kernel5Ideal.Frame
public import proofs.«01_k».proof.Proof.Gen.Kernel5Ideal.Value
public import proofs.«01_k».proof.Proof.Gen.Reference5Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Value

open Cert.Kernel5Ideal Cert.Kernel5Ideal.Gen Cert.Proof

variable (m : (ℓ : Loc nD τ sig) → Buf (Elt Ideal) ℓ)

/-- Which block of its array each window shows at grid point `t`. -/
theorem idx : ∀ t : Fin cfg0.N, win0_0.index t = ![t.val, 0]
    ∧ win0_1.index t = ![0, 0, 0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- `n` rows of `d` entries. -/
abbrev Rows (n d : ℕ) : Shape := ⟨2, ![n, d]⟩

/-- The gradient at the normalised input: the upstream gradient through the weight. -/
def dhn {n : ℕ} (dz : FVec Ideal (Rows n 4096) .bf16) (w : FVec Ideal S8x1x512x1024 .bf16) : FVec Ideal (Rows n 1024) .f32 :=
  fun j => ∑ k : Fin 4096, dz (ix2 (j 0) k) * w (ix4 ⟨k.val / 512, Nat.div_lt_of_lt_mul k.isLt⟩ 0 ⟨k.val % 512, Nat.mod_lt _ (by omega)⟩ (j 1))

/-- The reciprocal root mean square of row `i`. -/
def inv {n : ℕ} (h : FVec Ideal (Rows n 1024) .f32) (i : Fin n) : EReal :=
  Ideal.rsqrt (Ideal.div (∑ d : Fin 1024, h (ix2 i d) * h (ix2 i d)) (Ideal.ofBits .f32 0x44800000#32) + Ideal.ofBits .f32 0x358637BD#32)

/-- The gradient at the input: the gradient past the projection plus the normalisation's backward pass. -/
def dh {n : ℕ} (ct : FVec Ideal (Rows n 1024) .f32) (dn : FVec Ideal (Rows n 1024) .f32) (h : FVec Ideal (Rows n 1024) .f32) (g : FVec Ideal S1x1024 .f32) :
    FVec Ideal (Rows n 1024) .f32 :=
  fun j => ct (ix2 (j 0) (j 1)) + inv h (j 0) * (dn (ix2 (j 0) (j 1)) * g (ix2 0 (j 1)) - h (ix2 (j 0) (j 1)) * inv h (j 0) *
    Ideal.div (∑ d : Fin 1024, dn (ix2 (j 0) d) * g (ix2 0 d) * (h (ix2 (j 0) d) * inv h (j 0))) (Ideal.ofBits .f32 0x44800000#32))

/-- The gradient of the normalisation's gain. -/
def dg {n : ℕ} (dn h : FVec Ideal (Rows n 1024) .f32) : FVec Ideal S1x1024 .f32 :=
  fun j => ∑ i : Fin n, dn (ix2 i (j 1)) * (h (ix2 i (j 1)) * inv h i)

/-- The gradient at the normalised input on the rows of point `t`. -/
abbrev dhnBlk (c : Dev nD) (t : Fin cfg0.N) : FVec Ideal (Rows 512 1024) .f32 := dhn (n := 512) (iblk m c 0 t) (iblk m c 1 t)

/-- What a point leaves in its block of the input's gradient. -/
theorem out5 (c : Dev nD) (t : Fin cfg0.N) (j) : (outsAt0 m c t.val t.isLt).1 j =
   dh (n := 512) (iblk m c 4 t) (dhnBlk m c t) (iblk m c 2 t) (iblk m c 3 t) j := by
  by_cases h : t.val % 8 = 0
  · have h1 : ¬ 1 ≤ t.val := by have : t.val < 8 := t.isLt; omega
    rw [outsAt0_A m c t h h1]; frame_out
    open_payloads
    pointwise [dh, dhnBlk, dhn, inv]
  · have h1 : 1 ≤ t.val := by omega
    rw [outsAt0_B m c t h h1]; frame_out
    open_payloads
    pointwise [dh, dhnBlk, dhn, inv]

/-- A later point adds its rows' part to the gain's gradient. -/
theorem out6B (c : Dev nD) (t : Fin cfg0.N) (h : ¬ t.val % 8 = 0) (h1 : 1 ≤ t.val) (j) : (outsAt0 m c t.val t.isLt).2 j =
  (outsAt0 m c (t.val-1) (Nat.lt_of_le_of_lt (Nat.sub_le _ _) t.isLt)).2 j + dg (n := 512) (dhnBlk m c t) (iblk m c 2 t) j := by
  rw [outsAt0_B m c t h h1]; frame_out
  open_payloads
  pointwise [dg, dhnBlk, dhn, inv]

/-- The first point starts the gain's gradient with its rows' part. -/
theorem out6A (c : Dev nD) (t : Fin cfg0.N) (h : t.val % 8 = 0) (h1 : ¬ 1 ≤ t.val) (j) : (outsAt0 m c t.val t.isLt).2 j =
  dg (n := 512) (dhnBlk m c t) (iblk m c 2 t) j := by
  rw [outsAt0_A m c t h h1]; frame_out
  open_payloads
  pointwise [dg, dhnBlk, dhn, inv]

/-- The array of the input's gradient after the last point. -/
theorem final5 (c : Dev nD) : (dats m 0 c).arrAt 5 (cfgs 0).N = dh (n := 4096) (V m c main_arg4)
    (dhn (n := 4096) (V m c main_v3) (V m c main_v2)) (V m c main_arg0) (V m c main_v4) := by
  refine (dats m 0 c).arrAt_eq_of_covers 5 _ (by decide +kernel) fun t hf y => ?_
  blk_simp; rw [after0_5, out5]
  pointwise [dhnBlk, dhn, dh, inv]
  blk_point [iblk, idx t]

/-- The gain's gradient after the last point: the sum over all rows. -/
theorem final6 (c : Dev nD) : (dats m 0 c).arrAt 6 (cfgs 0).N = dg (n := 4096)
    (dhn (n := 4096) (V m c main_v3) (V m c main_v2)) (V m c main_arg0) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun t j => dg (n := 512) (dhnBlk m c t) (iblk m c 2 t) j)
    (fun t h j => by rw [out6A m c t h (by have : t.val < 8 := t.isLt; omega), zero_add])
    (fun t h j => by rw [out6B m c t h (by omega)])
    (le_of_eq N_0) t0_7 rfl j, zero_add]
  pointwise [dg, dhnBlk, dhn, inv]
  refine Fin.sum_mul_add_congr (fun p k hl => ?_)
  blk_point [iblk, idx p]

/-- The gradient at the normalised input, in the arguments. -/
def dnorm (w : FVec Ideal S1024x4096 .f32) (dz : FVec Ideal S4096x4096 .f32) (i : Fin 4096) (x : Fin 1024) : EReal :=
  ∑ k : Fin 4096, dz (ix2 i k) * w (ix2 x k)

/-- The gain as a row. -/
theorem gain_eq (c : Dev nD) (d : Fin 1024) :
    (V m c main_v4 : FVec Ideal S1x1024 .f32) (ix2 0 d) = (m (c.tc.loc main_arg1) : FVec Ideal S1024 .f32) (ix1 d) := by
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  pointwise

/-- The call's gradient at the normalised input, in the arguments. -/
theorem dhn_eq (c : Dev nD) (i : Fin 4096) (x : Fin 1024) : dhn (n := 4096) (V m c main_v3) (V m c main_v2) (ix2 i x)
    = dnorm (m (c.tc.loc main_arg2)) (m (c.tc.loc main_arg3)) i x := by
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  pointwise [dhn, dnorm]

theorem dh_at (ct dn h : FVec Ideal (Rows 4096 1024) .f32) (g : FVec Ideal S1x1024 .f32) (i : Fin 4096) (x : Fin 1024) :
    dh ct dn h g (ix2 i x) = ct (ix2 i x) + inv h i * (dn (ix2 i x) * g (ix2 0 x) - h (ix2 i x) * inv h i *
      Ideal.div (∑ d : Fin 1024, dn (ix2 i d) * g (ix2 0 d) * (h (ix2 i d) * inv h i)) (Ideal.ofBits .f32 0x44800000#32)) := rfl

/-- The call's gradient at the input, in the arguments. -/
theorem dh_eq (c : Dev nD) (i : Fin 4096) (x : Fin 1024) {h : FVec Ideal S4096x1024 .f32} {g : FVec Ideal S1024 .f32} {w : FVec Ideal S1024x4096 .f32}
    {dz : FVec Ideal S4096x4096 .f32} {ct : FVec Ideal S4096x1024 .f32} (e0 : m (c.tc.loc main_arg0) = h) (e1 : m (c.tc.loc main_arg1) = g) (e2 : m (c.tc.loc main_arg2) = w)
    (e3 : m (c.tc.loc main_arg3) = dz) (e4 : m (c.tc.loc main_arg4) = ct) :
    dh (n := 4096) (V m c main_arg4) (dhn (n := 4096) (V m c main_v3) (V m c main_v2)) (V m c main_arg0) (V m c main_v4) (ix2 i x)
    = ct (ix2 i x) + inv (n := 4096) h i * (dnorm w dz i x * g (ix1 x) - h (ix2 i x) * inv (n := 4096) h i *
        Ideal.div (∑ d : Fin 1024, dnorm w dz i d * g (ix1 d) * (h (ix2 i d) * inv (n := 4096) h i)) (Ideal.ofBits .f32 0x44800000#32)) := by
  subst e0 e1 e2 e3 e4
  have a : ∀ d : Fin 1024, _ := fun d => dhn_eq m c i d
  have b : ∀ d : Fin 1024, _ := fun d => gain_eq m c d
  rw [V_main_arg4, V_main_arg0, dh_at]
  simp only [a, b]

/-- The derivative at the input taken operation by operation: the gradient past the projection, the normalised row's part, and
    twice the part through the mean square. -/
theorem dh_row (h : FVec Ideal S4096x1024 .f32) (g : FVec Ideal S1024 .f32) (w : FVec Ideal S1024x4096 .f32) (dz : FVec Ideal S4096x4096 .f32) (ct : FVec Ideal S4096x1024 .f32)
    (hh : ∀ i, IsReal (h i)) (hg : ∀ i, IsReal (g i)) (hw : ∀ i, IsReal (w i)) (hz : ∀ i, IsReal (dz i))
    (i : Fin 4096) (x : Fin 1024) :
    let v : EReal := Ideal.div (∑ d : Fin 1024, h (ix2 i d) * h (ix2 i d)) (Ideal.ofBits .f32 0x44800000#32) + Ideal.ofBits .f32 0x358637BD#32
    let q : EReal := Ideal.div ((∑ d : Fin 1024, h (ix2 i d) * (dnorm w dz i d * g (ix1 d))) * (Ideal.ofBits .f32 0xBF000000#32 * Ideal.div (Ideal.rsqrt v) v)) (Ideal.ofBits .f32 0x44800000#32)
    (ct (ix2 i x) + dnorm w dz i x * g (ix1 x) * Ideal.rsqrt v + h (ix2 i x) * q + q * h (ix2 i x) : EReal)
    = ct (ix2 i x) + inv (n := 4096) h i * (dnorm w dz i x * g (ix1 x) - h (ix2 i x) * inv (n := 4096) h i *
        Ideal.div (∑ d : Fin 1024, dnorm w dz i d * g (ix1 d) * (h (ix2 i d) * inv (n := 4096) h i)) (Ideal.ofBits .f32 0x44800000#32)) := by
  intro v q
  have r := rms_row (fun d : Fin 1024 => h (ix2 i d)) (fun d => dnorm w dz i d * g (ix1 d)) (fun d => hh _)
    (fun d => .mul (.sum fun k => .mul (hz _) (hw _)) (hg _)) 1024 _ (by norm_num) (by norm_num : (0 : ℝ) < 8796093 / 8796093022208) x
  rw [← ofBits_1024, ← ofBits_eps, ← ofBits_neg_half] at r
  rw [add_assoc, add_assoc, ← add_assoc (_ * _ * _)]
  exact congrArg (ct (ix2 i x) + ·) r.symm

/-- What the precondition says of the arguments: every element is finite. -/
theorem finite_args (hpre : Cert.Pre_Kernel5Ideal_finite5 m) (c : Dev nD) :
    (∀ i, IsReal ((m (c.tc.loc main_arg0) : FVec Ideal S4096x1024 .f32) i)) ∧ (∀ i, IsReal ((m (c.tc.loc main_arg1) : FVec Ideal S1024 .f32) i))
    ∧ (∀ i, IsReal ((m (c.tc.loc main_arg2) : FVec Ideal S1024x4096 .f32) i)) ∧ (∀ i, IsReal ((m (c.tc.loc main_arg3) : FVec Ideal S4096x4096 .f32) i))
    ∧ (∀ i, IsReal ((m (c.tc.loc main_arg4) : FVec Ideal S4096x1024 .f32) i)) := by
  have e := congrFun (hpre c) ValueIdx.ix0
  simp only [Cert.Pre_finite5.fn, Cert.Pre_finite5.fn_part1, andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => fin_of_abs_lt (Host.reduce_andi_all _ _ _ _ _ e0 i), fun i => fin_of_abs_lt (Host.reduce_andi_all _ _ _ _ _ e1 i),
    fun i => fin_of_abs_lt (Host.reduce_andi_all _ _ _ _ _ e2 i), fun i => fin_of_abs_lt (Host.reduce_andi_all _ _ _ _ _ e3 i),
    fun i => fin_of_abs_lt (Host.reduce_andi_all _ _ _ _ _ e4 i)⟩

end Cert.Kernel5Ideal.Value

/-- The call's two results are the normalised projection's derivative at its input, with the gradient past it added, and at its gain. -/
theorem Cert.Proof.alg5 : Cert.algebraic_Kernel5Ideal_Reference5Ideal_pre_finite5 := by
  pair_intro
  · run_from Cert.Kernel5Ideal.Value.run_blocks m g
  · run_from Cert.Reference5Ideal.Value.run m' g'
    · obtain ⟨a0, a1, a2, a3, a4⟩ := hagree c
      unfold Cert.Reference5Ideal.Value.res_main_v40
      rw [Cert.Kernel5Ideal.Value.final5]
      funext j
      obtain ⟨i, x, rfl⟩ : ∃ i x, j = ix2 i x := ⟨_, _, eq_ix2 j⟩
      pointwise
      simp only [a0, a1, a2, a3, a4, Finset.univ_unique, Finset.sum_singleton]
      obtain ⟨f0, f1, f2, f3, f4⟩ := Cert.Kernel5Ideal.Value.finite_args m hpre c
      rw [Cert.Kernel5Ideal.Value.dh_eq m c i x rfl rfl rfl rfl rfl]
      exact Cert.Kernel5Ideal.Value.dh_row _ _ _ _ _ f0 f1 f2 f3 i x
    · rw [Cert.Kernel5Ideal.Value.final6]
      funext j
      obtain ⟨z, x, rfl⟩ : ∃ z x, j = ix2 z x := ⟨_, _, eq_ix2 j⟩
      pointwise
      simp only [Finset.univ_unique, Finset.sum_singleton]
      refine Finset.sum_congr rfl fun i _ => ?_
      refine (mul_comm _ _).trans (congrArg (· * _) ?_)
      exact (Cert.Kernel5Ideal.Value.dhn_eq m c i x).symm

end
-- ==== Proof.ProjectWeights.lean ====
/- The gated layers' input projection, the weight's gradient: the call's result array, and that it is the derivative. -/
module

public import proofs.«01_k».proof.Defs
public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Value

open Cert.Kernel6Ideal Cert.Kernel6Ideal.Gen

variable (m : (ℓ : Loc nD τ sig) → Buf (Elt Ideal) ℓ)

/-- Which block of its array each window shows at grid point `t`. -/
theorem idx : ∀ t : Fin cfg0.N, win0_0.index t = ![0, 0]
    ∧ win0_1.index t = ![0, t.val]
    ∧ win0_2.index t = ![t.val, 0, 0] :=
  (by decide +kernel : ∀ t : Fin grid0.N, _)

/-- The gradient of the projection's weight, one panel of 512 columns after the other: the normalised input against the
    upstream gradient, summed over the rows. -/
def dw (hn : FVec Ideal S4096x1024 .bf16) (dz : FVec Ideal S4096x4096 .bf16) : FVec Ideal S8x1024x512 .bf16 :=
  fun j => ∑ r : Fin 4096, (hn (ix2 r (j 1)) * dz (ix2 r ⟨(j 0).val * 512 + (j 2).val, by have := (j 0).isLt; have := (j 2).isLt; simp at *; omega⟩) : EReal)

/-- The array of the gradient after the last point. -/
theorem final2 (c : Dev nD) : (dats m 0 c).arrAt 2 (cfgs 0).N = dw (V m c main_v13) (V m c main_v14) := by
  refine (dats m 0 c).arrAt_eq_of_covers 2 _ (by decide +kernel) fun t hf y => ?_
  blk_simp; rw [after0_2]; frame_out
  pointwise [k0_pay1, dw]
  blk_point [iblk, idx t]

end Cert.Kernel6Ideal.Value

/-- The call's result is the projection's derivative in its weight. -/
theorem Cert.Proof.alg6 : Cert.algebraic_Kernel6Ideal_Reference6Ideal := by
  pair_intro
  · run_from Cert.Kernel6Ideal.Value.run_blocks m g
  · run_from Cert.Reference6Ideal.Value.run m' g'
    · rw [Cert.Kernel6Ideal.Value.final2]
      simp only [Cert.Kernel6Ideal.Gen.V, Cert.Kernel6Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel6Ideal.Value.dw]
      exact Finset.sum_congr rfl fun r _ => mul_comm _ _

end
-- ==== Proof.ProjectForward.lean ====
/- The gated layer's input projection, forward: what one block of 512 rows computes, and that the call's results are the layer's. -/
module

public import proofs.«01_k».proof.Defs
public import proofs.«01_k».proof.Proof.Reals
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Value

open Cert.Kernel7Ideal Cert.Kernel7Ideal.Gen

variable (m : (ℓ : Loc nD τ sig) → Buf (Elt Ideal) ℓ)

/-- Which block of its array each window shows at grid point `t`. -/
theorem idx : ∀ t : Fin cfg0.N, win0_0.index t = ![t.val, 0]
    ∧ win0_1.index t = ![0, 0]
    ∧ win0_2.index t = ![0, 0, 0, 0]
    ∧ win0_3.index t = ![t.val, 0]
    ∧ win0_4.index t = ![t.val, 0]
    ∧ win0_5.index t = ![t.val, 0] :=
  (by decide +kernel : ∀ t : Fin grid0.N, _)

/-- `n` rows of `d` entries. -/
abbrev Rows (n d : ℕ) : Shape := ⟨2, ![n, d]⟩

/-- The reciprocal root mean square of row `i`. -/
def inv {n : ℕ} (h : FVec Ideal (Rows n 1024) .f32) (i : Fin n) : EReal :=
  Ideal.rsqrt (Ideal.div (∑ d : Fin 1024, h (ix2 i d) * h (ix2 i d)) (Ideal.ofBits .f32 0x44800000#32) + Ideal.ofBits .f32 0x358637BD#32)

/-- The normalised input. -/
def norm {n : ℕ} (h : FVec Ideal (Rows n 1024) .f32) (g : FVec Ideal S1x1024 .f32) : FVec Ideal (Rows n 1024) .bf16 :=
  fun j => h (ix2 (j 0) (j 1)) * inv h (j 0) * g (ix2 0 (j 1))

/-- The normalised rows through the weight. -/
def proj {n : ℕ} (x : FVec Ideal (Rows n 1024) .bf16) (w : FVec Ideal S8x1x512x1024 .bf16) : FVec Ideal (Rows n 4096) .bf16 :=
  fun j => ∑ d : Fin 1024, x (ix2 (j 0) d) * w (ix4 ⟨(j 1).val / 512, Nat.div_lt_of_lt_mul (j 1).isLt⟩ 0 ⟨(j 1).val % 512, Nat.mod_lt _ (by omega)⟩ d)

/-- The Gaussian activation at `z`: half of it times one plus the error function. -/
def gelu (z : EReal) : EReal := Ideal.ofBits .f32 0x3F000000#32 * z * (1 + FloatOps.erf (F := Ideal) (φ := .f32) (z * (((Real.sqrt 2)⁻¹ : ℝ) : EReal)))

/-- The activation of every entry. -/
def acts {n : ℕ} (p : FVec Ideal (Rows n 4096) .bf16) : FVec Ideal (Rows n 4096) .bf16 := fun j => gelu (p (ix2 (j 0) (j 1)))

/-- The named constant is the reciprocal root of two. -/
theorem named_inv_sqrt2 : (Named.named (F := Ideal) κ "inv_sqrt2" (φ := .f32) 0x3F3504F3#32 : EReal) = (((Real.sqrt 2)⁻¹ : ℝ) : EReal) :=
  IdealRules.named_const.ideal_named_scalar _ _ _ _ rfl

/-- One tile of 512 columns of the projection, as it is stored, at its place in the whole rows. -/
theorem tile {n : ℕ} (x : FVec Ideal (Rows n 1024) .bf16) (w : FVec Ideal S8x1x512x1024 .bf16)
    (k : Fin 8) (i : Fin n) (l : Fin 512) (y : (Rows n 4096).Idx) (h0 : (y 0).val = i.val) (h1 : (y 1).val = 512 * k.val + l.val) :
    ∑ d : Fin 1024, x (ix2 i d) * w (ix4 k 0 l d) = proj x w y := by
  have hl := l.isLt
  have e0 : y 0 = i := Fin.ext h0
  have e : ∀ d : Fin 1024, (ix4 k 0 l d : S8x1x512x1024.Idx) = ix4 ⟨(y 1).val / 512, Nat.div_lt_of_lt_mul (y 1).isLt⟩ 0 ⟨(y 1).val % 512, Nat.mod_lt _ (by omega)⟩ d := fun d => by
    congr 1 <;> (apply Fin.ext; simp only; omega)
  unfold proj
  simp only [e, e0]

/-- The same tile's activations. -/
theorem tile_acts {n : ℕ} (x : FVec Ideal (Rows n 1024) .bf16) (w : FVec Ideal S8x1x512x1024 .bf16)
    (k : Fin 8) (i : Fin n) (l : Fin 512) (y : (Rows n 4096).Idx) (h0 : (y 0).val = i.val) (h1 : (y 1).val = 512 * k.val + l.val) :
    Ideal.ofBits .f32 0x3F000000#32 * (∑ d : Fin 1024, x (ix2 i d) * w (ix4 k 0 l d)) * (1
      + FloatOps.erf (F := Ideal) (φ := .f32) ((∑ d : Fin 1024, x (ix2 i d) * w (ix4 k 0 l d)) * (((Real.sqrt 2)⁻¹ : ℝ) : EReal))) = acts (proj x w) y := by
  rw [tile x w k i l y h0 h1]
  show gelu _ = gelu (proj x w (ix2 (y 0) (y 1)))
  rw [← eq_ix2 y]

/-- The normalised rows of point `t`. -/
abbrev normBlk (c : Dev nD) (t : Fin cfg0.N) : FVec Ideal (Rows 512 1024) .bf16 := norm (n := 512) (iblk m c 0 t) (iblk m c 1 t)

/-- What a point leaves in its block of the projection. -/
theorem out3 (c : Dev nD) (t : Fin cfg0.N) (y) : out0_3 (iblk m c 0 t) (iblk m c 1 t) (iblk m c 2 t) y = proj (normBlk m c t) (iblk m c 2 t) y := by
  frame_out
  canon_tiles x h
  all_goals (open_payloads; (try unfold k0_pay28); pointwise; exact tile (normBlk m c t) (iblk m c 2 t) _ _ _ _ (by assumption) (by simpa))

/-- What a point leaves in its block of the activations. -/
theorem out4 (c : Dev nD) (t : Fin cfg0.N) (y) : out0_4 (iblk m c 0 t) (iblk m c 1 t) (iblk m c 2 t) y = acts (proj (normBlk m c t) (iblk m c 2 t)) y := by
  frame_out
  canon_tiles x h
  all_goals (open_payloads; (try unfold k0_pay28); pointwise [named_inv_sqrt2]; exact tile_acts (normBlk m c t) (iblk m c 2 t) _ _ _ _ (by assumption) (by simpa))

/-- What a point leaves in its block of the normalised input. -/
theorem out5 (c : Dev nD) (t : Fin cfg0.N) (j) : out0_5 (iblk m c 0 t) (iblk m c 1 t) (iblk m c 2 t) j = normBlk m c t j := by
  frame_out
  open_payloads; pointwise [normBlk, norm, inv]

/-- The array of the projection after the last point. -/
theorem final3 (c : Dev nD) : (dats m 0 c).arrAt 3 (cfgs 0).N = proj (n := 4096) (norm (n := 4096) (V m c main_arg0) (V m c main_v3)) (V m c main_v2) := by
  refine (dats m 0 c).arrAt_eq_of_covers 3 _ (by decide +kernel) fun t hf y => ?_
  blk_simp; rw [after0_3, out3]
  pointwise [proj, normBlk, norm, inv]
  blk_point [iblk, idx t]

/-- The array of the activations after the last point. -/
theorem final4 (c : Dev nD) : (dats m 0 c).arrAt 4 (cfgs 0).N = acts (n := 4096) (proj (n := 4096) (norm (n := 4096) (V m c main_arg0) (V m c main_v3)) (V m c main_v2)) := by
  refine (dats m 0 c).arrAt_eq_of_covers 4 _ (by decide +kernel) fun t hf y => ?_
  blk_simp; rw [after0_4, out4]
  pointwise [acts, proj, normBlk, norm, inv]
  blk_point [iblk, idx t]

/-- The array of the normalised input after the last point. -/
theorem final5 (c : Dev nD) : (dats m 0 c).arrAt 5 (cfgs 0).N = norm (n := 4096) (V m c main_arg0) (V m c main_v3) := by
  refine (dats m 0 c).arrAt_eq_of_covers 5 _ (by decide +kernel) fun t hf y => ?_
  blk_simp; rw [after0_5, out5]
  pointwise [normBlk, norm, inv]
  blk_point [iblk, idx t]

end Cert.Kernel7Ideal.Value

/-- The call's three results are the layer's projection, its activation and its normalised input. -/
theorem Cert.Proof.alg7 : Cert.algebraic_Kernel7Ideal_Reference7Ideal := by
  pair_intro
  · run_from Cert.Kernel7Ideal.Value.run_blocks m g
  · run_from Cert.Reference7Ideal.Value.run m' g'
    · rw [Cert.Kernel7Ideal.Value.final3]
      simp only [Cert.Kernel7Ideal.Gen.V, Cert.Kernel7Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel7Ideal.Value.proj, Cert.Kernel7Ideal.Value.norm, Cert.Kernel7Ideal.Value.inv]
    · rw [Cert.Kernel7Ideal.Value.final4]
      simp only [Cert.Kernel7Ideal.Gen.V, Cert.Kernel7Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel7Ideal.Value.acts, Cert.Kernel7Ideal.Value.proj, Cert.Kernel7Ideal.Value.norm, Cert.Kernel7Ideal.Value.inv, Cert.Kernel7Ideal.Value.gelu]
      rw [Cert.Proof.div_sqrt2]
      rfl
    · rw [Cert.Kernel7Ideal.Value.final5]
      simp only [Cert.Kernel7Ideal.Gen.V, Cert.Kernel7Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel7Ideal.Value.norm, Cert.Kernel7Ideal.Value.inv]

end
-- ==== Proof.OutForward.lean ====
/- The gated layer's output projection, forward: what one block of 1024 rows computes, and that the result is the layer's. -/
module

public import proofs.«01_k».proof.Defs
public import proofs.«01_k».proof.Proof.Gen.Kernel8Ideal.Frame
public import proofs.«01_k».proof.Proof.Gen.Kernel8Ideal.Value
public import proofs.«01_k».proof.Proof.Gen.Reference8Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Value

open Cert.Kernel8Ideal Cert.Kernel8Ideal.Gen

variable (m : (ℓ : Loc nD τ sig) → Buf (Elt Ideal) ℓ)

/-- Which block of its array each window shows at grid point `t`. -/
theorem idx : ∀ t : Fin cfg0.N, win0_0.index t = ![t.val, 0]
    ∧ win0_1.index t = ![0, 0, 0]
    ∧ win0_2.index t = ![t.val, 0]
    ∧ win0_3.index t = ![t.val, 0] :=
  (by decide +kernel : ∀ t : Fin grid0.N, _)

/-- `n` rows of `d` entries. -/
abbrev Rows (n d : ℕ) : Shape := ⟨2, ![n, d]⟩

/-- The residual plus the rows through the weight. -/
def out {n : ℕ} (x : FVec Ideal (Rows n 2048) .bf16) (w : FVec Ideal S8x256x1024 .bf16) (h : FVec Ideal (Rows n 1024) .f32) : FVec Ideal (Rows n 1024) .f32 :=
  fun j => h (ix2 (j 0) (j 1)) + ∑ k : Fin 2048, x (ix2 (j 0) k) * w (ix3 ⟨k.val / 256, Nat.div_lt_of_lt_mul k.isLt⟩ ⟨k.val % 256, Nat.mod_lt _ (by omega)⟩ (j 1))

/-- The result array after the last point. -/
theorem final3 (c : Dev nD) : (dats m 0 c).arrAt 3 (cfgs 0).N = out (n := 4096) (V m c main_v0) (V m c main_v2) (V m c main_arg2) := by
  refine (dats m 0 c).arrAt_eq_of_covers 3 _ (by decide +kernel) fun t hf y => ?_
  blk_simp; rw [after0_3]
  frame_out
  open_payloads
  pointwise [out]
  blk_point [iblk, idx t]

end Cert.Kernel8Ideal.Value

/-- The call's result is the residual plus the projection. -/
theorem Cert.Proof.alg8 : Cert.algebraic_Kernel8Ideal_Reference8Ideal := by
  pair_intro
  · run_from Cert.Kernel8Ideal.Value.run_blocks m g
  · run_from Cert.Reference8Ideal.Value.run m' g'
    · rw [Cert.Kernel8Ideal.Value.final3]
      simp only [Cert.Kernel8Ideal.Gen.V, Cert.Kernel8Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel8Ideal.Value.out]

end
-- ==== Proof.OutData.lean ====
/- The gated layer's output projection, its data gradient: what one block of 1024 rows computes, and that the result is the derivative. -/
module

public import proofs.«01_k».proof.Defs
public import proofs.«01_k».proof.Proof.Gen.Kernel9Ideal.Frame
public import proofs.«01_k».proof.Proof.Gen.Kernel9Ideal.Value
public import proofs.«01_k».proof.Proof.Gen.Reference9Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.Value

open Cert.Kernel9Ideal Cert.Kernel9Ideal.Gen

variable (m : (ℓ : Loc nD τ sig) → Buf (Elt Ideal) ℓ)

/-- Which block of its array each window shows at grid point `t`. -/
theorem idx : ∀ t : Fin cfg0.N, win0_0.index t = ![t.val, 0]
    ∧ win0_1.index t = ![0, 0, 0]
    ∧ win0_2.index t = ![t.val, 0] :=
  (by decide +kernel : ∀ t : Fin grid0.N, _)

/-- `n` rows of `d` entries. -/
abbrev Rows (n d : ℕ) : Shape := ⟨2, ![n, d]⟩

/-- The rows' gradient through the transposed weight. -/
def out {n : ℕ} (dy : FVec Ideal (Rows n 1024) .f32) (w : FVec Ideal S8x256x1024 .bf16) : FVec Ideal (Rows n 2048) .bf16 :=
  fun j => ∑ d : Fin 1024, dy (ix2 (j 0) d) * w (ix3 ⟨(j 1).val / 256, Nat.div_lt_of_lt_mul (j 1).isLt⟩ ⟨(j 1).val % 256, Nat.mod_lt _ (by omega)⟩ d)

/-- The result array after the last point. -/
theorem final2 (c : Dev nD) : (dats m 0 c).arrAt 2 (cfgs 0).N = out (n := 4096) (V m c main_arg2) (V m c main_v1) := by
  refine (dats m 0 c).arrAt_eq_of_covers 2 _ (by decide +kernel) fun t hf y => ?_
  blk_simp; rw [after0_2]
  frame_out
  open_payloads
  pointwise [out]
  blk_point [iblk, idx t]

end Cert.Kernel9Ideal.Value

/-- The call's result is the derivative of the projection in its rows. -/
theorem Cert.Proof.alg9 : Cert.algebraic_Kernel9Ideal_Reference9Ideal := by
  pair_intro
  · run_from Cert.Kernel9Ideal.Value.run_blocks m g
  · run_from Cert.Reference9Ideal.Value.run m' g'
    · rw [Cert.Kernel9Ideal.Value.final2]
      simp only [Cert.Kernel9Ideal.Gen.V, Cert.Kernel9Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel9Ideal.Value.out]

end
-- ==== Proof.OutWeights.lean ====
/- The gated layer's output projection, its weight gradient: what the accumulator holds after each point, and that the result is the derivative. -/
module

public import proofs.«01_k».proof.Defs
public import proofs.«01_k».proof.Proof.Gen.Kernel10Ideal.Frame
public import proofs.«01_k».proof.Proof.Gen.Kernel10Ideal.Value
public import proofs.«01_k».proof.Proof.Gen.Reference10Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.Value

open Cert.Kernel10Ideal Cert.Kernel10Ideal.Gen

variable (m : (ℓ : Loc nD τ sig) → Buf (Elt Ideal) ℓ)

/-- Which block of its array each window shows at grid point `t`. -/
theorem idx : ∀ t : Fin cfg0.N, win0_0.index t = ![t.val, 0]
    ∧ win0_1.index t = ![t.val, 0]
    ∧ win0_2.index t = ![0, 0, 0] :=
  (by decide +kernel : ∀ t : Fin grid0.N, _)

/-- `n` rows of `d` entries. -/
abbrev Rows (n d : ℕ) : Shape := ⟨2, ![n, d]⟩

/-- The gradient of the weight: the rows' products summed. -/
def dw {n : ℕ} (x : FVec Ideal (Rows n 2048) .bf16) (dy : FVec Ideal (Rows n 1024) .f32) : FVec Ideal (Rows 2048 1024) .f32 :=
  fun j => ∑ i : Fin n, x (ix2 i (j 0)) * dy (ix2 i (j 1))

/-- The same, eight blocks of 256 rows. -/
def blocks (p : FVec Ideal (Rows 2048 1024) .f32) : FVec Ideal S8x256x1024 .bf16 :=
  fun j => p (ix2 ⟨(j 0).val * 256 + (j 1).val, by have h0 : (j 0).val < 8 := (j 0).isLt; have h1 : (j 1).val < 256 := (j 1).isLt; omega⟩ (j 2))

/-- What point `t` adds to the accumulator. -/
abbrev dwBlk (c : Dev nD) (t : Fin cfg0.N) : FVec Ideal (Rows 2048 1024) .f32 := dw (n := 1024) (iblk m c 0 t) (iblk m c 1 t)

/-- The accumulator after the first point. -/
theorem accA (c : Dev nD) (t : Fin cfg0.N) (h : t.val % 4 = 0) (h1 : ¬1 ≤ t.val) (h2 : ¬t.val % 4 = 3) (j) : (outsAt0 m c t.val t.isLt).2 j = dwBlk m c t j := by
  rw [outsAt0_A m c t h h1 h2]
  frame_out
  open_payloads; pointwise [dwBlk, dw]

/-- The accumulator after a later point but the last. -/
theorem accB (c : Dev nD) (t : Fin cfg0.N) (h : ¬t.val % 4 = 0) (h1 : 1 ≤ t.val) (h2 : ¬t.val % 4 = 3) (j) :
    (outsAt0 m c t.val t.isLt).2 j = (outsAt0 m c (t.val - 1) (by omega)).2 j + dwBlk m c t j := by
  rw [outsAt0_B m c t h h1 h2]
  frame_out
  simp only [read_unread_whole]
  open_payloads; pointwise [dwBlk, dw]

/-- The accumulator after the last point. -/
theorem accC (c : Dev nD) (t : Fin cfg0.N) (h : ¬t.val % 4 = 0) (h1 : 1 ≤ t.val) (h2 : t.val % 4 = 3) (j) :
    (outsAt0 m c t.val t.isLt).2 j = (outsAt0 m c (t.val - 1) (by omega)).2 j + dwBlk m c t j := by
  rw [outsAt0_C m c t h h1 h2]
  frame_out
  simp only [read_unread_whole]
  open_payloads; pointwise [dwBlk, dw]

/-- The result block at the last point: the accumulator, in blocks. -/
theorem out2 (c : Dev nD) (t : Fin cfg0.N) (h : ¬t.val % 4 = 0) (h1 : 1 ≤ t.val) (h2 : t.val % 4 = 3) (j) :
    (outsAt0 m c t.val t.isLt).1 j = blocks (fun i => (outsAt0 m c (t.val - 1) (by omega)).2 i + dwBlk m c t i) j := by
  rw [outsAt0_C m c t h h1 h2]
  frame_out
  simp only [read_unread_whole]
  open_payloads; pointwise [blocks, dwBlk, dw]

/-- The accumulator after the last point: the sum over all rows. -/
theorem acc3 (c : Dev nD) (j) : (outsAt0 m c t0_3.val t0_3.isLt).2 j = dw (n := 4096) (V m c main_v0) (V m c main_arg2) j := by
  rw [Pipeline.eq_sum_fin_of_reset_step_apply_last (fun n h => (outsAt0 m c n h).2) 4 (fun _ => 0)
    (fun t j => dwBlk m c t j)
    (fun t h j => by rw [accA m c t h (by have : t.val < 4 := t.isLt; omega) (by omega), zero_add])
    (fun t h j => by
      by_cases h2 : t.val % 4 = 3
      · rw [accC m c t h (by omega) h2]
      · rw [accB m c t h (by omega) h2])
    (le_of_eq N_0) t0_3 rfl j, zero_add]
  pointwise [dwBlk, dw]
  refine Fin.sum_mul_add_congr (fun p k hl => ?_)
  blk_point [iblk, idx p]

/-- The result array after the last point. -/
theorem result2 (c : Dev nD) : (dats m 0 c).arrAt 2 (cfgs 0).N = blocks (dw (n := 4096) (V m c main_v0) (V m c main_arg2)) := by
  refine (dats m 0 c).arrAt_eq_of_after_last 2 t0_3 (by decide +kernel) _ fun j => ?_
  blk_simp
  rw [after0_2, out2 m c t0_3 (by decide) (by decide) (by decide)]
  exact congrFun (congrArg blocks (funext fun i => (accC m c t0_3 (by decide) (by decide) (by decide) i).symm.trans (acc3 m c i))) j

end Cert.Kernel10Ideal.Value

/-- The call's result is the derivative of the projection in its weight. -/
theorem Cert.Proof.alg10 : Cert.algebraic_Kernel10Ideal_Reference10Ideal := by
  pair_intro
  · run_from Cert.Kernel10Ideal.Value.run_blocks m g
  · run_from Cert.Reference10Ideal.Value.run m' g'
    · rw [Cert.Kernel10Ideal.Value.result2]
      simp only [Cert.Kernel10Ideal.Gen.V, Cert.Kernel10Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel10Ideal.Value.blocks, Cert.Kernel10Ideal.Value.dw]
      exact Finset.sum_congr rfl fun r _ => mul_comm _ _

end
-- ==== Proof.GateForward.lean ====
/- The gated layer's gate, forward: what one block of 512 rows computes, and that the result is the layer's. -/
module

public import proofs.«01_k».proof.Defs
public import proofs.«01_k».proof.Proof.GateRows
public import proofs.«01_k».proof.Proof.Gen.Kernel11Ideal.Frame
public import proofs.«01_k».proof.Proof.Gen.Kernel11Ideal.Value
public import proofs.«01_k».proof.Proof.Gen.Reference11Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel11Ideal.Value

open Cert.Kernel11Ideal Cert.Kernel11Ideal.Gen Cert.Gate

variable (m : (ℓ : Loc nD τ sig) → Buf (Elt Ideal) ℓ)

/-- Which block of its array each window shows at grid point `t`. -/
theorem idx : ∀ t : Fin cfg0.N, win0_0.index t = ![t.val, 0]
    ∧ win0_1.index t = ![0, 0]
    ∧ win0_2.index t = ![0, 0, 0]
    ∧ win0_3.index t = ![0, 0]
    ∧ win0_4.index t = ![t.val, 0] :=
  (by decide +kernel : ∀ t : Fin grid0.N, _)

/-- One chunk and group of a block, as it is stored, at its place in the block. -/
theorem tile (A : FVec Ideal (Rows 512 4096) .bf16) (L : FVec Ideal S1x2048 .f32) (W : FVec Ideal S8x128x128 .bf16) (B : FVec Ideal S128x8 .f32)
    (r : Fin 512) (p : Fin 4096) (g : Fin 8) (i : Fin 128) (q : Fin 128 → Fin 512) (k : Fin 128 → Fin 2048) (k' : Fin 128 → Fin 4096) (y : (Rows 512 2048).Idx)
    (hr : r.val = (y 0).val) (hp : p.val = (y 1).val) (hg : g.val = (y 1).val / 256) (hi : i.val = (y 0).val % 128)
    (hq : ∀ j, (q j).val = (y 0).val / 128 * 128 + j.val) (hk : ∀ j, (k j).val = (y 1).val) (hk' : ∀ j, (k' j).val = 2048 + (y 1).val) :
    A (ix2 r p) * ((∑ j : Fin 128, W (ix3 g i j) * ((A (ix2 (q j) (k' j)) - Ideal.div (∑ e : Fin 2048, A (ix2 (q j) (upper e))) (Ideal.ofBits .f32 0x45000000#32))
      * rs A (q j) * L (ix2 0 (k j)))) + B (ix2 i g)) = gated (N := 512) (q := 4) rfl A L W B y := by
  obtain rfl : r = y 0 := Fin.ext hr
  obtain rfl : k = fun _ => y 1 := funext fun j => Fin.ext (hk j)
  obtain rfl : p = lower (y 1) := Fin.ext hp
  obtain rfl : k' = fun _ => upper (y 1) := funext fun j => Fin.ext (hk' j)
  obtain rfl : g = group (y 1) := Fin.ext hg
  obtain rfl : i = place (N := 512) (y 0) := Fin.ext hi
  obtain rfl : q = mate (N := 512) (q := 4) rfl (y 0) := funext fun j => Fin.ext (hq j)
  rfl

set_option maxHeartbeats 400000 in
/-- What a point leaves in its block of the result. -/
theorem out4 (A : FVec Ideal S512x4096 .bf16) (L : FVec Ideal S1x2048 .f32) (W : FVec Ideal S8x128x128 .bf16) (B : FVec Ideal S128x8 .f32) (y) :
    out0_4 (F := Ideal) A L W B y = gated (N := 512) (q := 4) rfl A L W B y := by
  frame_out
  canon_tiles x h
  all_goals (
    open_payloads
    pointwise
    refine tile A L W B _ _ _ _ _ _ _ y ?_ ?_ ?_ ?_ ?_ ?_ ?_)
  all_goals first
    | omega
    | (dsimp only; omega)
    | (intro j; dsimp only; omega)
    | (simp only [Fin.isValue, Fin.val_ofNat]; omega)

/-- The result array after the last point. -/
theorem final4 (c : Dev nD) : (dats m 0 c).arrAt 4 (cfgs 0).N
    = gated (N := 4096) (q := 32) rfl (V m c main_v5) (V m c main_v6) (V m c main_v4) (V m c main_v7) := by
  refine (dats m 0 c).arrAt_eq_of_covers 4 _ (by decide +kernel) fun t hf y => ?_
  blk_simp; rw [after0_4, out4]
  pointwise [gated, mixed, vn, xh, xc, rs, mate, group, place, upper, lower]
  blk_point [iblk, idx t]

/-- The masked weight, in the arguments. -/
theorem weight_eq (c : Dev nD) (g : Fin 8) (i j : Fin 128) : (V m c main_v4 : FVec Ideal S8x128x128 .bf16) (ix3 g i j)
    = Scalar.select (Scalar.select (IntOp.cmpi CmpIPredicate.sge (IntOp.addi (BitVec.ofNat 32 i.val) 0#32) (BitVec.ofNat 32 j.val)) 1#1 0#1)
      ((m (c.tc.loc main_arg2) : FVec Ideal S8x128x128 .f32) (ix3 g i j)) (0 : EReal) := by
  simp only [V, hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  entry_read
  pointwise

/-- The input, in the arguments. -/
theorem input_eq (c : Dev nD) (i k : Fin 4096) : (V m c main_v5 : FVec Ideal S4096x4096 .bf16) (ix2 i k)
    = (m (c.tc.loc main_arg0) : FVec Ideal S4096x4096 .f32) (ix2 i k) := by
  simp only [V, hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  entry_read
  pointwise

/-- The gain, in the arguments. -/
theorem gain_eq (c : Dev nD) (k : Fin 2048) : (V m c main_v6 : FVec Ideal S1x2048 .f32) (ix2 0 k)
    = (m (c.tc.loc main_arg1) : FVec Ideal S2048 .f32) (ix1 k) := by
  simp only [V, hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  entry_read
  pointwise

/-- The bias, in the arguments. -/
theorem bias_eq (c : Dev nD) (i : Fin 128) (g : Fin 8) : (V m c main_v7 : FVec Ideal S128x8 .f32) (ix2 i g)
    = (m (c.tc.loc main_arg3) : FVec Ideal S8x128 .f32) (ix2 g i) := by
  simp only [V, hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  entry_read
  pointwise

/-- The gated rows, in the arguments. -/
theorem gated_args (c : Dev nD) : gated (N := 4096) (q := 32) rfl (V m c main_v5) (V m c main_v6) (V m c main_v4) (V m c main_v7)
    = gated (N := 4096) (q := 32) rfl (fun y => (m (c.tc.loc main_arg0) : FVec Ideal S4096x4096 .f32) (ix2 (y 0) (y 1)))
      (fun y => (m (c.tc.loc main_arg1) : FVec Ideal S2048 .f32) (ix1 (y 1)))
      (fun y => Scalar.select (Scalar.select (IntOp.cmpi CmpIPredicate.sge (IntOp.addi (BitVec.ofNat 32 (y 1).val) 0#32) (BitVec.ofNat 32 (y 2).val)) 1#1 0#1)
        ((m (c.tc.loc main_arg2) : FVec Ideal S8x128x128 .f32) (ix3 (y 0) (y 1) (y 2))) (0 : EReal))
      (fun y => (m (c.tc.loc main_arg3) : FVec Ideal S8x128 .f32) (ix2 (y 1) (y 0))) := by
  have h5 : (V m c main_v5 : FVec Ideal S4096x4096 .bf16) = fun y => (m (c.tc.loc main_arg0) : FVec Ideal S4096x4096 .f32) (ix2 (y 0) (y 1)) :=
    funext fun y => (congrArg _ (eq_ix2 y)).trans (input_eq m c (y 0) (y 1))
  have h6 : (V m c main_v6 : FVec Ideal S1x2048 .f32) = fun y => (m (c.tc.loc main_arg1) : FVec Ideal S2048 .f32) (ix1 (y 1)) :=
    funext fun y => (congrArg _ ((eq_ix2 y).trans (congrArg (fun z : Fin 1 => ix2 z (y 1)) (Subsingleton.elim (α := Fin 1) (y 0) 0)))).trans (gain_eq m c (y 1))
  have h4 : (V m c main_v4 : FVec Ideal S8x128x128 .bf16) = fun y => Scalar.select (Scalar.select (IntOp.cmpi CmpIPredicate.sge (IntOp.addi (BitVec.ofNat 32 (y 1).val) 0#32) (BitVec.ofNat 32 (y 2).val)) 1#1 0#1)
        ((m (c.tc.loc main_arg2) : FVec Ideal S8x128x128 .f32) (ix3 (y 0) (y 1) (y 2))) (0 : EReal) :=
    funext fun y => (congrArg _ (eq_ix3 y)).trans (weight_eq m c (y 0) (y 1) (y 2))
  have h7 : (V m c main_v7 : FVec Ideal S128x8 .f32) = fun y => (m (c.tc.loc main_arg3) : FVec Ideal S8x128 .f32) (ix2 (y 1) (y 0)) :=
    funext fun y => (congrArg _ (eq_ix2 y)).trans (bias_eq m c (y 0) (y 1))
  rw [h5, h6, h4, h7]
  rfl

end Cert.Kernel11Ideal.Value

/-- The call's result is the gated rows. -/
theorem Cert.Proof.alg11 : Cert.algebraic_Kernel11Ideal_Reference11Ideal := by
  pair_intro
  · run_from Cert.Kernel11Ideal.Value.run_blocks m g
  · run_from Cert.Reference11Ideal.Value.run m' g'
    · rw [Cert.Kernel11Ideal.Value.final4, Cert.Kernel11Ideal.Value.gated_args]
      funext j
      pointwise [Cert.Gate.gated, Cert.Gate.mixed, Cert.Gate.vn, Cert.Gate.xh, Cert.Gate.xc, Cert.Gate.rs, Cert.Gate.mate, Cert.Gate.group, Cert.Gate.place, Cert.Gate.upper, Cert.Gate.lower]
      refine congrArg₂ (fun a b : EReal => a * b) rfl (congrArg₂ (fun a b : EReal => a + b) (Finset.sum_congr rfl fun r _ => ?_) rfl)
      exact congrArg (fun z => Scalar.select _ z (0 : EReal)) (mul_comm _ _)

end
-- ==== Proof.QueryForward.lean ====
/- The queries' projection, forward: what one block of 1024 rows computes, and that the call's results are the layer's. -/
module

public import proofs.«01_k».proof.Defs
public import proofs.«01_k».proof.Proof.Gen.Kernel12Ideal.Frame
public import proofs.«01_k».proof.Proof.Gen.Kernel12Ideal.Value
public import proofs.«01_k».proof.Proof.Gen.Reference12Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel12Ideal.Value

open Cert.Kernel12Ideal Cert.Kernel12Ideal.Gen

variable (m : (ℓ : Loc nD τ sig) → Buf (Elt Ideal) ℓ)

/-- Which block of its array each window shows at grid point `t`. -/
theorem idx : ∀ t : Fin cfg0.N, win0_0.index t = ![t.val, 0]
    ∧ win0_1.index t = ![0, 0, 0]
    ∧ win0_2.index t = ![0, 0]
    ∧ win0_3.index t = ![t.val, 0]
    ∧ win0_4.index t = ![t.val, 0] :=
  (by decide +kernel : ∀ t : Fin grid0.N, _)

/-- `n` rows of `d` entries. -/
abbrev Rows (n d : ℕ) : Shape := ⟨2, ![n, d]⟩

/-- The reciprocal root mean square of row `i`. -/
def inv {n : ℕ} (h : FVec Ideal (Rows n 1024) .f32) (i : Fin n) : EReal :=
  Ideal.rsqrt (Ideal.div (∑ d : Fin 1024, h (ix2 i d) * h (ix2 i d)) (Ideal.ofBits .f32 0x44800000#32) + Ideal.ofBits .f32 0x358637BD#32)

/-- The normalised input. -/
def norm {n : ℕ} (h : FVec Ideal (Rows n 1024) .f32) (g : FVec Ideal S1x1024 .f32) : FVec Ideal (Rows n 1024) .bf16 :=
  fun j => h (ix2 (j 0) (j 1)) * inv h (j 0) * g (ix2 0 (j 1))

/-- The normalised rows through the weight. -/
def proj {n : ℕ} (x : FVec Ideal (Rows n 1024) .bf16) (w : FVec Ideal S8x128x1024 .bf16) : FVec Ideal (Rows n 1024) .bf16 :=
  fun j => ∑ k : Fin 1024, x (ix2 (j 0) k) * w (ix3 ⟨k.val / 128, Nat.div_lt_of_lt_mul k.isLt⟩ ⟨k.val % 128, Nat.mod_lt _ (by omega)⟩ (j 1))

/-- At every point the block of window 1 is its whole array. -/
theorem whole1 (c : Dev nD) (X : (b : Ref sig Kind.tc) → Buf (τ := τ) (Elt Ideal) ((c.tc : Thread nD τ).loc b)) (t : Fin cfg0.N) (y : S8x128x1024.Idx) :
    View.read (Elt Ideal) ((cfg0.win 1).blk t).view (X (Pipeline.arrRef spec0 1)) y = X main_v5 y := by
  blk_ext [idx t]

/-- The block of window 1 at every point. -/
theorem weight1 (c : Dev nD) (t : Fin cfg0.N) : (iblk m c 1 t : FVec Ideal S8x128x1024 .bf16) = (V m c main_v5 : FVec Ideal S8x128x1024 .bf16) :=
  funext fun y => whole1 c (V m c) t y

/-- At every point the block of window 2 is its whole array. -/
theorem whole2 (c : Dev nD) (X : (b : Ref sig Kind.tc) → Buf (τ := τ) (Elt Ideal) ((c.tc : Thread nD τ).loc b)) (t : Fin cfg0.N) (y : S1x1024.Idx) :
    View.read (Elt Ideal) ((cfg0.win 2).blk t).view (X (Pipeline.arrRef spec0 2)) y = X main_v0 y := by
  blk_ext [idx t]

/-- The block of window 2 at every point. -/
theorem weight2 (c : Dev nD) (t : Fin cfg0.N) : (iblk m c 2 t : FVec Ideal S1x1024 .f32) = (V m c main_v0 : FVec Ideal S1x1024 .f32) :=
  funext fun y => whole2 c (V m c) t y

/-- The array of the queries after the last point. -/
theorem final3 (c : Dev nD) : (dats m 0 c).arrAt 3 (cfgs 0).N = proj (n := 4096) (norm (n := 4096) (V m c main_arg0) (V m c main_v0)) (V m c main_v5) := by
  refine (dats m 0 c).arrAt_eq_of_covers 3 _ (by decide +kernel) fun t hf y => ?_
  blk_simp; rw [after0_3]
  unfold outsAt0
  frame_out
  open_payloads
  pointwise [proj, norm, inv]
  simp only [weight1, weight2]
  generalize V m c main_v5 = W1
  generalize V m c main_v0 = W2
  blk_point [iblk, idx t]

/-- The array of the normalised rows after the last point. -/
theorem final4 (c : Dev nD) : (dats m 0 c).arrAt 4 (cfgs 0).N = norm (n := 4096) (V m c main_arg0) (V m c main_v0) := by
  refine (dats m 0 c).arrAt_eq_of_covers 4 _ (by decide +kernel) fun t hf y => ?_
  blk_simp; rw [after0_4]
  unfold outsAt0
  frame_out
  open_payloads
  pointwise [norm, inv]
  simp only [weight2]
  generalize V m c main_v0 = W2
  blk_point [iblk, idx t]

end Cert.Kernel12Ideal.Value

/-- The call's two results are the layer's queries and its normalised rows. -/
theorem Cert.Proof.alg12 : Cert.algebraic_Kernel12Ideal_Reference12Ideal := by
  pair_intro
  · run_from Cert.Kernel12Ideal.Value.run_blocks m g
  · run_from Cert.Reference12Ideal.Value.run m' g'
    · rw [Cert.Kernel12Ideal.Value.final3]
      simp only [Cert.Kernel12Ideal.Gen.V, Cert.Kernel12Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel12Ideal.Value.proj, Cert.Kernel12Ideal.Value.norm, Cert.Kernel12Ideal.Value.inv]
    · rw [Cert.Kernel12Ideal.Value.final4]
      simp only [Cert.Kernel12Ideal.Gen.V, Cert.Kernel12Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel12Ideal.Value.norm, Cert.Kernel12Ideal.Value.inv]

end
-- ==== Proof.ByPair.lean ====
/- The order of the heads in the attention layers' output projection: the row of the weight that each place reads. -/
module

public import proofs.«01_k».proof.Defs
public import Idealize.ShloMosaic.Lib.Pipeline.Value
public import Idealize.ShloMosaic.Lib.Pointwise

@[expose] public section

noncomputable section

open Idealize.ShloMosaic

namespace Cert.ByPair

/-- The weight's own row that stands at place `k` in the order of the attention's pairs. -/
def own (k : ℕ) : ℕ := k / 512 * 512 + k / 64 % 2 * 256 + k / 128 % 4 * 64 + k % 64

theorem own_lt {k : ℕ} (h : k < 1024) : own k < 1024 := by unfold own; omega

/-- The weight with its rows by pair, read at a place: the weight at its own row. -/
theorem read (w : FVec Ideal ⟨2, ![1024, 1024]⟩ .f32) (h1 : (⟨2, ![1024, 1024]⟩ : Shape).ShapeCasts ⟨5, ![2, 2, 4, 64, 1024]⟩)
    (h2 : (⟨5, ![2, 2, 4, 64, 1024]⟩ : Shape).Transposes [0, 2, 1, 3, 4] ⟨5, ![2, 4, 2, 64, 1024]⟩)
    (h3 : (⟨5, ![2, 4, 2, 64, 1024]⟩ : Shape).ShapeCasts ⟨2, ![1024, 1024]⟩) (k d : Fin 1024) :
    shapeCast ⟨2, ![1024, 1024]⟩ (transpose ⟨5, ![2, 4, 2, 64, 1024]⟩ [0, 2, 1, 3, 4] (shapeCast ⟨5, ![2, 2, 4, 64, 1024]⟩ w h1) h2) h3 (ix2 k d)
      = w (ix2 ⟨own k.val, own_lt k.isLt⟩ d) := by
  have hk := k.isLt
  refine (shapeCast_apply _ h3 _ (ix5 ⟨k.val / 512, by omega⟩ ⟨k.val / 128 % 4, by omega⟩ ⟨k.val / 64 % 2, by omega⟩ ⟨k.val % 64, by omega⟩ d) ?_).trans
    ((transpose_apply _ _ h2 _ (ix5 ⟨k.val / 512, by omega⟩ ⟨k.val / 64 % 2, by omega⟩ ⟨k.val / 128 % 4, by omega⟩ ⟨k.val % 64, by omega⟩ d) ?_).trans
      (shapeCast_apply _ h1 _ _ ?_))
  · rw [Shape.rowMajor_val_five, Shape.rowMajor_val_two]
    show (((k.val / 512 * 4 + k.val / 128 % 4) * 2 + k.val / 64 % 2) * 64 + k.val % 64) * 1024 + d.val = k.val * 1024 + d.val
    omega
  · intro b
    fin_cases b <;> rfl
  · rw [Shape.rowMajor_val_five, Shape.rowMajor_val_two]
    show own k.val * 1024 + d.val = (((k.val / 512 * 2 + k.val / 64 % 2) * 4 + k.val / 128 % 4) * 64 + k.val % 64) * 1024 + d.val
    unfold own
    omega

end Cert.ByPair
end
-- ==== Proof.AttendedForward.lean ====
/- The attention layers' output projection, forward: what one block of 1024 rows computes, and that the result is the layer's. -/
module

public import proofs.«01_k».proof.Defs
public import proofs.«01_k».proof.Proof.ByPair
public import proofs.«01_k».proof.Proof.Gen.Kernel13Ideal.Frame
public import proofs.«01_k».proof.Proof.Gen.Kernel13Ideal.Value
public import proofs.«01_k».proof.Proof.Gen.Reference13Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel13Ideal.Value

open Cert.Kernel13Ideal Cert.Kernel13Ideal.Gen

variable (m : (ℓ : Loc nD τ sig) → Buf (Elt Ideal) ℓ)

/-- Which block of its array each window shows at grid point `t`. -/
theorem idx : ∀ t : Fin cfg0.N, win0_0.index t = ![t.val, 0]
    ∧ win0_1.index t = ![0, 0, 0]
    ∧ win0_2.index t = ![t.val, 0]
    ∧ win0_3.index t = ![t.val, 0] :=
  (by decide +kernel : ∀ t : Fin grid0.N, _)

/-- `n` rows of `d` entries. -/
abbrev Rows (n d : ℕ) : Shape := ⟨2, ![n, d]⟩

/-- The residual plus the rows through the weight. -/
def out {n : ℕ} (x : FVec Ideal (Rows n 1024) .bf16) (w : FVec Ideal S8x128x1024 .bf16) (h : FVec Ideal (Rows n 1024) .f32) : FVec Ideal (Rows n 1024) .f32 :=
  fun j => h (ix2 (j 0) (j 1)) + ∑ k : Fin 1024, x (ix2 (j 0) k) * w (ix3 ⟨k.val / 128, Nat.div_lt_of_lt_mul k.isLt⟩ ⟨k.val % 128, Nat.mod_lt _ (by omega)⟩ (j 1))

/-- At every point the block of window 1 is its whole array. -/
theorem whole1 (c : Dev nD) (X : (b : Ref sig Kind.tc) → Buf (τ := τ) (Elt Ideal) ((c.tc : Thread nD τ).loc b)) (t : Fin cfg0.N) (y : S8x128x1024.Idx) :
    View.read (Elt Ideal) ((cfg0.win 1).blk t).view (X (Pipeline.arrRef spec0 1)) y = X main_v5 y := by
  blk_ext [idx t]

/-- The block of window 1 at every point. -/
theorem weight1 (c : Dev nD) (t : Fin cfg0.N) : (iblk m c 1 t : FVec Ideal S8x128x1024 .bf16) = (V m c main_v5 : FVec Ideal S8x128x1024 .bf16) :=
  funext fun y => whole1 c (V m c) t y

/-- The result array after the last point. -/
theorem final3 (c : Dev nD) : (dats m 0 c).arrAt 3 (cfgs 0).N = out (n := 4096) (V m c main_v0) (V m c main_v5) (V m c main_arg2) := by
  refine (dats m 0 c).arrAt_eq_of_covers 3 _ (by decide +kernel) fun t hf y => ?_
  blk_simp; rw [after0_3]
  frame_out
  open_payloads
  pointwise [out]
  simp only [weight1]
  generalize V m c main_v5 = W1
  blk_point [iblk, idx t]

/-- The weight as the call reads it, in the arguments. -/
theorem weight_eq (c : Dev nD) (k d : Fin 1024) :
    (V m c main_v5 : FVec Ideal S8x128x1024 .bf16) (ix3 ⟨k.val / 128, Nat.div_lt_of_lt_mul k.isLt⟩ ⟨k.val % 128, Nat.mod_lt _ (by omega)⟩ d)
    = (m (c.tc.loc main_arg1) : FVec Ideal S1024x1024 .f32) (ix2 ⟨Cert.ByPair.own k.val, Cert.ByPair.own_lt k.isLt⟩ d) := by
  generalize ha : (⟨k.val / 128, Nat.div_lt_of_lt_mul k.isLt⟩ : Fin 8) = a
  generalize hb : (⟨k.val % 128, Nat.mod_lt _ (by omega)⟩ : Fin 128) = b
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  pointwise
  refine congrArg (fun q => (m (c.tc.loc main_arg1) : FVec Ideal S1024x1024 .f32) (ix2 q d)) (Fin.ext ?_)
  subst ha hb
  simp only [Cert.ByPair.own]
  omega

/-- The rows as the call reads them, in the arguments. -/
theorem rows_eq (c : Dev nD) : (V m c main_v0 : FVec Ideal S4096x1024 .bf16) = (m (c.tc.loc main_arg0) : FVec Ideal S4096x1024 .f32) := by
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  funext j
  pointwise

/-- An entry of the result, in the arguments. -/
def entry (x : FVec Ideal S4096x1024 .f32) (w : FVec Ideal S1024x1024 .f32) (h : FVec Ideal S4096x1024 .f32) (i : Fin 4096) (d : Fin 1024) : EReal :=
  h (ix2 i d) + ∑ k : Fin 1024, x (ix2 i k) * w (ix2 ⟨Cert.ByPair.own k.val, Cert.ByPair.own_lt k.isLt⟩ d)

/-- The call's result, in the arguments. -/
theorem out_eq (c : Dev nD) (i : Fin 4096) (d : Fin 1024) : out (n := 4096) (V m c main_v0) (V m c main_v5) (V m c main_arg2) (ix2 i d)
    = entry (m (c.tc.loc main_arg0)) (m (c.tc.loc main_arg1)) (m (c.tc.loc main_arg2)) i d := by
  rw [rows_eq, V_main_arg2]
  exact @congrArg EReal EReal _ _ (fun z => @HAdd.hAdd EReal EReal EReal instHAdd _ z)
    (Finset.sum_congr rfl fun k _ => @congrArg EReal EReal _ _ (fun z => @HMul.hMul EReal EReal EReal instHMul _ z) (weight_eq m c k d))

end Cert.Kernel13Ideal.Value

/-- The call's result is the residual plus the projection. -/
theorem Cert.Proof.alg13 : Cert.algebraic_Kernel13Ideal_Reference13Ideal := by
  pair_intro
  · run_from Cert.Kernel13Ideal.Value.run_blocks m g
  · run_from Cert.Reference13Ideal.Value.run m' g'
    · rw [Cert.Kernel13Ideal.Value.final3]
      funext j
      obtain ⟨i, d, rfl⟩ : ∃ i d, j = ix2 i d := ⟨_, _, eq_ix2 j⟩
      rw [Cert.Kernel13Ideal.Value.out_eq m c i d]
      obtain ⟨a0, a1, a2⟩ := hagree c
      generalize hW : shapeCast Reference13Ideal.S1024x1024
        (transpose Reference13Ideal.S2x4x2x64x1024 [0, 2, 1, 3, 4]
          (shapeCast Reference13Ideal.S2x2x4x64x1024 (m (c.tc.loc Kernel13Ideal.main_arg1)) Reference13Ideal.Gen.shapeCasts_S1024x1024_S2x2x4x64x1024)
          Reference13Ideal.Gen.transposes_S2x2x4x64x1024_S2x4x2x64x1024_0_2_1_3_4)
        Reference13Ideal.Gen.shapeCasts_S2x4x2x64x1024_S1024x1024 = W
      have r : ∀ k d : Fin 1024, W (ix2 k d) = _ := fun k d => (congrFun hW.symm _).trans (Cert.ByPair.read _ _ _ _ k d)
      pointwise [Cert.Kernel13Ideal.Value.entry]
      simp only [r]

end
-- ==== Proof.KeyValueForward.lean ====
/- The keys', values' and queries' projections, forward: what one block of 1024 rows computes, and that the call's results are the layer's. -/
module

public import proofs.«01_k».proof.Defs
public import proofs.«01_k».proof.Proof.Gen.Kernel14Ideal.Frame
public import proofs.«01_k».proof.Proof.Gen.Kernel14Ideal.Value
public import proofs.«01_k».proof.Proof.Gen.Reference14Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel14Ideal.Value

open Cert.Kernel14Ideal Cert.Kernel14Ideal.Gen

variable (m : (ℓ : Loc nD τ sig) → Buf (Elt Ideal) ℓ)

/-- Which block of its array each window shows at grid point `t`. -/
theorem idx : ∀ t : Fin cfg0.N, win0_0.index t = ![t.val, 0]
    ∧ win0_1.index t = ![0, 0]
    ∧ win0_2.index t = ![0, 0, 0]
    ∧ win0_3.index t = ![0, 0]
    ∧ win0_4.index t = ![0, 0, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

/-- `n` rows of `d` entries. -/
abbrev Rows (n d : ℕ) : Shape := ⟨2, ![n, d]⟩

/-- The reciprocal root mean square of row `i`. -/
def inv {n : ℕ} (h : FVec Ideal (Rows n 1024) .f32) (i : Fin n) : EReal :=
  Ideal.rsqrt (Ideal.div (∑ d : Fin 1024, h (ix2 i d) * h (ix2 i d)) (Ideal.ofBits .f32 0x44800000#32) + Ideal.ofBits .f32 0x358637BD#32)

/-- The normalised input. -/
def norm {n : ℕ} (h : FVec Ideal (Rows n 1024) .f32) (g : FVec Ideal S1x1024 .f32) : FVec Ideal (Rows n 1024) .bf16 :=
  fun j => h (ix2 (j 0) (j 1)) * inv h (j 0) * g (ix2 0 (j 1))

/-- The normalised rows through the weight. -/
def proj {n : ℕ} (x : FVec Ideal (Rows n 1024) .bf16) (w : FVec Ideal S8x128x1024 .bf16) : FVec Ideal (Rows n 1024) .bf16 :=
  fun j => ∑ k : Fin 1024, x (ix2 (j 0) k) * w (ix3 ⟨k.val / 128, Nat.div_lt_of_lt_mul k.isLt⟩ ⟨k.val % 128, Nat.mod_lt _ (by omega)⟩ (j 1))

/-- The normalised rows through the keys' and values' weights, side by side. -/
def pair {n : ℕ} (x : FVec Ideal (Rows n 1024) .bf16) (w : FVec Ideal S8x128x512 .bf16) : FVec Ideal (Rows n 512) .bf16 :=
  fun j => ∑ k : Fin 1024, x (ix2 (j 0) k) * w (ix3 ⟨k.val / 128, Nat.div_lt_of_lt_mul k.isLt⟩ ⟨k.val % 128, Nat.mod_lt _ (by omega)⟩ (j 1))

/-- At every point the block of window 2 is its whole array. -/
theorem whole2 (c : Dev nD) (X : (b : Ref sig Kind.tc) → Buf (τ := τ) (Elt Ideal) ((c.tc : Thread nD τ).loc b)) (t : Fin cfg0.N) (y : S8x128x512.Idx) :
    View.read (Elt Ideal) ((cfg0.win 2).blk t).view (X (Pipeline.arrRef spec0 2)) y = X main_v3 y := by
  blk_ext [idx t]

/-- The block of window 2 at every point. -/
theorem weight2 (c : Dev nD) (t : Fin cfg0.N) : (iblk m c 2 t : FVec Ideal S8x128x512 .bf16) = (V m c main_v3 : FVec Ideal S8x128x512 .bf16) :=
  funext fun y => whole2 c (V m c) t y

/-- At every point the block of window 4 is its whole array. -/
theorem whole4 (c : Dev nD) (X : (b : Ref sig Kind.tc) → Buf (τ := τ) (Elt Ideal) ((c.tc : Thread nD τ).loc b)) (t : Fin cfg0.N) (y : S8x128x1024.Idx) :
    View.read (Elt Ideal) ((cfg0.win 4).blk t).view (X (Pipeline.arrRef spec0 4)) y = X main_v9 y := by
  blk_ext [idx t]

/-- The block of window 4 at every point. -/
theorem weight4 (c : Dev nD) (t : Fin cfg0.N) : (iblk m c 4 t : FVec Ideal S8x128x1024 .bf16) = (V m c main_v9 : FVec Ideal S8x128x1024 .bf16) :=
  funext fun y => whole4 c (V m c) t y

/-- The array of the keys and values after the last point. -/
theorem final5 (c : Dev nD) : (dats m 0 c).arrAt 5 (cfgs 0).N = pair (n := 4096) (norm (n := 4096) (V m c main_arg0) (V m c main_v0)) (V m c main_v3) := by
  refine (dats m 0 c).arrAt_eq_of_covers 5 _ (by decide +kernel) fun t hf y => ?_
  blk_simp; rw [after0_5]
  frame_out
  open_payloads
  pointwise [pair, norm, inv]
  simp only [weight2]
  generalize V m c main_v3 = W2
  blk_point [iblk, idx t]

/-- The array of the rows normalised for the keys and values after the last point. -/
theorem final6 (c : Dev nD) : (dats m 0 c).arrAt 6 (cfgs 0).N = norm (n := 4096) (V m c main_arg0) (V m c main_v0) := by
  refine (dats m 0 c).arrAt_eq_of_covers 6 _ (by decide +kernel) fun t hf y => ?_
  blk_simp; rw [after0_6]
  frame_out
  open_payloads
  pointwise [norm, inv]
  blk_point [iblk, idx t]

/-- The array of the queries after the last point. -/
theorem final7 (c : Dev nD) : (dats m 0 c).arrAt 7 (cfgs 0).N = proj (n := 4096) (norm (n := 4096) (V m c main_arg0) (V m c main_v4)) (V m c main_v9) := by
  refine (dats m 0 c).arrAt_eq_of_covers 7 _ (by decide +kernel) fun t hf y => ?_
  blk_simp; rw [after0_7]
  frame_out
  open_payloads
  pointwise [proj, norm, inv]
  simp only [weight4]
  generalize V m c main_v9 = W4
  blk_point [iblk, idx t]

/-- The array of the rows normalised for the queries after the last point. -/
theorem final8 (c : Dev nD) : (dats m 0 c).arrAt 8 (cfgs 0).N = norm (n := 4096) (V m c main_arg0) (V m c main_v4) := by
  refine (dats m 0 c).arrAt_eq_of_covers 8 _ (by decide +kernel) fun t hf y => ?_
  blk_simp; rw [after0_8]
  frame_out
  open_payloads
  pointwise [norm, inv]
  blk_point [iblk, idx t]

end Cert.Kernel14Ideal.Value

/-- The call's four results are the layer's keys and values, its queries, and the normalised rows of both. -/
theorem Cert.Proof.alg14 : Cert.algebraic_Kernel14Ideal_Reference14Ideal := by
  pair_intro
  · run_from Cert.Kernel14Ideal.Value.run_blocks m g
  · run_from Cert.Reference14Ideal.Value.run m' g'
    · obtain ⟨a0, a1, a2, a3, a4, a5⟩ := hagree c
      rw [Cert.Kernel14Ideal.Value.final5]
      simp only [Cert.Kernel14Ideal.Gen.V, Cert.Kernel14Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel14Ideal.Value.pair, Cert.Kernel14Ideal.Value.norm, Cert.Kernel14Ideal.Value.inv]
      simp only [a2, a3] <;> rfl
    · rw [Cert.Kernel14Ideal.Value.final6]
      simp only [Cert.Kernel14Ideal.Gen.V, Cert.Kernel14Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel14Ideal.Value.norm, Cert.Kernel14Ideal.Value.inv]
    · rw [Cert.Kernel14Ideal.Value.final7]
      simp only [Cert.Kernel14Ideal.Gen.V, Cert.Kernel14Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel14Ideal.Value.proj, Cert.Kernel14Ideal.Value.norm, Cert.Kernel14Ideal.Value.inv]
    · rw [Cert.Kernel14Ideal.Value.final8]
      simp only [Cert.Kernel14Ideal.Gen.V, Cert.Kernel14Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel14Ideal.Value.norm, Cert.Kernel14Ideal.Value.inv]

end
-- ==== Proof.AttendedBackward.lean ====
/- The attention layers' output projection, backward: what one block of 1024 rows computes, what the accumulator holds after each point,
and that the results are the derivatives. -/
module

public import proofs.«01_k».proof.Defs
public import proofs.«01_k».proof.Proof.ByPair
public import proofs.«01_k».proof.Proof.Gen.Kernel15Ideal.Frame
public import proofs.«01_k».proof.Proof.Gen.Kernel15Ideal.Value
public import proofs.«01_k».proof.Proof.Gen.Reference15Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel15Ideal.Value

open Cert.Kernel15Ideal Cert.Kernel15Ideal.Gen

variable (m : (ℓ : Loc nD τ sig) → Buf (Elt Ideal) ℓ)

/-- Which block of its array each window shows at grid point `t`. -/
theorem idx : ∀ t : Fin cfg0.N, win0_0.index t = ![t.val, 0]
    ∧ win0_1.index t = ![0, 0, 0]
    ∧ win0_2.index t = ![t.val, 0]
    ∧ win0_3.index t = ![t.val, 0]
    ∧ win0_4.index t = ![0, 0, 0] :=
  (by decide +kernel : ∀ t : Fin grid0.N, _)

/-- `n` rows of `d` entries. -/
abbrev Rows (n d : ℕ) : Shape := ⟨2, ![n, d]⟩

/-- The rows' gradient through the transposed weight. -/
def out {n : ℕ} (dy : FVec Ideal (Rows n 1024) .f32) (w : FVec Ideal S8x128x1024 .bf16) : FVec Ideal (Rows n 1024) .bf16 :=
  fun j => ∑ d : Fin 1024, dy (ix2 (j 0) d) * w (ix3 ⟨(j 1).val / 128, Nat.div_lt_of_lt_mul (j 1).isLt⟩ ⟨(j 1).val % 128, Nat.mod_lt _ (by omega)⟩ d)

/-- The gradient of the weight with its heads in the order of the attention's pairs: the rows' products summed. -/
def dw {n : ℕ} (x : FVec Ideal (Rows n 1024) .bf16) (dy : FVec Ideal (Rows n 1024) .f32) : FVec Ideal (Rows 1024 1024) .f32 :=
  fun j => ∑ i : Fin n, x (ix2 i (j 0)) * dy (ix2 i (j 1))

/-- The row of the accumulator that row `q` of the weight's gradient lies in: the heads stand in the order of the attention's pairs. -/
def slot (q : ℕ) : ℕ := q / 512 * 512 + q / 64 % 4 * 128 + q / 256 % 2 * 64 + q % 64

theorem slot_lt {q : ℕ} (h : q < 1024) : slot q < 1024 := by unfold slot; omega

/-- The gradient of the weight with its heads in their own order, eight blocks of 128 rows. -/
def blocks (p : FVec Ideal (Rows 1024 1024) .f32) : FVec Ideal S8x128x1024 .bf16 :=
  fun j => p (ix2 ⟨slot ((j 0).val * 128 + (j 1).val), slot_lt (by have h0 : (j 0).val < 8 := (j 0).isLt; have h1 : (j 1).val < 128 := (j 1).isLt; omega)⟩ (j 2))

/-- What a point leaves in its block of the rows' gradient. -/
theorem out3 (c : Dev nD) (t : Fin cfg0.N) (j) : (outsAt0 m c t.val t.isLt).1 j = out (n := 1024) (iblk m c 0 t) (iblk m c 1 t) j := by
  by_cases h : t.val % 4 = 0
  · rw [outsAt0_A m c t h (by have : t.val < 4 := t.isLt; omega) (by omega)]; frame_out
    open_payloads; pointwise [out]
  · by_cases h2 : t.val % 4 = 3
    · rw [outsAt0_C m c t h (by omega) h2]; frame_out
      open_payloads; pointwise [out]
    · rw [outsAt0_B m c t h (by omega) h2]; frame_out
      open_payloads; pointwise [out]

/-- At every point the block of window 1 is its whole array. -/
theorem whole1 (c : Dev nD) (X : (b : Ref sig Kind.tc) → Buf (τ := τ) (Elt Ideal) ((c.tc : Thread nD τ).loc b)) (t : Fin cfg0.N) (y : S8x128x1024.Idx) :
    View.read (Elt Ideal) ((cfg0.win 1).blk t).view (X (Pipeline.arrRef spec0 1)) y = X main_v4 y := by
  blk_ext [idx t]

/-- The block of window 1 at every point. -/
theorem weight1 (c : Dev nD) (t : Fin cfg0.N) : (iblk m c 1 t : FVec Ideal S8x128x1024 .bf16) = (V m c main_v4 : FVec Ideal S8x128x1024 .bf16) :=
  funext fun y => whole1 c (V m c) t y

/-- The array of the rows' gradient after the last point. -/
theorem result3 (c : Dev nD) : (dats m 0 c).arrAt 3 (cfgs 0).N = out (n := 4096) (V m c main_arg2) (V m c main_v4) := by
  refine (dats m 0 c).arrAt_eq_of_covers 3 _ (by decide +kernel) fun t hf y => ?_
  blk_simp; rw [after0_3, out3]
  pointwise [out]
  simp only [weight1]
  generalize V m c main_v4 = W1
  blk_point [iblk, idx t]

/-- What point `t` adds to the accumulator. -/
abbrev dwBlk (c : Dev nD) (t : Fin cfg0.N) : FVec Ideal (Rows 1024 1024) .f32 := dw (n := 1024) (iblk m c 2 t) (iblk m c 0 t)

/-- The accumulator after the first point. -/
theorem accA (c : Dev nD) (t : Fin cfg0.N) (h : t.val % 4 = 0) (h1 : ¬1 ≤ t.val) (h2 : ¬t.val % 4 = 3) (j) :
    (outsAt0 m c t.val t.isLt).2.2 j = dwBlk m c t j := by
  rw [outsAt0_A m c t h h1 h2]
  frame_out
  open_payloads; pointwise [dwBlk, dw]

/-- The accumulator after a later point but the last. -/
theorem accB (c : Dev nD) (t : Fin cfg0.N) (h : ¬t.val % 4 = 0) (h1 : 1 ≤ t.val) (h2 : ¬t.val % 4 = 3) (j) :
    (outsAt0 m c t.val t.isLt).2.2 j = (outsAt0 m c (t.val - 1) (by omega)).2.2 j + dwBlk m c t j := by
  rw [outsAt0_B m c t h h1 h2]
  frame_out
  simp only [read_unread_whole]
  open_payloads; pointwise [dwBlk, dw]

/-- The accumulator after the last point. -/
theorem accC (c : Dev nD) (t : Fin cfg0.N) (h : ¬t.val % 4 = 0) (h1 : 1 ≤ t.val) (h2 : t.val % 4 = 3) (j) :
    (outsAt0 m c t.val t.isLt).2.2 j = (outsAt0 m c (t.val - 1) (by omega)).2.2 j + dwBlk m c t j := by
  rw [outsAt0_C m c t h h1 h2]
  frame_out
  simp only [read_unread_whole]
  open_payloads; pointwise [dwBlk, dw]

/-- An entry of the accumulator at its place in the result. -/
theorem tile (p : FVec Ideal (Rows 1024 1024) .f32) (i k : Fin 1024) (y : S8x128x1024.Idx) (hi : i.val = slot ((y 0).val * 128 + (y 1).val))
    (hk : k.val = (y 2).val) : p (ix2 i k) = blocks p y := by
  unfold blocks
  congr 2 <;> exact Fin.ext (by assumption)

/-- The result block at the last point: the accumulator, in blocks. -/
theorem out4 (c : Dev nD) (t : Fin cfg0.N) (h : ¬t.val % 4 = 0) (h1 : 1 ≤ t.val) (h2 : t.val % 4 = 3) (y) :
    (outsAt0 m c t.val t.isLt).2.1 y = blocks (fun i => (outsAt0 m c (t.val - 1) (by omega)).2.2 i + dwBlk m c t i) y := by
  rw [outsAt0_C m c t h h1 h2]
  frame_out
  canon_tiles x hx
  all_goals
    (simp only [read_unread_whole]; open_payloads; pointwise
     exact tile (fun i => (outsAt0 m c (t.val - 1) (by omega)).2.2 i + dwBlk m c t i) _ _ y (by simp only [slot]; omega) (by simp only [slot]; omega))

/-- The accumulator after the last point: the sum over all rows. -/
theorem acc3 (c : Dev nD) (j) : (outsAt0 m c t0_3.val t0_3.isLt).2.2 j = dw (n := 4096) (V m c main_v5) (V m c main_arg2) j := by
  rw [Pipeline.eq_sum_fin_of_reset_step_apply_last (fun n h => (outsAt0 m c n h).2.2) 4 (fun _ => 0)
    (fun t j => dwBlk m c t j)
    (fun t h j => by rw [accA m c t h (by have : t.val < 4 := t.isLt; omega) (by omega), zero_add])
    (fun t h j => by
      by_cases h2 : t.val % 4 = 3
      · rw [accC m c t h (by omega) h2]
      · rw [accB m c t h (by omega) h2])
    (le_of_eq N_0) t0_3 rfl j, zero_add]
  pointwise [dwBlk, dw]
  refine Fin.sum_mul_add_congr (fun p k hl => ?_)
  blk_point [iblk, idx p]

/-- The weight's result array after the last point. -/
theorem result4 (c : Dev nD) : (dats m 0 c).arrAt 4 (cfgs 0).N = blocks (dw (n := 4096) (V m c main_v5) (V m c main_arg2)) := by
  refine (dats m 0 c).arrAt_eq_of_after_last 4 t0_3 (by decide +kernel) _ fun j => ?_
  blk_simp
  rw [after0_4, out4 m c t0_3 (by decide) (by decide) (by decide)]
  exact congrFun (congrArg blocks (funext fun i => (accC m c t0_3 (by decide) (by decide) (by decide) i).symm.trans (acc3 m c i))) j

/-- The weight as the call reads it, in the arguments. -/
theorem weight_eq (c : Dev nD) (k d : Fin 1024) :
    (V m c main_v4 : FVec Ideal S8x128x1024 .bf16) (ix3 ⟨k.val / 128, Nat.div_lt_of_lt_mul k.isLt⟩ ⟨k.val % 128, Nat.mod_lt _ (by omega)⟩ d)
    = (m (c.tc.loc main_arg1) : FVec Ideal S1024x1024 .f32) (ix2 ⟨Cert.ByPair.own k.val, Cert.ByPair.own_lt k.isLt⟩ d) := by
  generalize ha : (⟨k.val / 128, Nat.div_lt_of_lt_mul k.isLt⟩ : Fin 8) = a
  generalize hb : (⟨k.val % 128, Nat.mod_lt _ (by omega)⟩ : Fin 128) = b
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  pointwise
  refine congrArg (fun q => (m (c.tc.loc main_arg1) : FVec Ideal S1024x1024 .f32) (ix2 q d)) (Fin.ext ?_)
  subst ha hb
  simp only [Cert.ByPair.own]
  omega

/-- An entry of the rows' gradient, in the arguments. -/
def entry (w : FVec Ideal S1024x1024 .f32) (dy : FVec Ideal S4096x1024 .f32) (i : Fin 4096) (k : Fin 1024) : EReal :=
  ∑ d : Fin 1024, dy (ix2 i d) * w (ix2 ⟨Cert.ByPair.own k.val, Cert.ByPair.own_lt k.isLt⟩ d)

/-- The rows' gradient, in the arguments. -/
theorem out_eq (c : Dev nD) (i : Fin 4096) (k : Fin 1024) : out (n := 4096) (V m c main_arg2) (V m c main_v4) (ix2 i k)
    = entry (m (c.tc.loc main_arg1)) (m (c.tc.loc main_arg2)) i k := by
  rw [V_main_arg2]
  exact Finset.sum_congr rfl fun d _ => @congrArg EReal EReal _ _ (fun z => @HMul.hMul EReal EReal EReal instHMul _ z) (weight_eq m c k d)

/-- The rows as the call reads them, in the arguments. -/
theorem rows_eq (c : Dev nD) : (V m c main_v5 : FVec Ideal S4096x1024 .bf16) = (m (c.tc.loc main_arg0) : FVec Ideal S4096x1024 .f32) := by
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  funext j
  pointwise

end Cert.Kernel15Ideal.Value

/-- The call's two results are the projection's derivatives at its rows and in its weight. -/
theorem Cert.Proof.alg15 : Cert.algebraic_Kernel15Ideal_Reference15Ideal := by
  pair_intro
  · run_from Cert.Kernel15Ideal.Value.run_blocks m g
  · run_from Cert.Reference15Ideal.Value.run m' g'
    · obtain ⟨a0, a1, a2⟩ := hagree c
      rw [Cert.Kernel15Ideal.Value.result3]
      funext j
      obtain ⟨i, k, rfl⟩ : ∃ i k, j = ix2 i k := ⟨_, _, eq_ix2 j⟩
      rw [Cert.Kernel15Ideal.Value.out_eq m c i k]
      generalize hW : shapeCast Reference15Ideal.S1024x1024
        (transpose Reference15Ideal.S2x4x2x64x1024 [0, 2, 1, 3, 4]
          (shapeCast Reference15Ideal.S2x2x4x64x1024 (m (c.tc.loc Kernel15Ideal.main_arg1)) Reference15Ideal.Gen.shapeCasts_S1024x1024_S2x2x4x64x1024)
          Reference15Ideal.Gen.transposes_S2x2x4x64x1024_S2x4x2x64x1024_0_2_1_3_4)
        Reference15Ideal.Gen.shapeCasts_S2x4x2x64x1024_S1024x1024 = W
      have r : ∀ k d : Fin 1024, W (ix2 k d) = _ := fun k d => (congrFun hW.symm _).trans (Cert.ByPair.read _ _ _ _ k d)
      pointwise [Cert.Kernel15Ideal.Value.entry]
      simp only [r]
    · rw [Cert.Kernel15Ideal.Value.result4, Cert.Kernel15Ideal.Value.rows_eq, Cert.Kernel15Ideal.Gen.V_main_arg2]
      funext j
      pointwise [Cert.Kernel15Ideal.Value.blocks, Cert.Kernel15Ideal.Value.dw, Cert.Kernel15Ideal.Value.slot]
      have h1 : (j 1).val < 128 := (j 1).isLt
      refine Finset.sum_congr rfl fun r _ => (@mul_comm EReal _ _ _).trans ?_
      refine congrArg (fun q : Fin 1024 => @HMul.hMul EReal EReal EReal instHMul ((m (c.tc.loc Kernel15Ideal.main_arg0) : FVec Ideal Kernel15Ideal.S4096x1024 .f32) (ix2 r q))
        ((m (c.tc.loc Kernel15Ideal.main_arg2) : FVec Ideal Kernel15Ideal.S4096x1024 .f32) (ix2 r (j 2)))) (Fin.ext ?_)
      dsimp only
      omega

end
-- ==== Proof.QueryWeights.lean ====
/- The queries' weight gradient: what the accumulator holds after each point, and that the result is the derivative. -/
module

public import proofs.«01_k».proof.Defs
public import proofs.«01_k».proof.Proof.Gen.Kernel16Ideal.Frame
public import proofs.«01_k».proof.Proof.Gen.Kernel16Ideal.Value
public import proofs.«01_k».proof.Proof.Gen.Reference16Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel16Ideal.Value

open Cert.Kernel16Ideal Cert.Kernel16Ideal.Gen

variable (m : (ℓ : Loc nD τ sig) → Buf (Elt Ideal) ℓ)

/-- Which block of its array each window shows at grid point `t`. -/
theorem idx : ∀ t : Fin cfg0.N, win0_0.index t = ![t.val, 0]
    ∧ win0_1.index t = ![t.val, 0]
    ∧ win0_2.index t = ![0, 0, 0] :=
  (by decide +kernel : ∀ t : Fin grid0.N, _)

/-- `n` rows of `d` entries. -/
abbrev Rows (n d : ℕ) : Shape := ⟨2, ![n, d]⟩

/-- The gradient of the weight with its heads in the order of the attention's pairs: the rows' products summed. -/
def dw {n : ℕ} (x dy : FVec Ideal (Rows n 1024) .bf16) : FVec Ideal (Rows 1024 1024) .f32 :=
  fun j => ∑ i : Fin n, x (ix2 i (j 0)) * dy (ix2 i (j 1))

/-- The column of the accumulator that column `q` of the weight's gradient lies in: the heads stand in the order of the attention's pairs. -/
def slot (q : ℕ) : ℕ := q / 512 * 512 + q / 64 % 4 * 128 + q / 256 % 2 * 64 + q % 64

theorem slot_lt {q : ℕ} (h : q < 1024) : slot q < 1024 := by unfold slot; omega

/-- The gradient of the weight with its heads in their own order, eight blocks of 128 rows. -/
def blocks (p : FVec Ideal (Rows 1024 1024) .f32) : FVec Ideal S8x128x1024 .bf16 :=
  fun j => p (ix2 ⟨(j 0).val * 128 + (j 1).val, by have h0 : (j 0).val < 8 := (j 0).isLt; have h1 : (j 1).val < 128 := (j 1).isLt; omega⟩ ⟨slot (j 2).val, slot_lt (j 2).isLt⟩)

/-- What point `t` adds to the accumulator. -/
abbrev dwBlk (c : Dev nD) (t : Fin cfg0.N) : FVec Ideal (Rows 1024 1024) .f32 := dw (n := 1024) (iblk m c 0 t) (iblk m c 1 t)

/-- The accumulator after the first point. -/
theorem accA (c : Dev nD) (t : Fin cfg0.N) (h : t.val % 4 = 0) (h1 : ¬1 ≤ t.val) (h2 : ¬t.val % 4 = 3) (j) :
    (outsAt0 m c t.val t.isLt).2 j = dwBlk m c t j := by
  rw [outsAt0_A m c t h h1 h2]
  frame_out
  open_payloads; pointwise [dwBlk, dw]

/-- The accumulator after a later point but the last. -/
theorem accB (c : Dev nD) (t : Fin cfg0.N) (h : ¬t.val % 4 = 0) (h1 : 1 ≤ t.val) (h2 : ¬t.val % 4 = 3) (j) :
    (outsAt0 m c t.val t.isLt).2 j = (outsAt0 m c (t.val - 1) (by omega)).2 j + dwBlk m c t j := by
  rw [outsAt0_B m c t h h1 h2]
  frame_out
  simp only [read_unread_whole]
  open_payloads; pointwise [dwBlk, dw]

/-- The accumulator after the last point. -/
theorem accC (c : Dev nD) (t : Fin cfg0.N) (h : ¬t.val % 4 = 0) (h1 : 1 ≤ t.val) (h2 : t.val % 4 = 3) (j) :
    (outsAt0 m c t.val t.isLt).2 j = (outsAt0 m c (t.val - 1) (by omega)).2 j + dwBlk m c t j := by
  rw [outsAt0_C m c t h h1 h2]
  frame_out
  simp only [read_unread_whole]
  open_payloads; pointwise [dwBlk, dw]

/-- An entry of the accumulator at its place in the result. -/
theorem tile (p : FVec Ideal (Rows 1024 1024) .f32) (i k : Fin 1024) (y : S8x128x1024.Idx) (hi : i.val = (y 0).val * 128 + (y 1).val)
    (hk : k.val = slot (y 2).val) : p (ix2 i k) = blocks p y := by
  unfold blocks
  congr 2 <;> exact Fin.ext (by assumption)

/-- The result block at the last point: the accumulator, in blocks. -/
theorem out2 (c : Dev nD) (t : Fin cfg0.N) (h : ¬t.val % 4 = 0) (h1 : 1 ≤ t.val) (h2 : t.val % 4 = 3) (y) :
    (outsAt0 m c t.val t.isLt).1 y = blocks (fun i => (outsAt0 m c (t.val - 1) (by omega)).2 i + dwBlk m c t i) y := by
  rw [outsAt0_C m c t h h1 h2]
  frame_out
  canon_tiles x hx
  all_goals
    (simp only [read_unread_whole]; open_payloads; pointwise
     exact tile (fun i => (outsAt0 m c (t.val - 1) (by omega)).2 i + dwBlk m c t i) _ _ y (by simp only []; omega) (by simp only [slot]; omega))

/-- The accumulator after the last point: the sum over all rows. -/
theorem acc3 (c : Dev nD) (j) : (outsAt0 m c t0_3.val t0_3.isLt).2 j = dw (n := 4096) (V m c main_v0) (V m c main_v1) j := by
  rw [Pipeline.eq_sum_fin_of_reset_step_apply_last (fun n h => (outsAt0 m c n h).2) 4 (fun _ => 0)
    (fun t j => dwBlk m c t j)
    (fun t h j => by rw [accA m c t h (by have : t.val < 4 := t.isLt; omega) (by omega), zero_add])
    (fun t h j => by
      by_cases h2 : t.val % 4 = 3
      · rw [accC m c t h (by omega) h2]
      · rw [accB m c t h (by omega) h2])
    (le_of_eq N_0) t0_3 rfl j, zero_add]
  pointwise [dwBlk, dw]
  refine Fin.sum_mul_add_congr (fun p k hl => ?_)
  blk_point [iblk, idx p]

/-- The weight's result array after the last point. -/
theorem result2 (c : Dev nD) : (dats m 0 c).arrAt 2 (cfgs 0).N = blocks (dw (n := 4096) (V m c main_v0) (V m c main_v1)) := by
  refine (dats m 0 c).arrAt_eq_of_after_last 2 t0_3 (by decide +kernel) _ fun j => ?_
  blk_simp
  rw [after0_2, out2 m c t0_3 (by decide) (by decide) (by decide)]
  exact congrFun (congrArg blocks (funext fun i => (accC m c t0_3 (by decide) (by decide) (by decide) i).symm.trans (acc3 m c i))) j

end Cert.Kernel16Ideal.Value

/-- The call's result is the derivative of the projection in the queries' weight. -/
theorem Cert.Proof.alg16 : Cert.algebraic_Kernel16Ideal_Reference16Ideal := by
  pair_intro
  · run_from Cert.Kernel16Ideal.Value.run_blocks m g
  · run_from Cert.Reference16Ideal.Value.run m' g'
    · rw [Cert.Kernel16Ideal.Value.result2]
      simp only [Cert.Kernel16Ideal.Gen.V, Cert.Kernel16Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel16Ideal.Value.blocks, Cert.Kernel16Ideal.Value.dw, Cert.Kernel16Ideal.Value.slot]
      exact Finset.sum_congr rfl fun r _ => @mul_comm EReal _ _ _

end
-- ==== Proof.KeyValueWeights.lean ====
/- The keys' and values' weight gradient: what the accumulator holds after each point, and that the result is the derivative. -/
module

public import proofs.«01_k».proof.Defs
public import proofs.«01_k».proof.Proof.Gen.Kernel17Ideal.Frame
public import proofs.«01_k».proof.Proof.Gen.Kernel17Ideal.Value
public import proofs.«01_k».proof.Proof.Gen.Reference17Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel17Ideal.Value

open Cert.Kernel17Ideal Cert.Kernel17Ideal.Gen

variable (m : (ℓ : Loc nD τ sig) → Buf (Elt Ideal) ℓ)

/-- Which block of its array each window shows at grid point `t`. -/
theorem idx : ∀ t : Fin cfg0.N, win0_0.index t = ![t.val, 0]
    ∧ win0_1.index t = ![t.val, 0]
    ∧ win0_2.index t = ![t.val, 0]
    ∧ win0_3.index t = ![0, 0, 0] :=
  (by decide +kernel : ∀ t : Fin grid0.N, _)

/-- `n` rows of `d` entries. -/
abbrev Rows (n d : ℕ) : Shape := ⟨2, ![n, d]⟩

/-- The gradient of the weight: the rows' products with the sum of the two upstream gradients, summed. -/
def dw {n : ℕ} (x : FVec Ideal (Rows n 1024) .bf16) (a b : FVec Ideal (Rows n 512) .f32) : FVec Ideal (Rows 1024 512) .f32 :=
  fun j => ∑ i : Fin n, x (ix2 i (j 0)) * (a (ix2 i (j 1)) + b (ix2 i (j 1)))

/-- The same, eight blocks of 128 rows. -/
def blocks (p : FVec Ideal (Rows 1024 512) .f32) : FVec Ideal S8x128x512 .bf16 :=
  fun j => p (ix2 ⟨(j 0).val * 128 + (j 1).val, by have h0 : (j 0).val < 8 := (j 0).isLt; have h1 : (j 1).val < 128 := (j 1).isLt; omega⟩ (j 2))

/-- What point `t` adds to the accumulator. -/
abbrev dwBlk (c : Dev nD) (t : Fin cfg0.N) : FVec Ideal (Rows 1024 512) .f32 := dw (n := 1024) (iblk m c 0 t) (iblk m c 1 t) (iblk m c 2 t)

/-- The accumulator after the first point. -/
theorem accA (c : Dev nD) (t : Fin cfg0.N) (h : t.val % 4 = 0) (h1 : ¬1 ≤ t.val) (h2 : ¬t.val % 4 = 3) (j) :
    (outsAt0 m c t.val t.isLt).2 j = dwBlk m c t j := by
  rw [outsAt0_A m c t h h1 h2]
  frame_out
  open_payloads; pointwise [dwBlk, dw]

/-- The accumulator after a later point but the last. -/
theorem accB (c : Dev nD) (t : Fin cfg0.N) (h : ¬t.val % 4 = 0) (h1 : 1 ≤ t.val) (h2 : ¬t.val % 4 = 3) (j) :
    (outsAt0 m c t.val t.isLt).2 j = (outsAt0 m c (t.val - 1) (by omega)).2 j + dwBlk m c t j := by
  rw [outsAt0_B m c t h h1 h2]
  frame_out
  simp only [read_unread_whole]
  open_payloads; pointwise [dwBlk, dw]

/-- The accumulator after the last point. -/
theorem accC (c : Dev nD) (t : Fin cfg0.N) (h : ¬t.val % 4 = 0) (h1 : 1 ≤ t.val) (h2 : t.val % 4 = 3) (j) :
    (outsAt0 m c t.val t.isLt).2 j = (outsAt0 m c (t.val - 1) (by omega)).2 j + dwBlk m c t j := by
  rw [outsAt0_C m c t h h1 h2]
  frame_out
  simp only [read_unread_whole]
  open_payloads; pointwise [dwBlk, dw]

/-- The result block at the last point: the accumulator, in blocks. -/
theorem out3 (c : Dev nD) (t : Fin cfg0.N) (h : ¬t.val % 4 = 0) (h1 : 1 ≤ t.val) (h2 : t.val % 4 = 3) (j) :
    (outsAt0 m c t.val t.isLt).1 j = blocks (fun i => (outsAt0 m c (t.val - 1) (by omega)).2 i + dwBlk m c t i) j := by
  rw [outsAt0_C m c t h h1 h2]
  frame_out
  simp only [read_unread_whole]
  open_payloads; pointwise [blocks, dwBlk, dw]

/-- The accumulator after the last point: the sum over all rows. -/
theorem acc3 (c : Dev nD) (j) : (outsAt0 m c t0_3.val t0_3.isLt).2 j = dw (n := 4096) (V m c main_v0) (V m c main_arg3) (V m c main_arg4) j := by
  rw [Pipeline.eq_sum_fin_of_reset_step_apply_last (fun n h => (outsAt0 m c n h).2) 4 (fun _ => 0)
    (fun t j => dwBlk m c t j)
    (fun t h j => by rw [accA m c t h (by have : t.val < 4 := t.isLt; omega) (by omega), zero_add])
    (fun t h j => by
      by_cases h2 : t.val % 4 = 3
      · rw [accC m c t h (by omega) h2]
      · rw [accB m c t h (by omega) h2])
    (le_of_eq N_0) t0_3 rfl j, zero_add]
  pointwise [dwBlk, dw]
  refine Fin.sum_mul_add_congr (fun p k hl => ?_)
  blk_point [iblk, idx p]

/-- The weight's result array after the last point. -/
theorem result3 (c : Dev nD) : (dats m 0 c).arrAt 3 (cfgs 0).N = blocks (dw (n := 4096) (V m c main_v0) (V m c main_arg3) (V m c main_arg4)) := by
  refine (dats m 0 c).arrAt_eq_of_after_last 3 t0_3 (by decide +kernel) _ fun j => ?_
  blk_simp
  rw [after0_3, out3 m c t0_3 (by decide) (by decide) (by decide)]
  exact congrFun (congrArg blocks (funext fun i => (accC m c t0_3 (by decide) (by decide) (by decide) i).symm.trans (acc3 m c i))) j

end Cert.Kernel17Ideal.Value

/-- The call's result is the derivative of the projection in the keys' and values' weights, side by side. -/
theorem Cert.Proof.alg17 : Cert.algebraic_Kernel17Ideal_Reference17Ideal := by
  pair_intro
  · run_from Cert.Kernel17Ideal.Value.run_blocks m g
  · run_from Cert.Reference17Ideal.Value.run m' g'
    · obtain ⟨a0, a1, a2, a3, a4⟩ := hagree c
      rw [Cert.Kernel17Ideal.Value.result3]
      simp only [Cert.Kernel17Ideal.Gen.V, Cert.Kernel17Ideal.Gen.hostOps0, List.flatten_cons, List.flatten_nil, List.append_nil, List.cons_append, List.nil_append, StableHlo.TRef.binary, StableHlo.TRef.nullary, StableHlo.TRef.unary, StableHlo.TRef.toBuf, StableHlo.TRef.ofBuf, cast_eq]
      entry_read
      funext j
      pointwise [Cert.Kernel17Ideal.Value.blocks, Cert.Kernel17Ideal.Value.dw]
      simp only [a0, a3, a4]
      split
      · exact Finset.sum_congr rfl fun r _ => @mul_comm EReal _ _ _
      · rename_i h
        have hj : ∀ b, (⟨256 + ((j 2).val - 256), b⟩ : Fin 512) = j 2 := fun _ => Fin.ext (by simp only; omega)
        simp only [hj]
        exact Finset.sum_congr rfl fun r _ => @mul_comm EReal _ _ _

end
-- ==== Proof.QueryData.lean ====
/- The queries' projection, backward to the stream: what a block of 1024 rows computes, the result arrays, and that
   they are the derivatives of the normalised projection. -/
module

public import proofs.«01_k».proof.Defs
public import proofs.«01_k».proof.Proof.Reals
public import proofs.«01_k».proof.Proof.Gen.Pre_finite18
public import proofs.«01_k».proof.Proof.Gen.Kernel18Ideal.Frame
public import proofs.«01_k».proof.Proof.Gen.Kernel18Ideal.Value
public import proofs.«01_k».proof.Proof.Gen.Reference18Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel18Ideal.Value

open Cert.Kernel18Ideal Cert.Kernel18Ideal.Gen Cert.Proof

variable (m : (ℓ : Loc nD τ sig) → Buf (Elt Ideal) ℓ)

/-- Which block of its array each window shows at grid point `t`. -/
theorem idx : ∀ t : Fin cfg0.N, win0_0.index t = ![t.val, 0]
    ∧ win0_1.index t = ![0, 0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- `n` rows of `d` entries. -/
abbrev Rows (n d : ℕ) : Shape := ⟨2, ![n, d]⟩

/-- The gradient at the normalised input: the upstream gradient through the weight. -/
def dhn {n : ℕ} (dz : FVec Ideal (Rows n 1024) .bf16) (w : FVec Ideal S8x128x1024 .bf16) : FVec Ideal (Rows n 1024) .f32 :=
  fun j => ∑ k : Fin 1024, dz (ix2 (j 0) k) * w (ix3 ⟨(j 1).val / 128, Nat.div_lt_of_lt_mul (j 1).isLt⟩ ⟨(j 1).val % 128, Nat.mod_lt _ (by omega)⟩ k)

/-- The reciprocal root mean square of row `i`. -/
def inv {n : ℕ} (h : FVec Ideal (Rows n 1024) .f32) (i : Fin n) : EReal :=
  Ideal.rsqrt (Ideal.div (∑ d : Fin 1024, h (ix2 i d) * h (ix2 i d)) (Ideal.ofBits .f32 0x44800000#32) + Ideal.ofBits .f32 0x358637BD#32)

/-- The gradient at the input: the gradient past the projection plus the normalisation's backward pass. -/
def dh {n : ℕ} (ct : FVec Ideal (Rows n 1024) .f32) (dn : FVec Ideal (Rows n 1024) .f32) (h : FVec Ideal (Rows n 1024) .f32) (g : FVec Ideal S1x1024 .f32) :
    FVec Ideal (Rows n 1024) .f32 :=
  fun j => ct (ix2 (j 0) (j 1)) + inv h (j 0) * (dn (ix2 (j 0) (j 1)) * g (ix2 0 (j 1)) - h (ix2 (j 0) (j 1)) * inv h (j 0) *
    Ideal.div (∑ d : Fin 1024, dn (ix2 (j 0) d) * g (ix2 0 d) * (h (ix2 (j 0) d) * inv h (j 0))) (Ideal.ofBits .f32 0x44800000#32))

/-- The gradient of the normalisation's gain. -/
def dg {n : ℕ} (dn h : FVec Ideal (Rows n 1024) .f32) : FVec Ideal S1x1024 .f32 :=
  fun j => ∑ i : Fin n, dn (ix2 i (j 1)) * (h (ix2 i (j 1)) * inv h i)

/-- The gradient at the normalised input on the rows of point `t`. -/
abbrev dhnBlk (c : Dev nD) (t : Fin cfg0.N) : FVec Ideal (Rows 1024 1024) .f32 := dhn (n := 1024) (iblk m c 0 t) (iblk m c 1 t)

/-- What a point leaves in its block of the input's gradient. -/
theorem out5 (c : Dev nD) (t : Fin cfg0.N) (j) : (outsAt0 m c t.val t.isLt).1 j =
   dh (n := 1024) (iblk m c 4 t) (dhnBlk m c t) (iblk m c 2 t) (iblk m c 3 t) j := by
  by_cases h : t.val % 4 = 0
  · have h1 : ¬ 1 ≤ t.val := by have : t.val < 4 := t.isLt; omega
    rw [outsAt0_A m c t h h1]; frame_out
    open_payloads
    pointwise [dh, dhnBlk, dhn, inv]
  · have h1 : 1 ≤ t.val := by omega
    rw [outsAt0_B m c t h h1]; frame_out
    open_payloads
    pointwise [dh, dhnBlk, dhn, inv]

/-- A later point adds its rows' part to the gain's gradient. -/
theorem out6B (c : Dev nD) (t : Fin cfg0.N) (h : ¬ t.val % 4 = 0) (h1 : 1 ≤ t.val) (j) : (outsAt0 m c t.val t.isLt).2 j =
  (outsAt0 m c (t.val-1) (Nat.lt_of_le_of_lt (Nat.sub_le _ _) t.isLt)).2 j + dg (n := 1024) (dhnBlk m c t) (iblk m c 2 t) j := by
  rw [outsAt0_B m c t h h1]; frame_out
  open_payloads
  pointwise [dg, dhnBlk, dhn, inv]

/-- The first point starts the gain's gradient with its rows' part. -/
theorem out6A (c : Dev nD) (t : Fin cfg0.N) (h : t.val % 4 = 0) (h1 : ¬ 1 ≤ t.val) (j) : (outsAt0 m c t.val t.isLt).2 j =
  dg (n := 1024) (dhnBlk m c t) (iblk m c 2 t) j := by
  rw [outsAt0_A m c t h h1]; frame_out
  open_payloads
  pointwise [dg, dhnBlk, dhn, inv]

/-- The array of the input's gradient after the last point. -/
theorem final5 (c : Dev nD) : (dats m 0 c).arrAt 5 (cfgs 0).N = dh (n := 4096) (V m c main_arg4)
    (dhn (n := 4096) (V m c main_v0) (V m c main_v5)) (V m c main_arg0) (V m c main_v6) := by
  refine (dats m 0 c).arrAt_eq_of_covers 5 _ (by decide +kernel) fun t hf y => ?_
  blk_simp; rw [after0_5, out5]
  pointwise [dhnBlk, dhn, dh, inv]
  blk_point [iblk, idx t]

/-- The gain's gradient after the last point: the sum over all rows. -/
theorem final6 (c : Dev nD) : (dats m 0 c).arrAt 6 (cfgs 0).N = dg (n := 4096)
    (dhn (n := 4096) (V m c main_v0) (V m c main_v5)) (V m c main_arg0) := by
  refine (dats m 0 c).arrAt_eq_of_after_last 6 t0_3 (by decide +kernel) _ fun j => ?_
  blk_simp
  rw [after0_6, Pipeline.eq_sum_fin_of_reset_step_apply_last (fun n h => (outsAt0 m c n h).2) 4 (fun _ => 0)
    (fun t j => dg (n := 1024) (dhnBlk m c t) (iblk m c 2 t) j)
    (fun t h j => by rw [out6A m c t h (by have : t.val < 4 := t.isLt; omega), zero_add])
    (fun t h j => by rw [out6B m c t h (by omega)])
    (le_of_eq N_0) t0_3 rfl j, zero_add]
  pointwise [dg, dhnBlk, dhn, inv]
  refine Fin.sum_mul_add_congr (fun p k hl => ?_)
  blk_point [iblk, idx p]

/-- The weight's own column that stands at place `k` in the order of the attention's pairs. -/
def own (k : ℕ) : ℕ := k / 512 * 512 + k / 64 % 2 * 256 + k / 128 % 4 * 64 + k % 64

theorem own_lt {k : ℕ} (h : k < 1024) : own k < 1024 := by unfold own; omega

/-- The gradient at the normalised input, in the arguments. -/
def dnorm (w : FVec Ideal S1024x1024 .f32) (dz : FVec Ideal S4096x1024 .f32) (i : Fin 4096) (x : Fin 1024) : EReal :=
  ∑ k : Fin 1024, dz (ix2 i k) * w (ix2 x ⟨own k.val, own_lt k.isLt⟩)

/-- The gain as a row. -/
theorem gain_eq (c : Dev nD) (d : Fin 1024) :
    (V m c main_v6 : FVec Ideal S1x1024 .f32) (ix2 0 d) = (m (c.tc.loc main_arg1) : FVec Ideal S1024 .f32) (ix1 d) := by
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  pointwise

/-- The call's gradient at the normalised input, in the arguments. -/
theorem dhn_eq (c : Dev nD) (i : Fin 4096) (x : Fin 1024) : dhn (n := 4096) (V m c main_v0) (V m c main_v5) (ix2 i x)
    = dnorm (m (c.tc.loc main_arg2)) (m (c.tc.loc main_arg3)) i x := by
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  pointwise [dhn, dnorm, own]

theorem dh_at (ct dn h : FVec Ideal (Rows 4096 1024) .f32) (g : FVec Ideal S1x1024 .f32) (i : Fin 4096) (x : Fin 1024) :
    dh ct dn h g (ix2 i x) = ct (ix2 i x) + inv h i * (dn (ix2 i x) * g (ix2 0 x) - h (ix2 i x) * inv h i *
      Ideal.div (∑ d : Fin 1024, dn (ix2 i d) * g (ix2 0 d) * (h (ix2 i d) * inv h i)) (Ideal.ofBits .f32 0x44800000#32)) := rfl

/-- The call's gradient at the input, in the arguments. -/
theorem dh_eq (c : Dev nD) (i : Fin 4096) (x : Fin 1024) {h : FVec Ideal S4096x1024 .f32} {g : FVec Ideal S1024 .f32} {w : FVec Ideal S1024x1024 .f32}
    {dz : FVec Ideal S4096x1024 .f32} {ct : FVec Ideal S4096x1024 .f32} (e0 : m (c.tc.loc main_arg0) = h) (e1 : m (c.tc.loc main_arg1) = g) (e2 : m (c.tc.loc main_arg2) = w)
    (e3 : m (c.tc.loc main_arg3) = dz) (e4 : m (c.tc.loc main_arg4) = ct) :
    dh (n := 4096) (V m c main_arg4) (dhn (n := 4096) (V m c main_v0) (V m c main_v5)) (V m c main_arg0) (V m c main_v6) (ix2 i x)
    = ct (ix2 i x) + inv (n := 4096) h i * (dnorm w dz i x * g (ix1 x) - h (ix2 i x) * inv (n := 4096) h i *
        Ideal.div (∑ d : Fin 1024, dnorm w dz i d * g (ix1 d) * (h (ix2 i d) * inv (n := 4096) h i)) (Ideal.ofBits .f32 0x44800000#32)) := by
  subst e0 e1 e2 e3 e4
  have a : ∀ d : Fin 1024, _ := fun d => dhn_eq m c i d
  have b : ∀ d : Fin 1024, _ := fun d => gain_eq m c d
  rw [V_main_arg4, V_main_arg0, dh_at]
  simp only [a, b]

/-- The derivative at the input taken operation by operation: the gradient past the projection, the normalised row's part, and
    twice the part through the mean square. -/
theorem dh_row (h : FVec Ideal S4096x1024 .f32) (g : FVec Ideal S1024 .f32) (w : FVec Ideal S1024x1024 .f32) (dz : FVec Ideal S4096x1024 .f32) (ct : FVec Ideal S4096x1024 .f32)
    (hh : ∀ i, IsReal (h i)) (hg : ∀ i, IsReal (g i)) (hw : ∀ i, IsReal (w i)) (hz : ∀ i, IsReal (dz i))
    (i : Fin 4096) (x : Fin 1024) :
    let v : EReal := Ideal.div (∑ d : Fin 1024, h (ix2 i d) * h (ix2 i d)) (Ideal.ofBits .f32 0x44800000#32) + Ideal.ofBits .f32 0x358637BD#32
    let q : EReal := Ideal.div ((∑ d : Fin 1024, h (ix2 i d) * (dnorm w dz i d * g (ix1 d))) * (Ideal.ofBits .f32 0xBF000000#32 * Ideal.div (Ideal.rsqrt v) v)) (Ideal.ofBits .f32 0x44800000#32)
    (ct (ix2 i x) + dnorm w dz i x * g (ix1 x) * Ideal.rsqrt v + h (ix2 i x) * q + q * h (ix2 i x) : EReal)
    = ct (ix2 i x) + inv (n := 4096) h i * (dnorm w dz i x * g (ix1 x) - h (ix2 i x) * inv (n := 4096) h i *
        Ideal.div (∑ d : Fin 1024, dnorm w dz i d * g (ix1 d) * (h (ix2 i d) * inv (n := 4096) h i)) (Ideal.ofBits .f32 0x44800000#32)) := by
  intro v q
  have r := rms_row (fun d : Fin 1024 => h (ix2 i d)) (fun d => dnorm w dz i d * g (ix1 d)) (fun d => hh _)
    (fun d => .mul (.sum fun k => .mul (hz _) (hw _)) (hg _)) 1024 _ (by norm_num) (by norm_num : (0 : ℝ) < 8796093 / 8796093022208) x
  rw [← ofBits_1024, ← ofBits_eps, ← ofBits_neg_half] at r
  rw [add_assoc, add_assoc, ← add_assoc (_ * _ * _)]
  exact congrArg (ct (ix2 i x) + ·) r.symm

/-- What the precondition says of the arguments: every element is finite. -/
theorem finite_args (hpre : Cert.Pre_Kernel18Ideal_finite18 m) (c : Dev nD) :
    (∀ i, IsReal ((m (c.tc.loc main_arg0) : FVec Ideal S4096x1024 .f32) i)) ∧ (∀ i, IsReal ((m (c.tc.loc main_arg1) : FVec Ideal S1024 .f32) i))
    ∧ (∀ i, IsReal ((m (c.tc.loc main_arg2) : FVec Ideal S1024x1024 .f32) i)) ∧ (∀ i, IsReal ((m (c.tc.loc main_arg3) : FVec Ideal S4096x1024 .f32) i))
    ∧ (∀ i, IsReal ((m (c.tc.loc main_arg4) : FVec Ideal S4096x1024 .f32) i)) := by
  have e := congrFun (hpre c) ValueIdx.ix0
  simp only [Cert.Pre_finite18.fn, Cert.Pre_finite18.fn_part1, andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => fin_of_abs_lt (Host.reduce_andi_all _ _ _ _ _ e0 i), fun i => fin_of_abs_lt (Host.reduce_andi_all _ _ _ _ _ e1 i),
    fun i => fin_of_abs_lt (Host.reduce_andi_all _ _ _ _ _ e2 i), fun i => fin_of_abs_lt (Host.reduce_andi_all _ _ _ _ _ e3 i),
    fun i => fin_of_abs_lt (Host.reduce_andi_all _ _ _ _ _ e4 i)⟩

end Cert.Kernel18Ideal.Value

/-- The call's two results are the normalised projection's derivative at its input, with the gradient past it added, and at its gain. -/
theorem Cert.Proof.alg18 : Cert.algebraic_Kernel18Ideal_Reference18Ideal_pre_finite18 := by
  pair_intro
  · run_from Cert.Kernel18Ideal.Value.run_blocks m g
  · run_from Cert.Reference18Ideal.Value.run m' g'
    · obtain ⟨a0, a1, a2, a3, a4⟩ := hagree c
      unfold Cert.Reference18Ideal.Value.res_main_v46
      rw [Cert.Kernel18Ideal.Value.final5]
      funext j
      obtain ⟨i, x, rfl⟩ : ∃ i x, j = ix2 i x := ⟨_, _, eq_ix2 j⟩
      pointwise
      simp only [a0, a1, a2, a3, a4, Finset.univ_unique, Finset.sum_singleton]
      obtain ⟨f0, f1, f2, f3, f4⟩ := Cert.Kernel18Ideal.Value.finite_args m hpre c
      rw [Cert.Kernel18Ideal.Value.dh_eq m c i x rfl rfl rfl rfl rfl]
      exact Cert.Kernel18Ideal.Value.dh_row _ _ _ _ _ f0 f1 f2 f3 i x
    · rw [Cert.Kernel18Ideal.Value.final6]
      funext j
      obtain ⟨z, x, rfl⟩ : ∃ z x, j = ix2 z x := ⟨_, _, eq_ix2 j⟩
      pointwise
      simp only [Finset.univ_unique, Finset.sum_singleton]
      refine Finset.sum_congr rfl fun i _ => ?_
      refine (mul_comm _ _).trans (congrArg (· * _) ?_)
      exact (Cert.Kernel18Ideal.Value.dhn_eq m c i x).symm

end
-- ==== Proof.KeyValueData.lean ====
/- The queries', keys' and values' projections, backward to the stream: what a block of 1024 rows computes, the result arrays, and that
   they are the derivatives of the two normalised projections. -/
module

public import proofs.«01_k».proof.Defs
public import proofs.«01_k».proof.Proof.Reals
public import proofs.«01_k».proof.Proof.Gen.Pre_finite19
public import proofs.«01_k».proof.Proof.Gen.Kernel19Ideal.Frame
public import proofs.«01_k».proof.Proof.Gen.Kernel19Ideal.Value
public import proofs.«01_k».proof.Proof.Gen.Reference19Ideal.Run
public import Idealize.ShloMosaic.Lib.Pipeline.Value
public import Idealize.ShloMosaic.Lib.Pipeline.ValueKit
public import Idealize.ShloMosaic.Lib.Pipeline.ReadBack
public import Idealize.ShloMosaic.Lib.StableHlo.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel19Ideal.Value

open Cert.Kernel19Ideal Cert.Kernel19Ideal.Gen Cert.Proof

variable (m : (ℓ : Loc nD τ sig) → Buf (Elt Ideal) ℓ)

/-- Which block of its array each window shows at grid point `t`. -/
theorem idx : ∀ t : Fin cfg0.N, win0_0.index t = ![t.val, 0]
    ∧ win0_1.index t = ![0, 0, 0]
    ∧ win0_2.index t = ![t.val, 0]
    ∧ win0_3.index t = ![t.val, 0]
    ∧ win0_4.index t = ![0, 0, 0]
    ∧ win0_5.index t = ![t.val, 0]
    ∧ win0_6.index t = ![0, 0]
    ∧ win0_7.index t = ![0, 0]
    ∧ win0_8.index t = ![t.val, 0]
    ∧ win0_9.index t = ![t.val, 0]
    ∧ win0_10.index t = ![0, 0]
    ∧ win0_11.index t = ![0, 0] :=
  (by decide +kernel : ∀ t : Fin grid0.N, _)

/-- `n` rows of `d` entries. -/
abbrev Rows (n d : ℕ) : Shape := ⟨2, ![n, d]⟩

/-- The gradient at the rows normalised for the queries: the upstream gradient through the weight. -/
def dhnq {n : ℕ} (dq : FVec Ideal (Rows n 1024) .bf16) (w : FVec Ideal S8x128x1024 .bf16) : FVec Ideal (Rows n 1024) .f32 :=
  fun j => ∑ k : Fin 1024, dq (ix2 (j 0) k) * w (ix3 ⟨(j 1).val / 128, Nat.div_lt_of_lt_mul (j 1).isLt⟩ ⟨(j 1).val % 128, Nat.mod_lt _ (by omega)⟩ k)

/-- The gradient at the rows normalised for the keys and values: the sum of the two upstream gradients through the weights. -/
def dhnkv {n : ℕ} (a b : FVec Ideal (Rows n 512) .f32) (w : FVec Ideal S8x128x512 .bf16) : FVec Ideal (Rows n 1024) .f32 :=
  fun j => ∑ k : Fin 512, (a (ix2 (j 0) k) + b (ix2 (j 0) k)) * w (ix3 ⟨(j 1).val / 128, Nat.div_lt_of_lt_mul (j 1).isLt⟩ ⟨(j 1).val % 128, Nat.mod_lt _ (by omega)⟩ k)

/-- The reciprocal root mean square of row `i`. -/
def inv {n : ℕ} (h : FVec Ideal (Rows n 1024) .f32) (i : Fin n) : EReal :=
  Ideal.rsqrt (Ideal.div (∑ d : Fin 1024, h (ix2 i d) * h (ix2 i d)) (Ideal.ofBits .f32 0x44800000#32) + Ideal.ofBits .f32 0x358637BD#32)

/-- The gradient at the input: the gradient past the projections plus the backward pass of both normalisations. -/
def dh {n : ℕ} (ct dn dm h : FVec Ideal (Rows n 1024) .f32) (g gkv : FVec Ideal S1x1024 .f32) : FVec Ideal (Rows n 1024) .f32 :=
  fun j => ct (ix2 (j 0) (j 1)) + inv h (j 0) * (dn (ix2 (j 0) (j 1)) * g (ix2 0 (j 1)) + dm (ix2 (j 0) (j 1)) * gkv (ix2 0 (j 1)) - h (ix2 (j 0) (j 1)) * inv h (j 0) *
    Ideal.div (∑ d : Fin 1024, (dn (ix2 (j 0) d) * g (ix2 0 d) + dm (ix2 (j 0) d) * gkv (ix2 0 d)) * (h (ix2 (j 0) d) * inv h (j 0))) (Ideal.ofBits .f32 0x44800000#32))

/-- The gradient of a normalisation's gain. -/
def dg {n : ℕ} (dn h : FVec Ideal (Rows n 1024) .f32) : FVec Ideal S1x1024 .f32 :=
  fun j => ∑ i : Fin n, dn (ix2 i (j 1)) * (h (ix2 i (j 1)) * inv h i)

/-- The gradients at the normalised rows of point `t`. -/
abbrev dqBlk (c : Dev nD) (t : Fin cfg0.N) : FVec Ideal (Rows 1024 1024) .f32 := dhnq (n := 1024) (iblk m c 0 t) (iblk m c 1 t)

abbrev dkvBlk (c : Dev nD) (t : Fin cfg0.N) : FVec Ideal (Rows 1024 1024) .f32 := dhnkv (n := 1024) (iblk m c 2 t) (iblk m c 3 t) (iblk m c 4 t)

/-- What a point leaves in its block of the input's gradient. -/
theorem out9 (c : Dev nD) (t : Fin cfg0.N) (j) : (outsAt0 m c t.val t.isLt).1 j =
   dh (n := 1024) (iblk m c 8 t) (dqBlk m c t) (dkvBlk m c t) (iblk m c 5 t) (iblk m c 6 t) (iblk m c 7 t) j := by
  by_cases h : t.val % 4 = 0
  · have h1 : ¬ 1 ≤ t.val := by have : t.val < 4 := t.isLt; omega
    rw [outsAt0_A m c t h h1]; frame_out
    open_payloads
    pointwise [dh, dqBlk, dkvBlk, dhnq, dhnkv, inv]
  · have h1 : 1 ≤ t.val := by omega
    rw [outsAt0_B m c t h h1]; frame_out
    open_payloads
    pointwise [dh, dqBlk, dkvBlk, dhnq, dhnkv, inv]

/-- A later point adds its rows' part to the gradient of the queries' gain. -/
theorem out10B (c : Dev nD) (t : Fin cfg0.N) (h : ¬ t.val % 4 = 0) (h1 : 1 ≤ t.val) (j) : (outsAt0 m c t.val t.isLt).2.1 j =
  (outsAt0 m c (t.val-1) (Nat.lt_of_le_of_lt (Nat.sub_le _ _) t.isLt)).2.1 j + dg (n := 1024) (dqBlk m c t) (iblk m c 5 t) j := by
  rw [outsAt0_B m c t h h1]; frame_out
  open_payloads
  pointwise [dg, dqBlk, dhnq, dhnkv, inv]

/-- The first point starts it with its rows' part. -/
theorem out10A (c : Dev nD) (t : Fin cfg0.N) (h : t.val % 4 = 0) (h1 : ¬ 1 ≤ t.val) (j) : (outsAt0 m c t.val t.isLt).2.1 j =
  dg (n := 1024) (dqBlk m c t) (iblk m c 5 t) j := by
  rw [outsAt0_A m c t h h1]; frame_out
  open_payloads
  pointwise [dg, dqBlk, dhnq, dhnkv, inv]

/-- The gradient of the queries' gain after the last point: the sum over all rows. -/
theorem final10 (c : Dev nD) : (dats m 0 c).arrAt 10 (cfgs 0).N = dg (n := 4096) (dhnq (n := 4096) (V m c main_v0) (V m c main_v5)) (V m c main_arg0) := by
  refine (dats m 0 c).arrAt_eq_of_after_last 10 t0_3 (by decide +kernel) _ fun j => ?_
  blk_simp
  rw [after0_10, Pipeline.eq_sum_fin_of_reset_step_apply_last (fun n h => (outsAt0 m c n h).2.1) 4 (fun _ => 0)
    (fun t j => dg (n := 1024) (dqBlk m c t) (iblk m c 5 t) j)
    (fun t h j => by rw [out10A m c t h (by have : t.val < 4 := t.isLt; omega), zero_add])
    (fun t h j => by rw [out10B m c t h (by omega)])
    (le_of_eq N_0) t0_3 rfl j, zero_add]
  pointwise [dg, dqBlk, dhnq, dhnkv, inv]
  refine Fin.sum_mul_add_congr (fun p k hl => ?_)
  blk_point [iblk, idx p]

/-- A later point adds its rows' part to the gradient of the keys' and values' gain. -/
theorem out11B (c : Dev nD) (t : Fin cfg0.N) (h : ¬ t.val % 4 = 0) (h1 : 1 ≤ t.val) (j) : (outsAt0 m c t.val t.isLt).2.2 j =
  (outsAt0 m c (t.val-1) (Nat.lt_of_le_of_lt (Nat.sub_le _ _) t.isLt)).2.2 j + dg (n := 1024) (dkvBlk m c t) (iblk m c 5 t) j := by
  rw [outsAt0_B m c t h h1]; frame_out
  open_payloads
  pointwise [dg, dkvBlk, dhnq, dhnkv, inv]

/-- The first point starts it with its rows' part. -/
theorem out11A (c : Dev nD) (t : Fin cfg0.N) (h : t.val % 4 = 0) (h1 : ¬ 1 ≤ t.val) (j) : (outsAt0 m c t.val t.isLt).2.2 j =
  dg (n := 1024) (dkvBlk m c t) (iblk m c 5 t) j := by
  rw [outsAt0_A m c t h h1]; frame_out
  open_payloads
  pointwise [dg, dkvBlk, dhnq, dhnkv, inv]

/-- The gradient of the keys' and values' gain after the last point: the sum over all rows. -/
theorem final11 (c : Dev nD) : (dats m 0 c).arrAt 11 (cfgs 0).N = dg (n := 4096) (dhnkv (n := 4096) (V m c main_arg7) (V m c main_arg8) (V m c main_v8)) (V m c main_arg0) := by
  refine (dats m 0 c).arrAt_eq_of_after_last 11 t0_3 (by decide +kernel) _ fun j => ?_
  blk_simp
  rw [after0_11, Pipeline.eq_sum_fin_of_reset_step_apply_last (fun n h => (outsAt0 m c n h).2.2) 4 (fun _ => 0)
    (fun t j => dg (n := 1024) (dkvBlk m c t) (iblk m c 5 t) j)
    (fun t h j => by rw [out11A m c t h (by have : t.val < 4 := t.isLt; omega), zero_add])
    (fun t h j => by rw [out11B m c t h (by omega)])
    (le_of_eq N_0) t0_3 rfl j, zero_add]
  pointwise [dg, dkvBlk, dhnq, dhnkv, inv]
  refine Fin.sum_mul_add_congr (fun p k hl => ?_)
  blk_point [iblk, idx p]

/-- The array of the input's gradient after the last point. -/
theorem final9 (c : Dev nD) : (dats m 0 c).arrAt 9 (cfgs 0).N = dh (n := 4096) (V m c main_arg9) (dhnq (n := 4096) (V m c main_v0) (V m c main_v5))
    (dhnkv (n := 4096) (V m c main_arg7) (V m c main_arg8) (V m c main_v8)) (V m c main_arg0) (V m c main_v9) (V m c main_v10) := by
  refine (dats m 0 c).arrAt_eq_of_covers 9 _ (by decide +kernel) fun t hf y => ?_
  blk_simp; rw [after0_9, out9]
  pointwise [dqBlk, dkvBlk, dhnq, dhnkv, dh, inv]
  blk_point [iblk, idx t]

/-- The queries' weight's own column that stands at place `k` in the order of the attention's pairs. -/
def own (k : ℕ) : ℕ := k / 512 * 512 + k / 64 % 2 * 256 + k / 128 % 4 * 64 + k % 64

theorem own_lt {k : ℕ} (h : k < 1024) : own k < 1024 := by unfold own; omega

/-- The gradient at the rows normalised for the queries, in the arguments. -/
def dnq (w : FVec Ideal S1024x1024 .f32) (dq : FVec Ideal S4096x1024 .f32) (i : Fin 4096) (x : Fin 1024) : EReal :=
  ∑ k : Fin 1024, dq (ix2 i k) * w (ix2 x ⟨own k.val, own_lt k.isLt⟩)

/-- The keys' and values' weights side by side. -/
def both (wk wv : FVec Ideal S1024x256 .f32) : FVec Ideal S1024x512 .f32 :=
  concatenate S1024x512 1 [⟨S1024x256, wk⟩, ⟨S1024x256, wv⟩] concatenates_S1024x256_S1024x256_S1024x512_d1

theorem both_key (wk wv : FVec Ideal S1024x256 .f32) (x : Fin 1024) (k : Fin 256) : both wk wv (ix2 x ⟨k.val, by omega⟩) = wk (ix2 x k) := by
  unfold both
  pointwise

theorem both_value (wk wv : FVec Ideal S1024x256 .f32) (x : Fin 1024) (k : Fin 256) : both wk wv (ix2 x ⟨256 + k.val, by omega⟩) = wv (ix2 x k) := by
  unfold both
  pointwise

/-- The gradient at the rows normalised for the keys and values, in the arguments: the keys' part and the values' part. -/
def dnkv (wk wv : FVec Ideal S1024x256 .f32) (a b : FVec Ideal S4096x512 .f32) (i : Fin 4096) (x : Fin 1024) : EReal :=
  (∑ k : Fin 256, (a (ix2 i ⟨k.val, by omega⟩) + b (ix2 i ⟨k.val, by omega⟩)) * wk (ix2 x k))
    + ∑ k : Fin 256, (a (ix2 i ⟨256 + k.val, by omega⟩) + b (ix2 i ⟨256 + k.val, by omega⟩)) * wv (ix2 x k)

/-- The keys' part and the values' part are the sum over both. -/
theorem dnkv_eq (wk wv : FVec Ideal S1024x256 .f32) (a b : FVec Ideal S4096x512 .f32) (i : Fin 4096) (x : Fin 1024) :
    ∑ k : Fin 512, (a (ix2 i k) + b (ix2 i k)) * both wk wv (ix2 x k) = dnkv wk wv a b i x := by
  refine (Fin.sum_univ_add (a := 256) (b := 256) fun k : Fin (256 + 256) => ((a (ix2 i k) + b (ix2 i k)) * both wk wv (ix2 x k) : EReal)).trans ?_
  unfold dnkv
  congr 1
  · exact Finset.sum_congr rfl fun k _ => congrArg (fun z : EReal => ((a (ix2 i ⟨k.val, by omega⟩) + b (ix2 i ⟨k.val, by omega⟩)) * z : EReal)) (both_key wk wv x k)
  · exact Finset.sum_congr rfl fun k _ => congrArg (fun z : EReal => ((a (ix2 i ⟨256 + k.val, by omega⟩) + b (ix2 i ⟨256 + k.val, by omega⟩)) * z : EReal)) (both_value wk wv x k)

/-- The queries' gain as a row. -/
theorem gain_main_v9 (c : Dev nD) (d : Fin 1024) :
    (V m c main_v9 : FVec Ideal S1x1024 .f32) (ix2 0 d) = (m (c.tc.loc main_arg1) : FVec Ideal S1024 .f32) (ix1 d) := by
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  pointwise

/-- The keys' and values' gain as a row. -/
theorem gain_main_v10 (c : Dev nD) (d : Fin 1024) :
    (V m c main_v10 : FVec Ideal S1x1024 .f32) (ix2 0 d) = (m (c.tc.loc main_arg2) : FVec Ideal S1024 .f32) (ix1 d) := by
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  pointwise

/-- The call's gradient at the rows normalised for the queries, in the arguments. -/
theorem dhnq_eq (c : Dev nD) (i : Fin 4096) (x : Fin 1024) : dhnq (n := 4096) (V m c main_v0) (V m c main_v5) (ix2 i x)
    = dnq (m (c.tc.loc main_arg3)) (m (c.tc.loc main_arg6)) i x := by
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  pointwise [dhnq, dnq, own]

/-- The weights in blocks, in the arguments. -/
theorem both_eq (c : Dev nD) (x : Fin 1024) (k : Fin 512) :
    (V m c main_v8 : FVec Ideal S8x128x512 .bf16) (ix3 ⟨x.val / 128, Nat.div_lt_of_lt_mul x.isLt⟩ ⟨x.val % 128, Nat.mod_lt _ (by omega)⟩ k)
    = both (m (c.tc.loc main_arg4)) (m (c.tc.loc main_arg5)) (ix2 x k) := by
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  entry_read
  unfold both
  pointwise

/-- The call's gradient at the rows normalised for the keys and values, in the arguments. -/
theorem dhnkv_eq (c : Dev nD) (i : Fin 4096) (x : Fin 1024) : dhnkv (n := 4096) (V m c main_arg7) (V m c main_arg8) (V m c main_v8) (ix2 i x)
    = dnkv (m (c.tc.loc main_arg4)) (m (c.tc.loc main_arg5)) (m (c.tc.loc main_arg7)) (m (c.tc.loc main_arg8)) i x := by
  rw [V_main_arg7, V_main_arg8]
  refine Eq.trans ?_ (dnkv_eq _ _ _ _ i x)
  exact Finset.sum_congr rfl fun k _ => congrArg (_ * ·) (both_eq m c x k)

theorem dh_at (ct dn dm h : FVec Ideal (Rows 4096 1024) .f32) (g gkv : FVec Ideal S1x1024 .f32) (i : Fin 4096) (x : Fin 1024) :
    dh ct dn dm h g gkv (ix2 i x) = ct (ix2 i x) + inv h i * (dn (ix2 i x) * g (ix2 0 x) + dm (ix2 i x) * gkv (ix2 0 x) - h (ix2 i x) * inv h i *
      Ideal.div (∑ d : Fin 1024, (dn (ix2 i d) * g (ix2 0 d) + dm (ix2 i d) * gkv (ix2 0 d)) * (h (ix2 i d) * inv h i)) (Ideal.ofBits .f32 0x44800000#32)) := rfl

/-- The call's gradient at the input, in the arguments. -/
theorem dh_eq (c : Dev nD) (i : Fin 4096) (x : Fin 1024) :
    let h : FVec Ideal S4096x1024 .f32 := m (c.tc.loc main_arg0)
    let g : FVec Ideal S1024 .f32 := m (c.tc.loc main_arg1)
    let gkv : FVec Ideal S1024 .f32 := m (c.tc.loc main_arg2)
    let ct : FVec Ideal S4096x1024 .f32 := m (c.tc.loc main_arg9)
    let dn := dnq (m (c.tc.loc main_arg3)) (m (c.tc.loc main_arg6)) i
    let dm := dnkv (m (c.tc.loc main_arg4)) (m (c.tc.loc main_arg5)) (m (c.tc.loc main_arg7)) (m (c.tc.loc main_arg8)) i
    dh (n := 4096) (V m c main_arg9) (dhnq (n := 4096) (V m c main_v0) (V m c main_v5))
      (dhnkv (n := 4096) (V m c main_arg7) (V m c main_arg8) (V m c main_v8)) (V m c main_arg0) (V m c main_v9) (V m c main_v10) (ix2 i x)
    = ct (ix2 i x) + inv (n := 4096) h i * (dn x * g (ix1 x) + dm x * gkv (ix1 x) - h (ix2 i x) * inv (n := 4096) h i *
        Ideal.div (∑ d : Fin 1024, (dn d * g (ix1 d) + dm d * gkv (ix1 d)) * (h (ix2 i d) * inv (n := 4096) h i)) (Ideal.ofBits .f32 0x44800000#32)) := by
  intro h g gkv ct dn dm
  have a : ∀ d : Fin 1024, _ := fun d => dhnq_eq m c i d
  have b : ∀ d : Fin 1024, _ := fun d => gain_main_v9 m c d
  have a' : ∀ d : Fin 1024, _ := fun d => dhnkv_eq m c i d
  have b' : ∀ d : Fin 1024, _ := fun d => gain_main_v10 m c d
  rw [dh_at]
  simp only [a, b, a', b']
  rw [V_main_arg9, V_main_arg0]

/-- The backward pass of two normalisations of one row with gradients `e` and `f`: together, against one after the other, each taken
    operation by operation. -/
theorem rms_rows {n : ℕ} (x e f : Fin n → EReal) (hx : ∀ d, IsReal (x d)) (he : ∀ d, IsReal (e d)) (hf : ∀ d, IsReal (f d)) (N ε : ℝ) (hN : 0 < N) (hε : 0 < ε) (j : Fin n) :
    let v := Ideal.div (∑ d, x d * x d) (N : EReal) + (ε : EReal)
    let s := Ideal.rsqrt v
    let q := fun u : Fin n → EReal => Ideal.div ((∑ d, x d * u d) * (((-1/2 : ℝ) : EReal) * Ideal.div s v)) (N : EReal)
    s * (e j + f j - x j * s * Ideal.div (∑ d, (e d + f d) * (x d * s)) (N : EReal))
    = f j * s + x j * q f + q f * x j + e j * s + x j * q e + q e * x j := by
  intro v s q
  have r := rms_row x (fun d => e d + f d) hx (fun d => (he d).add (hf d)) N ε hN hε j
  refine r.trans ?_
  choose X hX using hx
  choose E hE using he
  choose F hF using hf
  have hpos := ms_pos X N ε hN hε
  have hv : v = (((∑ d, X d * X d) * (1 / N) + ε : ℝ) : EReal) := by simp only [v, hX]; exact ms_coe X N ε hN
  have hs : s = (((√((∑ d, X d * X d) * (1 / N) + ε))⁻¹ : ℝ) : EReal) := by simp only [s, hv]; exact rsqrt_coe hpos
  show (e j + f j) * s + x j * q (fun d => e d + f d) + q (fun d => e d + f d) * x j = _
  set W : ℝ := (∑ d, X d * X d) * (1 / N) + ε
  have hq : ∀ U : Fin n → ℝ, q (fun d => (U d : EReal)) = (((∑ d, X d * U d) * ((-1/2) * ((√W)⁻¹ * (1 / W))) * (1 / N) : ℝ) : EReal) := fun U => by
    simp only [q, hv, hs, hX, ← EReal.coe_mul, coe_sum, Ideal.div_coe hN.ne', Ideal.div_coe hpos.ne']
  have qe : q e = _ := (congrArg q (funext hE)).trans (hq E)
  have qf : q f = _ := (congrArg q (funext hF)).trans (hq F)
  have qs : q (fun d => e d + f d) = _ := (congrArg q (funext fun d => by rw [hE, hF, ← EReal.coe_add])).trans (hq fun d => E d + F d)
  rw [qe, qf, qs, hs]
  simp only [hX, hE, hF, ← EReal.coe_mul, ← EReal.coe_add]
  congr 1
  have hT : ∑ d, X d * (E d + F d) = (∑ d, X d * E d) + ∑ d, X d * F d := by
    rw [← Finset.sum_add_distrib]; exact Finset.sum_congr rfl fun d _ => by ring
  rw [hT]; ring

/-- The derivative at the input taken operation by operation. -/
theorem dh_row (h ct : FVec Ideal S4096x1024 .f32) (g gkv : FVec Ideal S1024 .f32) (dn dm : Fin 1024 → EReal)
    (hh : ∀ i, IsReal (h i)) (hg : ∀ i, IsReal (g i)) (hk : ∀ i, IsReal (gkv i)) (hn : ∀ d, IsReal (dn d)) (hm : ∀ d, IsReal (dm d)) (i : Fin 4096) (x : Fin 1024) :
    let v : EReal := Ideal.div (∑ d : Fin 1024, h (ix2 i d) * h (ix2 i d)) (Ideal.ofBits .f32 0x44800000#32) + Ideal.ofBits .f32 0x358637BD#32
    let q : EReal := Ideal.div ((∑ d : Fin 1024, h (ix2 i d) * (dn d * g (ix1 d))) * (Ideal.ofBits .f32 0xBF000000#32 * Ideal.div (Ideal.rsqrt v) v)) (Ideal.ofBits .f32 0x44800000#32)
    let p : EReal := Ideal.div ((∑ d : Fin 1024, h (ix2 i d) * (dm d * gkv (ix1 d))) * (Ideal.ofBits .f32 0xBF000000#32 * Ideal.div (Ideal.rsqrt v) v)) (Ideal.ofBits .f32 0x44800000#32)
    (ct (ix2 i x) + dm x * gkv (ix1 x) * Ideal.rsqrt v + h (ix2 i x) * p + p * h (ix2 i x) + dn x * g (ix1 x) * Ideal.rsqrt v + h (ix2 i x) * q + q * h (ix2 i x) : EReal)
    = ct (ix2 i x) + inv (n := 4096) h i * (dn x * g (ix1 x) + dm x * gkv (ix1 x) - h (ix2 i x) * inv (n := 4096) h i *
        Ideal.div (∑ d : Fin 1024, (dn d * g (ix1 d) + dm d * gkv (ix1 d)) * (h (ix2 i d) * inv (n := 4096) h i)) (Ideal.ofBits .f32 0x44800000#32)) := by
  intro v q p
  have r := rms_rows (fun d : Fin 1024 => h (ix2 i d)) (fun d => dn d * g (ix1 d)) (fun d => dm d * gkv (ix1 d)) (fun d => hh _)
    (fun d => .mul (hn d) (hg _)) (fun d => .mul (hm d) (hk _)) 1024 _ (by norm_num) (by norm_num : (0 : ℝ) < 8796093 / 8796093022208) x
  rw [← ofBits_1024, ← ofBits_eps, ← ofBits_neg_half] at r
  refine Eq.trans ?_ (congrArg (ct (ix2 i x) + ·) r.symm)
  simp only [add_assoc]; rfl

/-- What the precondition says of the arguments: every element is finite. -/
theorem finite_args (hpre : Cert.Pre_Kernel19Ideal_finite19 m) (c : Dev nD) :
    (∀ i, IsReal ((m (c.tc.loc main_arg0) : FVec Ideal S4096x1024 .f32) i))
    ∧ (∀ i, IsReal ((m (c.tc.loc main_arg1) : FVec Ideal S1024 .f32) i))
    ∧ (∀ i, IsReal ((m (c.tc.loc main_arg2) : FVec Ideal S1024 .f32) i))
    ∧ (∀ i, IsReal ((m (c.tc.loc main_arg3) : FVec Ideal S1024x1024 .f32) i))
    ∧ (∀ i, IsReal ((m (c.tc.loc main_arg4) : FVec Ideal S1024x256 .f32) i))
    ∧ (∀ i, IsReal ((m (c.tc.loc main_arg5) : FVec Ideal S1024x256 .f32) i))
    ∧ (∀ i, IsReal ((m (c.tc.loc main_arg6) : FVec Ideal S4096x1024 .f32) i))
    ∧ (∀ i, IsReal ((m (c.tc.loc main_arg7) : FVec Ideal S4096x512 .f32) i))
    ∧ (∀ i, IsReal ((m (c.tc.loc main_arg8) : FVec Ideal S4096x512 .f32) i))
    ∧ (∀ i, IsReal ((m (c.tc.loc main_arg9) : FVec Ideal S4096x1024 .f32) i)) := by
  have e := congrFun (hpre c) ValueIdx.ix0
  simp only [Cert.Pre_finite19.fn, Cert.Pre_finite19.fn_part1, andi] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => fin_of_abs_lt (Host.reduce_andi_all _ _ _ _ _ e0 i),
    fun i => fin_of_abs_lt (Host.reduce_andi_all _ _ _ _ _ e1 i),
    fun i => fin_of_abs_lt (Host.reduce_andi_all _ _ _ _ _ e2 i),
    fun i => fin_of_abs_lt (Host.reduce_andi_all _ _ _ _ _ e3 i),
    fun i => fin_of_abs_lt (Host.reduce_andi_all _ _ _ _ _ e4 i),
    fun i => fin_of_abs_lt (Host.reduce_andi_all _ _ _ _ _ e5 i),
    fun i => fin_of_abs_lt (Host.reduce_andi_all _ _ _ _ _ e6 i),
    fun i => fin_of_abs_lt (Host.reduce_andi_all _ _ _ _ _ e7 i),
    fun i => fin_of_abs_lt (Host.reduce_andi_all _ _ _ _ _ e8 i),
    fun i => fin_of_abs_lt (Host.reduce_andi_all _ _ _ _ _ e9 i)⟩

end Cert.Kernel19Ideal.Value

set_option maxHeartbeats 4000000 in
/-- The call's three results are the two normalised projections' derivatives at their input, with the gradient past them added, and at
    their gains. -/
theorem Cert.Proof.alg19 : Cert.algebraic_Kernel19Ideal_Reference19Ideal_pre_finite19 := by
  pair_intro
  · run_from Cert.Kernel19Ideal.Value.run_blocks m g
  · run_from Cert.Reference19Ideal.Value.run m' g'
    · obtain ⟨a0, a1, a2, a3, a4, a5, a6, a7, a8, a9⟩ := hagree c
      unfold Cert.Reference19Ideal.Value.res_main_v82
      rw [Cert.Kernel19Ideal.Value.final9]
      funext j
      obtain ⟨i, x, rfl⟩ : ∃ i x, j = ix2 i x := ⟨_, _, eq_ix2 j⟩
      rw [Cert.Kernel19Ideal.Value.dh_eq m c i x]
      pointwise
      simp only [a0, a1, a2, a3, a4, a5, a6, a7, a8, a9, Finset.univ_unique, Finset.sum_singleton]
      obtain ⟨f0, f1, f2, f3, f4, f5, f6, f7, f8, f9⟩ := Cert.Kernel19Ideal.Value.finite_args m hpre c
      exact Cert.Kernel19Ideal.Value.dh_row _ _ _ _ (Cert.Kernel19Ideal.Value.dnq _ _ i) (Cert.Kernel19Ideal.Value.dnkv _ _ _ _ i) f0 f1 f2
        (fun d => .sum fun k => .mul (f6 _) (f3 _)) (fun d => .add (.sum fun k => .mul (.add (f7 _) (f8 _)) (f4 _)) (.sum fun k => .mul (.add (f7 _) (f8 _)) (f5 _))) i x
    · rw [Cert.Kernel19Ideal.Value.final10]
      funext j
      obtain ⟨z, x, rfl⟩ : ∃ z x, j = ix2 z x := ⟨_, _, eq_ix2 j⟩
      pointwise
      simp only [Finset.univ_unique, Finset.sum_singleton]
      refine Finset.sum_congr rfl fun i _ => ?_
      refine (mul_comm _ _).trans (congrArg (· * _) ?_)
      exact (Cert.Kernel19Ideal.Value.dhnq_eq m c i x).symm
    · obtain ⟨a0, a1, a2, a3, a4, a5, a6, a7, a8, a9⟩ := hagree c
      rw [Cert.Kernel19Ideal.Value.final11]
      funext j
      obtain ⟨z, x, rfl⟩ : ∃ z x, j = ix2 z x := ⟨_, _, eq_ix2 j⟩
      pointwise
      simp only [Finset.univ_unique, Finset.sum_singleton, a4, a5, a7, a8]
      refine Finset.sum_congr rfl fun i _ => ?_
      refine (mul_comm _ _).trans (congrArg (· * _) ?_)
      exact (Cert.Kernel19Ideal.Value.dhnkv_eq m c i x).symm

end
-- ==== Proof.lean ====
/- The assembly of `Cert.Claim`: the frames of the kernels and of their references, what the named constants stand for, and the
   values of the calls. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Pre_finite18
public import proofs.«01_k».proof.Proof.Gen.Pre_finite19
public import proofs.«01_k».proof.Proof.Gen.Pre_finite2
public import proofs.«01_k».proof.Proof.Gen.Pre_finite5
public import proofs.«01_k».proof.Proof.Gen.Pre_finite
public import proofs.«01_k».proof.Proof.Gate
public import proofs.«01_k».proof.Proof.FfnData
public import proofs.«01_k».proof.Proof.FfnWeights
public import proofs.«01_k».proof.Proof.FfnForward
public import proofs.«01_k».proof.Proof.ProjectData
public import proofs.«01_k».proof.Proof.ProjectWeights
public import proofs.«01_k».proof.Proof.ProjectForward
public import proofs.«01_k».proof.Proof.OutForward
public import proofs.«01_k».proof.Proof.OutData
public import proofs.«01_k».proof.Proof.OutWeights
public import proofs.«01_k».proof.Proof.GateForward
public import proofs.«01_k».proof.Proof.QueryForward
public import proofs.«01_k».proof.Proof.AttendedForward
public import proofs.«01_k».proof.Proof.KeyValueForward
public import proofs.«01_k».proof.Proof.AttendedBackward
public import proofs.«01_k».proof.Proof.QueryWeights
public import proofs.«01_k».proof.Proof.KeyValueWeights
public import proofs.«01_k».proof.Proof.QueryData
public import proofs.«01_k».proof.Proof.KeyValueData
public import Idealize.ShloMosaic.Lib.Quiescent
public import Idealize.ShloMosaic.Adequacy
public import Idealize.ShloMosaic.Init

@[expose] public section

noncomputable section

namespace Cert.Proof

open Idealize.ShloMosaic Idealize.SL.Sem

/-- The gate's derivative by plain operations runs, and leaves its arguments as they were. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The channel MLP's derivative at its input and its gain by plain operations runs, and leaves its arguments as they were. -/
theorem frame_reference2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The channel MLP's derivative in its weights by plain operations runs, and leaves its arguments as they were. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The channel MLP by plain operations runs, and leaves its arguments as they were. -/
theorem frame_reference4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The input projection's derivative at its input and its gain by plain operations runs, and leaves its arguments as they were. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The input projection's derivative in its weight by plain operations runs, and leaves its arguments as they were. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The input projection by plain operations runs, and leaves its arguments as they were. -/
theorem frame_reference7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The output projection by plain operations runs, and leaves its arguments as they were. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The output projection's derivative at its input by plain operations runs, and leaves its arguments as they were. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The output projection's derivative in its weight by plain operations runs, and leaves its arguments as they were. -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The gate by plain operations runs, and leaves its arguments as they were. -/
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The queries' projection by plain operations runs, and leaves its arguments as they were. -/
theorem frame_reference12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

/-- The attention's output projection by plain operations runs, and leaves its arguments as they were. -/
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The keys', values' and queries' projections by plain operations runs, and leaves its arguments as they were. -/
theorem frame_reference14 : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

/-- The derivative of the attention's output projection by plain operations runs, and leaves its arguments as they were. -/
theorem frame_reference15 : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

/-- The queries' projection's derivative in its weight by plain operations runs, and leaves its arguments as they were. -/
theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The keys' and values' projection's derivative in its weight by plain operations runs, and leaves its arguments as they were. -/
theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The queries' projection's derivative at its input and its gain by plain operations runs, and leaves its arguments as they were. -/
theorem frame_reference18 : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run (F := Ideal) m ρ)

/-- The projections' derivative at their input and their gains by plain operations runs, and leaves its arguments as they were. -/
theorem frame_reference19 : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

/-- The two constants of the gate's kernel that are rounded stand for the irrational numbers they are named after. -/
theorem constants : Cert.preserves_Kernel_KernelIdeal :=
  ⟨IdealRules.named_const.statement Cert.KernelIdeal.κ "inv_sqrt2" .f32 0x3F3504F3#32 (((Real.sqrt 2)⁻¹ : ℝ) : EReal) rfl,
    IdealRules.named_const.statement Cert.KernelIdeal.κ "erf_slope" .f32 0x3ECC422A#32
      (((9465531 / 16777216) * (Real.sqrt 2)⁻¹ : ℝ) : EReal) rfl⟩

/-- So does the constant of the input projection's kernel. -/
theorem constants7 : Cert.preserves_Kernel7_Kernel7Ideal :=
  IdealRules.named_const.statement Cert.Kernel7Ideal.κ "inv_sqrt2" .f32 0x3F3504F3#32 (((Real.sqrt 2)⁻¹ : ℝ) : EReal) rfl

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Pre_finite.Gen.facts,
    Cert.Pre_finite2.Gen.facts,
    Cert.Pre_finite5.Gen.facts,
    Cert.Pre_finite18.Gen.facts,
    Cert.Pre_finite19.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    fun m ρ _ => Cert.Kernel2Ideal.Gen.frame m ρ,
    frame_reference2,
    fun m ρ _ => frame_reference2 m ρ trivial,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    fun m ρ _ => Cert.Kernel5Ideal.Gen.frame m ρ,
    frame_reference5,
    fun m ρ _ => frame_reference5 m ρ trivial,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    frame_reference12,
    fun m ρ _ => Cert.Kernel13.Gen.frame m ρ,
    fun m ρ _ => Cert.Kernel13Ideal.Gen.frame m ρ,
    frame_reference13,
    fun m ρ _ => Cert.Kernel14.Gen.frame m ρ,
    fun m ρ _ => Cert.Kernel14Ideal.Gen.frame m ρ,
    frame_reference14,
    fun m ρ _ => Cert.Kernel15.Gen.frame m ρ,
    fun m ρ _ => Cert.Kernel15Ideal.Gen.frame m ρ,
    frame_reference15,
    fun m ρ _ => Cert.Kernel16.Gen.frame m ρ,
    fun m ρ _ => Cert.Kernel16Ideal.Gen.frame m ρ,
    frame_reference16,
    fun m ρ _ => Cert.Kernel17.Gen.frame m ρ,
    fun m ρ _ => Cert.Kernel17Ideal.Gen.frame m ρ,
    frame_reference17,
    fun m ρ _ => Cert.Kernel18.Gen.frame m ρ,
    fun m ρ _ => Cert.Kernel18Ideal.Gen.frame m ρ,
    fun m ρ _ => Cert.Kernel18Ideal.Gen.frame m ρ,
    frame_reference18,
    fun m ρ _ => frame_reference18 m ρ trivial,
    fun m ρ _ => Cert.Kernel19.Gen.frame m ρ,
    fun m ρ _ => Cert.Kernel19Ideal.Gen.frame m ρ,
    fun m ρ _ => Cert.Kernel19Ideal.Gen.frame m ρ,
    frame_reference19,
    fun m ρ _ => frame_reference19 m ρ trivial,
    constants,
    alg1,
    trivial,
    alg2,
    trivial,
    alg3,
    trivial,
    alg4,
    trivial,
    alg5,
    trivial,
    alg6,
    constants7,
    alg7,
    trivial,
    alg8,
    trivial,
    alg9,
    trivial,
    alg10,
    trivial,
    alg11,
    trivial,
    alg12,
    trivial,
    alg13,
    trivial,
    alg14,
    trivial,
    alg15,
    trivial,
    alg16,
    trivial,
    alg17,
    trivial,
    alg18,
    trivial,
    alg19⟩

end Cert.Proof

end
